-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_operands [hPre_finite_operands : Cert.Pre_finite_operands.Facts] (m : (ℓ : Loc Cert.AttnIdeal.nD Cert.AttnIdeal.τ Cert.AttnIdeal.sig) → Buf (Elt Ideal) ℓ) : Prop :=
  ∀ c : Dev Cert.AttnIdeal.nD,
    (Cert.Pre_finite_operands.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))).1 = (fun _ => 1#1)
    ∧ (Cert.Pre_finite_operands.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_operands [hPre_finite_operands : Cert.Pre_finite_operands.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_operands.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))).1 = (fun _ => 1#1)
    ∧ (Cert.Pre_finite_operands.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))).2 = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_SsmIn (m : (ℓ : Loc Cert.SsmIn.nD Cert.SsmIn.τ Cert.SsmIn.sig) → Buf (Elt Bits) ℓ) : Prop :=
  True

def Pre_SsmInIdeal (m : (ℓ : Loc Cert.SsmInIdeal.nD Cert.SsmInIdeal.τ Cert.SsmInIdeal.sig) → Buf (Elt Ideal) ℓ) : Prop :=
  True

def Pre_SsmInRefIdeal (m : (ℓ : Loc Cert.SsmInRefIdeal.nD Cert.SsmInRefIdeal.τ Cert.SsmInRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_finite_pool [hPre_finite_pool : Cert.Pre_finite_pool.Facts] (m : (ℓ : Loc Cert.PoolIdeal.nD Cert.PoolIdeal.τ Cert.PoolIdeal.sig) → Buf (Elt Ideal) ℓ) : Prop :=
  ∀ c : Dev Cert.PoolIdeal.nD,
    (Cert.Pre_finite_pool.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).1 = (fun _ => 1#1)
    ∧ (Cert.Pre_finite_pool.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).2 = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_finite_pool [hPre_finite_pool : Cert.Pre_finite_pool.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_finite_pool.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).1 = (fun _ => 1#1)
    ∧ (Cert.Pre_finite_pool.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).2 = (fun _ => 1#1)

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsRefIdeal (m : (ℓ : Loc Cert.ExpertsRefIdeal.nD Cert.ExpertsRefIdeal.τ Cert.ExpertsRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnIdeal_pre_finite_operands [hAttnIdeal : Cert.AttnIdeal.Facts] [hPre_finite_operands : Cert.Pre_finite_operands.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_operands m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_AttnRefIdeal_pre_finite_operands [hAttnRefIdeal : Cert.AttnRefIdeal.Facts] [hPre_finite_operands : Cert.Pre_finite_operands.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_operands m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1))
      ∧ r.2.sem = fun _ => 0)

def quiescent_SsmIn [hSsmIn : Cert.SsmIn.Facts] : Prop :=
  ∀ (m : (ℓ : Loc Cert.SsmIn.nD Cert.SsmIn.τ Cert.SsmIn.sig) → Buf (Elt Bits) ℓ) (g : Dev Cert.SsmIn.nD → PrngReg), Pre_SsmIn m →
    θ_run (Cert.SsmIn.defs (F := Bits)) (onTc (τ := Cert.SsmIn.τ) (Cert.SsmIn.main (F := Bits))) ⟨m, fun _ => 0, g⟩ (fun r => (∀ c : Dev Cert.SsmIn.nD,
      r.2.mem ((c.tc : Thread Cert.SsmIn.nD Cert.SsmIn.τ).loc Cert.SsmIn.main_arg0) = m ((c.tc : Thread Cert.SsmIn.nD Cert.SsmIn.τ).loc Cert.SsmIn.main_arg0)
      ∧ r.2.mem ((c.tc : Thread Cert.SsmIn.nD Cert.SsmIn.τ).loc Cert.SsmIn.main_arg1) = m ((c.tc : Thread Cert.SsmIn.nD Cert.SsmIn.τ).loc Cert.SsmIn.main_arg1))
      ∧ r.2.sem = fun _ => 0)

def quiescent_SsmInIdeal [hSsmInIdeal : Cert.SsmInIdeal.Facts] : Prop :=
  ∀ (m : (ℓ : Loc Cert.SsmInIdeal.nD Cert.SsmInIdeal.τ Cert.SsmInIdeal.sig) → Buf (Elt Ideal) ℓ) (g : Dev Cert.SsmInIdeal.nD → PrngReg), Pre_SsmInIdeal m →
    θ_run (Cert.SsmInIdeal.defs (F := Ideal)) (onTc (τ := Cert.SsmInIdeal.τ) (Cert.SsmInIdeal.main (F := Ideal))) ⟨m, fun _ => 0, g⟩ (fun r => (∀ c : Dev Cert.SsmInIdeal.nD,
      r.2.mem ((c.tc : Thread Cert.SsmInIdeal.nD Cert.SsmInIdeal.τ).loc Cert.SsmInIdeal.main_arg0) = m ((c.tc : Thread Cert.SsmInIdeal.nD Cert.SsmInIdeal.τ).loc Cert.SsmInIdeal.main_arg0)
      ∧ r.2.mem ((c.tc : Thread Cert.SsmInIdeal.nD Cert.SsmInIdeal.τ).loc Cert.SsmInIdeal.main_arg1) = m ((c.tc : Thread Cert.SsmInIdeal.nD Cert.SsmInIdeal.τ).loc Cert.SsmInIdeal.main_arg1))
      ∧ r.2.sem = fun _ => 0)

def quiescent_SsmInRefIdeal [hSsmInRefIdeal : Cert.SsmInRefIdeal.Facts] : Prop :=
  ∀ (m : (ℓ : Loc Cert.SsmInRefIdeal.nD Cert.SsmInRefIdeal.τ Cert.SsmInRefIdeal.sig) → Buf (Elt Ideal) ℓ) (g : Dev Cert.SsmInRefIdeal.nD → PrngReg), Pre_SsmInRefIdeal m →
    θ_run (Cert.SsmInRefIdeal.defs (F := Ideal)) (onTc (τ := Cert.SsmInRefIdeal.τ) (Cert.SsmInRefIdeal.main (F := Ideal))) ⟨m, fun _ => 0, g⟩ (fun r => (∀ c : Dev Cert.SsmInRefIdeal.nD,
      r.2.mem ((c.tc : Thread Cert.SsmInRefIdeal.nD Cert.SsmInRefIdeal.τ).loc Cert.SsmInRefIdeal.main_arg0) = m ((c.tc : Thread Cert.SsmInRefIdeal.nD Cert.SsmInRefIdeal.τ).loc Cert.SsmInRefIdeal.main_arg0)
      ∧ r.2.mem ((c.tc : Thread Cert.SsmInRefIdeal.nD Cert.SsmInRefIdeal.τ).loc Cert.SsmInRefIdeal.main_arg1) = m ((c.tc : Thread Cert.SsmInRefIdeal.nD Cert.SsmInRefIdeal.τ).loc Cert.SsmInRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolIdeal_pre_finite_pool [hPoolIdeal : Cert.PoolIdeal.Facts] [hPre_finite_pool : Cert.Pre_finite_pool.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_finite_pool m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_PoolRefIdeal_pre_finite_pool [hPoolRefIdeal : Cert.PoolRefIdeal.Facts] [hPre_finite_pool : Cert.Pre_finite_pool.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_finite_pool m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7)
      ∧ r.2.mem ((c.tc : Thread Cert.Experts.nD Cert.Experts.τ).loc Cert.Experts.main_arg8) = m ((c.tc : Thread Cert.Experts.nD Cert.Experts.τ).loc Cert.Experts.main_arg8))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7)
      ∧ r.2.mem ((c.tc : Thread Cert.ExpertsRefIdeal.nD Cert.ExpertsRefIdeal.τ).loc Cert.ExpertsRefIdeal.main_arg8) = m ((c.tc : Thread Cert.ExpertsRefIdeal.nD Cert.ExpertsRefIdeal.τ).loc Cert.ExpertsRefIdeal.main_arg8))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_finite_operands [hAttnIdeal : Cert.AttnIdeal.Facts] [hAttnRefIdeal : Cert.AttnRefIdeal.Facts] [hPre_finite_operands : Cert.Pre_finite_operands.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_operands m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)) →
    ∃ (v0 : (c : Dev Cert.AttnIdeal.nD) → Buf (Elt Ideal) ((c.tc : Thread Cert.AttnIdeal.nD Cert.AttnIdeal.τ).loc Cert.AttnIdeal.main_v38)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v38) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v83) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v1)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v1) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v2) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v2)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v2) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v4) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1))

def preserves_SsmIn_SsmInIdeal : Prop :=
  True

def algebraic_SsmInIdeal_SsmInRefIdeal [hSsmInIdeal : Cert.SsmInIdeal.Facts] [hSsmInRefIdeal : Cert.SsmInRefIdeal.Facts] : Prop :=
  ∀ (m : (ℓ : Loc Cert.SsmInIdeal.nD Cert.SsmInIdeal.τ Cert.SsmInIdeal.sig) → Buf (Elt Ideal) ℓ) (g : Dev Cert.SsmInIdeal.nD → PrngReg)
    (m' : (ℓ : Loc Cert.SsmInRefIdeal.nD Cert.SsmInRefIdeal.τ Cert.SsmInRefIdeal.sig) → Buf (Elt Ideal) ℓ) (g' : Dev Cert.SsmInRefIdeal.nD → PrngReg), Pre_SsmInIdeal m →
    (∀ c : Dev Cert.SsmInIdeal.nD,
      m' ((c.tc : Thread Cert.SsmInRefIdeal.nD Cert.SsmInRefIdeal.τ).loc Cert.SsmInRefIdeal.main_arg0) = m ((c.tc : Thread Cert.SsmInIdeal.nD Cert.SsmInIdeal.τ).loc Cert.SsmInIdeal.main_arg0)
      ∧ m' ((c.tc : Thread Cert.SsmInRefIdeal.nD Cert.SsmInRefIdeal.τ).loc Cert.SsmInRefIdeal.main_arg1) = m ((c.tc : Thread Cert.SsmInIdeal.nD Cert.SsmInIdeal.τ).loc Cert.SsmInIdeal.main_arg1)) →
    ∃ (v0 : (c : Dev Cert.SsmInIdeal.nD) → Buf (Elt Ideal) ((c.tc : Thread Cert.SsmInIdeal.nD Cert.SsmInIdeal.τ).loc Cert.SsmInIdeal.main_v1)),
      θ_run (Cert.SsmInIdeal.defs (F := Ideal)) (onTc (τ := Cert.SsmInIdeal.τ) (Cert.SsmInIdeal.main (F := Ideal))) ⟨m, fun _ => 0, g⟩ (fun r => ∀ c : Dev Cert.SsmInIdeal.nD,
          r.2.mem ((c.tc : Thread Cert.SsmInIdeal.nD Cert.SsmInIdeal.τ).loc Cert.SsmInIdeal.main_v1) = v0 c
          ∧ r.2.mem ((c.tc : Thread Cert.SsmInIdeal.nD Cert.SsmInIdeal.τ).loc Cert.SsmInIdeal.main_arg0) = m ((c.tc : Thread Cert.SsmInIdeal.nD Cert.SsmInIdeal.τ).loc Cert.SsmInIdeal.main_arg0)
          ∧ r.2.mem ((c.tc : Thread Cert.SsmInIdeal.nD Cert.SsmInIdeal.τ).loc Cert.SsmInIdeal.main_arg1) = m ((c.tc : Thread Cert.SsmInIdeal.nD Cert.SsmInIdeal.τ).loc Cert.SsmInIdeal.main_arg1))
      ∧ θ_run (Cert.SsmInRefIdeal.defs (F := Ideal)) (onTc (τ := Cert.SsmInRefIdeal.τ) (Cert.SsmInRefIdeal.main (F := Ideal))) ⟨m', fun _ => 0, g'⟩ (fun r => ∀ c : Dev Cert.SsmInRefIdeal.nD,
          r.2.mem ((c.tc : Thread Cert.SsmInRefIdeal.nD Cert.SsmInRefIdeal.τ).loc Cert.SsmInRefIdeal.main_v2) = v0 c
          ∧ r.2.mem ((c.tc : Thread Cert.SsmInRefIdeal.nD Cert.SsmInRefIdeal.τ).loc Cert.SsmInRefIdeal.main_arg0) = m' ((c.tc : Thread Cert.SsmInRefIdeal.nD Cert.SsmInRefIdeal.τ).loc Cert.SsmInRefIdeal.main_arg0)
          ∧ r.2.mem ((c.tc : Thread Cert.SsmInRefIdeal.nD Cert.SsmInRefIdeal.τ).loc Cert.SsmInRefIdeal.main_arg1) = m' ((c.tc : Thread Cert.SsmInRefIdeal.nD Cert.SsmInRefIdeal.τ).loc Cert.SsmInRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v3_0)) (v1 : (c : Dev Cert.OutIdeal.nD) → Buf (Elt Ideal) ((c.tc : Thread Cert.OutIdeal.nD Cert.OutIdeal.τ).loc Cert.OutIdeal.main_v3_1)) (v2 : (c : Dev Cert.OutIdeal.nD) → Buf (Elt Ideal) ((c.tc : Thread Cert.OutIdeal.nD Cert.OutIdeal.τ).loc Cert.OutIdeal.main_v3_2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3_0) = v0 c
          ∧ r.2.mem ((c.tc : Thread Cert.OutIdeal.nD Cert.OutIdeal.τ).loc Cert.OutIdeal.main_v3_1) = v1 c
          ∧ r.2.mem ((c.tc : Thread Cert.OutIdeal.nD Cert.OutIdeal.τ).loc Cert.OutIdeal.main_v3_2) = v2 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v28) = v0 c
          ∧ r.2.mem ((c.tc : Thread Cert.OutRefIdeal.nD Cert.OutRefIdeal.τ).loc Cert.OutRefIdeal.main_v29) = v1 c
          ∧ r.2.mem ((c.tc : Thread Cert.OutRefIdeal.nD Cert.OutRefIdeal.τ).loc Cert.OutRefIdeal.main_v31) = v2 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)
      ∧ m' ((c.tc : Thread Cert.GateRefIdeal.nD Cert.GateRefIdeal.τ).loc Cert.GateRefIdeal.main_arg5) = m ((c.tc : Thread Cert.GateIdeal.nD Cert.GateIdeal.τ).loc Cert.GateIdeal.main_arg5)) →
    ∃ (v0 : (c : Dev Cert.GateIdeal.nD) → Buf (Elt Ideal) ((c.tc : Thread Cert.GateIdeal.nD Cert.GateIdeal.τ).loc Cert.GateIdeal.main_v5_0)) (v1 : (c : Dev Cert.GateIdeal.nD) → Buf (Elt Ideal) ((c.tc : Thread Cert.GateIdeal.nD Cert.GateIdeal.τ).loc Cert.GateIdeal.main_v5_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v5_0) = v0 c
          ∧ r.2.mem ((c.tc : Thread Cert.GateIdeal.nD Cert.GateIdeal.τ).loc Cert.GateIdeal.main_v5_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v14) = v0 c
          ∧ r.2.mem ((c.tc : Thread Cert.GateRefIdeal.nD Cert.GateRefIdeal.τ).loc Cert.GateRefIdeal.main_v15) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4)
          ∧ r.2.mem ((c.tc : Thread Cert.GateRefIdeal.nD Cert.GateRefIdeal.τ).loc Cert.GateRefIdeal.main_arg5) = m' ((c.tc : Thread Cert.GateRefIdeal.nD Cert.GateRefIdeal.τ).loc Cert.GateRefIdeal.main_arg5))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)) →
    ∃ (v0 : (c : Dev Cert.GluIdeal.nD) → Buf (Elt Ideal) ((c.tc : Thread Cert.GluIdeal.nD Cert.GluIdeal.τ).loc Cert.GluIdeal.main_v1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v1) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v9) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1))

def preserves_Pool_PoolIdeal : Prop :=
  True

def algebraic_PoolIdeal_PoolRefIdeal_pre_finite_pool [hPoolIdeal : Cert.PoolIdeal.Facts] [hPoolRefIdeal : Cert.PoolRefIdeal.Facts] [hPre_finite_pool : Cert.Pre_finite_pool.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_finite_pool m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)) →
    ∃ (v0 : (c : Dev Cert.PoolIdeal.nD) → Buf (Elt Ideal) ((c.tc : Thread Cert.PoolIdeal.nD Cert.PoolIdeal.τ).loc Cert.PoolIdeal.main_v3)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v3) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v65) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3))

def preserves_Experts_ExpertsIdeal : Prop :=
  True

def algebraic_ExpertsIdeal_ExpertsRefIdeal [hExpertsIdeal : Cert.ExpertsIdeal.Facts] [hExpertsRefIdeal : Cert.ExpertsRefIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)
      ∧ m' ((c.tc : Thread Cert.ExpertsRefIdeal.nD Cert.ExpertsRefIdeal.τ).loc Cert.ExpertsRefIdeal.main_arg7) = m ((c.tc : Thread Cert.ExpertsIdeal.nD Cert.ExpertsIdeal.τ).loc Cert.ExpertsIdeal.main_arg7)
      ∧ m' ((c.tc : Thread Cert.ExpertsRefIdeal.nD Cert.ExpertsRefIdeal.τ).loc Cert.ExpertsRefIdeal.main_arg8) = m ((c.tc : Thread Cert.ExpertsIdeal.nD Cert.ExpertsIdeal.τ).loc Cert.ExpertsIdeal.main_arg8)) →
    ∃ (v0 : (c : Dev Cert.ExpertsIdeal.nD) → Buf (Elt Ideal) ((c.tc : Thread Cert.ExpertsIdeal.nD Cert.ExpertsIdeal.τ).loc Cert.ExpertsIdeal.main_v7_0)) (v1 : (c : Dev Cert.ExpertsIdeal.nD) → Buf (Elt Ideal) ((c.tc : Thread Cert.ExpertsIdeal.nD Cert.ExpertsIdeal.τ).loc Cert.ExpertsIdeal.main_v7_1)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v7_0) = v0 c
          ∧ r.2.mem ((c.tc : Thread Cert.ExpertsIdeal.nD Cert.ExpertsIdeal.τ).loc Cert.ExpertsIdeal.main_v7_1) = v1 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
          ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v53) = v0 c
          ∧ r.2.mem ((c.tc : Thread Cert.ExpertsRefIdeal.nD Cert.ExpertsRefIdeal.τ).loc Cert.ExpertsRefIdeal.main_v54) = v1 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6)
          ∧ r.2.mem ((c.tc : Thread Cert.ExpertsRefIdeal.nD Cert.ExpertsRefIdeal.τ).loc Cert.ExpertsRefIdeal.main_arg7) = m' ((c.tc : Thread Cert.ExpertsRefIdeal.nD Cert.ExpertsRefIdeal.τ).loc Cert.ExpertsRefIdeal.main_arg7)
          ∧ r.2.mem ((c.tc : Thread Cert.ExpertsRefIdeal.nD Cert.ExpertsRefIdeal.τ).loc Cert.ExpertsRefIdeal.main_arg8) = m' ((c.tc : Thread Cert.ExpertsRefIdeal.nD Cert.ExpertsRefIdeal.τ).loc Cert.ExpertsRefIdeal.main_arg8))

def Claim : Prop :=
  ∃ (hAttn : Cert.Attn.Facts) (hAttnIdeal : Cert.AttnIdeal.Facts) (hAttnRefIdeal : Cert.AttnRefIdeal.Facts) (hQkv : Cert.Qkv.Facts) (hQkvIdeal : Cert.QkvIdeal.Facts) (hQkvRefIdeal : Cert.QkvRefIdeal.Facts) (hQuery : Cert.Query.Facts) (hQueryIdeal : Cert.QueryIdeal.Facts) (hQueryRefIdeal : Cert.QueryRefIdeal.Facts) (hSsmIn : Cert.SsmIn.Facts) (hSsmInIdeal : Cert.SsmInIdeal.Facts) (hSsmInRefIdeal : Cert.SsmInRefIdeal.Facts) (hOut : Cert.Out.Facts) (hOutIdeal : Cert.OutIdeal.Facts) (hOutRefIdeal : Cert.OutRefIdeal.Facts) (hGate : Cert.Gate.Facts) (hGateIdeal : Cert.GateIdeal.Facts) (hGateRefIdeal : Cert.GateRefIdeal.Facts) (hGlu : Cert.Glu.Facts) (hGluIdeal : Cert.GluIdeal.Facts) (hGluRefIdeal : Cert.GluRefIdeal.Facts) (hPool : Cert.Pool.Facts) (hPoolIdeal : Cert.PoolIdeal.Facts) (hPoolRefIdeal : Cert.PoolRefIdeal.Facts) (hExperts : Cert.Experts.Facts) (hExpertsIdeal : Cert.ExpertsIdeal.Facts) (hExpertsRefIdeal : Cert.ExpertsRefIdeal.Facts) (hPre_finite_operands : Cert.Pre_finite_operands.Facts) (hPre_finite_pool : Cert.Pre_finite_pool.Facts),
    quiescent_Attn (hAttn := hAttn)
    ∧ quiescent_AttnIdeal (hAttnIdeal := hAttnIdeal)
    ∧ quiescent_AttnIdeal_pre_finite_operands (hAttnIdeal := hAttnIdeal) (hPre_finite_operands := hPre_finite_operands)
    ∧ quiescent_AttnRefIdeal (hAttnRefIdeal := hAttnRefIdeal)
    ∧ quiescent_AttnRefIdeal_pre_finite_operands (hAttnRefIdeal := hAttnRefIdeal) (hPre_finite_operands := hPre_finite_operands)
    ∧ quiescent_Qkv (hQkv := hQkv)
    ∧ quiescent_QkvIdeal (hQkvIdeal := hQkvIdeal)
    ∧ quiescent_QkvRefIdeal (hQkvRefIdeal := hQkvRefIdeal)
    ∧ quiescent_Query (hQuery := hQuery)
    ∧ quiescent_QueryIdeal (hQueryIdeal := hQueryIdeal)
    ∧ quiescent_QueryRefIdeal (hQueryRefIdeal := hQueryRefIdeal)
    ∧ quiescent_SsmIn (hSsmIn := hSsmIn)
    ∧ quiescent_SsmInIdeal (hSsmInIdeal := hSsmInIdeal)
    ∧ quiescent_SsmInRefIdeal (hSsmInRefIdeal := hSsmInRefIdeal)
    ∧ quiescent_Out (hOut := hOut)
    ∧ quiescent_OutIdeal (hOutIdeal := hOutIdeal)
    ∧ quiescent_OutRefIdeal (hOutRefIdeal := hOutRefIdeal)
    ∧ quiescent_Gate (hGate := hGate)
    ∧ quiescent_GateIdeal (hGateIdeal := hGateIdeal)
    ∧ quiescent_GateRefIdeal (hGateRefIdeal := hGateRefIdeal)
    ∧ quiescent_Glu (hGlu := hGlu)
    ∧ quiescent_GluIdeal (hGluIdeal := hGluIdeal)
    ∧ quiescent_GluRefIdeal (hGluRefIdeal := hGluRefIdeal)
    ∧ quiescent_Pool (hPool := hPool)
    ∧ quiescent_PoolIdeal (hPoolIdeal := hPoolIdeal)
    ∧ quiescent_PoolIdeal_pre_finite_pool (hPoolIdeal := hPoolIdeal) (hPre_finite_pool := hPre_finite_pool)
    ∧ quiescent_PoolRefIdeal (hPoolRefIdeal := hPoolRefIdeal)
    ∧ quiescent_PoolRefIdeal_pre_finite_pool (hPoolRefIdeal := hPoolRefIdeal) (hPre_finite_pool := hPre_finite_pool)
    ∧ quiescent_Experts (hExperts := hExperts)
    ∧ quiescent_ExpertsIdeal (hExpertsIdeal := hExpertsIdeal)
    ∧ quiescent_ExpertsRefIdeal (hExpertsRefIdeal := hExpertsRefIdeal)
    ∧ preserves_Attn_AttnIdeal
    ∧ algebraic_AttnIdeal_AttnRefIdeal_pre_finite_operands (hAttnIdeal := hAttnIdeal) (hAttnRefIdeal := hAttnRefIdeal) (hPre_finite_operands := hPre_finite_operands)
    ∧ preserves_Qkv_QkvIdeal
    ∧ algebraic_QkvIdeal_QkvRefIdeal (hQkvIdeal := hQkvIdeal) (hQkvRefIdeal := hQkvRefIdeal)
    ∧ preserves_Query_QueryIdeal
    ∧ algebraic_QueryIdeal_QueryRefIdeal (hQueryIdeal := hQueryIdeal) (hQueryRefIdeal := hQueryRefIdeal)
    ∧ preserves_SsmIn_SsmInIdeal
    ∧ algebraic_SsmInIdeal_SsmInRefIdeal (hSsmInIdeal := hSsmInIdeal) (hSsmInRefIdeal := hSsmInRefIdeal)
    ∧ preserves_Out_OutIdeal
    ∧ algebraic_OutIdeal_OutRefIdeal (hOutIdeal := hOutIdeal) (hOutRefIdeal := hOutRefIdeal)
    ∧ preserves_Gate_GateIdeal
    ∧ algebraic_GateIdeal_GateRefIdeal (hGateIdeal := hGateIdeal) (hGateRefIdeal := hGateRefIdeal)
    ∧ preserves_Glu_GluIdeal
    ∧ algebraic_GluIdeal_GluRefIdeal (hGluIdeal := hGluIdeal) (hGluRefIdeal := hGluRefIdeal)
    ∧ preserves_Pool_PoolIdeal
    ∧ algebraic_PoolIdeal_PoolRefIdeal_pre_finite_pool (hPoolIdeal := hPoolIdeal) (hPoolRefIdeal := hPoolRefIdeal) (hPre_finite_pool := hPre_finite_pool)
    ∧ preserves_Experts_ExpertsIdeal
    ∧ algebraic_ExpertsIdeal_ExpertsRefIdeal (hExpertsIdeal := hExpertsIdeal) (hExpertsRefIdeal := hExpertsRefIdeal)
-- ==== Pre_finite_operands.lean ====
abbrev S32768x6144 : Shape := ⟨2, ![32768, 6144]⟩
abbrev S16x257 : Shape := ⟨2, ![16, 257]⟩
abbrev S_ : Shape := ⟨0, ![]⟩

class Facts : Prop where
  bitsLt_bf16_f32 : FTy.bits .bf16 < FTy.bits .f32
  bcast_S_S32768x6144 : S_.BroadcastsInDim S32768x6144 (![] : Fin 0 → Fin S32768x6144.rank)
  bcast_S_S16x257 : S_.BroadcastsInDim S16x257 (![] : Fin 0 → Fin S16x257.rank)

variable [Facts]

def fn {F : FTy → Type} [FloatOps F] (main_arg0 : FVec F S32768x6144 .bf16) (main_arg1 : FVec F S16x257 .f32) : IVec S32768x6144 1 × IVec S16x257 1 :=
  let main_v0 : FVec F S32768x6144 .f32 := (extf .f32 · bitsLt_bf16_f32) main_arg0
  let main_v1 : FVec F S32768x6144 .f32 := Host.absf main_v0
  let main_cst : FVec F S_ .f32 := constant S_ .f32 0x7F800000#32
  let main_v2 : FVec F S32768x6144 .f32 := broadcastInDim S32768x6144 ![] bcast_S_S32768x6144 main_cst
  let main_v3 : IVec S32768x6144 1 := cmpf .olt main_v1 main_v2
  let main_v4 : FVec F S16x257 .f32 := Host.absf main_arg1
  let main_cst_0 : FVec F S_ .f32 := constant S_ .f32 0x7F800000#32
  let main_v5 : FVec F S16x257 .f32 := broadcastInDim S16x257 ![] bcast_S_S16x257 main_cst_0
  let main_v6 : IVec S16x257 1 := cmpf .olt main_v4 main_v5
  (main_v3, main_v6)
-- ==== Pre_finite_pool.lean ====
abbrev S32768x2048 : Shape := ⟨2, ![32768, 2048]⟩
abbrev S2048x2048 : Shape := ⟨2, ![2048, 2048]⟩
abbrev S4x512x512 : Shape := ⟨3, ![4, 512, 512]⟩
abbrev S2048 : Shape := ⟨1, ![2048]⟩
abbrev S_ : Shape := ⟨0, ![]⟩

class Facts : Prop where
  bitsLt_bf16_f32 : FTy.bits .bf16 < FTy.bits .f32
  bcast_S_S32768x2048 : S_.BroadcastsInDim S32768x2048 (![] : Fin 0 → Fin S32768x2048.rank)
  bcast_S_S2048x2048 : S_.BroadcastsInDim S2048x2048 (![] : Fin 0 → Fin S2048x2048.rank)

variable [Facts]

def fn {F : FTy → Type} [FloatOps F] (main_arg0 : FVec F S32768x2048 .bf16) (main_arg1 : FVec F S2048x2048 .f32) (main_arg2 : FVec F S4x512x512 .f32) (main_arg3 : FVec F S2048 .f32) : IVec S32768x2048 1 × IVec S2048x2048 1 :=
  let main_v0 : FVec F S32768x2048 .f32 := (extf .f32 · bitsLt_bf16_f32) main_arg0
  let main_v1 : FVec F S32768x2048 .f32 := Host.absf main_v0
  let main_cst : FVec F S_ .f32 := constant S_ .f32 0x7F800000#32
  let main_v2 : FVec F S32768x2048 .f32 := broadcastInDim S32768x2048 ![] bcast_S_S32768x2048 main_cst
  let main_v3 : IVec S32768x2048 1 := cmpf .olt main_v1 main_v2
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  (main_v3, main_v6)
-- ==== Attn.lean ====
abbrev S32768x6144 : Shape := ⟨2, ![32768, 6144]⟩
abbrev S16x257 : Shape := ⟨2, ![16, 257]⟩
abbrev S1023 : Shape := ⟨1, ![1023]⟩
abbrev S512 : Shape := ⟨1, ![512]⟩
abbrev S512x1 : Shape := ⟨2, ![512, 1]⟩
abbrev S_ : Shape := ⟨0, ![]⟩
abbrev S1x512 : Shape := ⟨2, ![1, 512]⟩
abbrev S512x512 : Shape := ⟨2, ![512, 512]⟩
abbrev S1x512x512 : Shape := ⟨3, ![1, 512, 512]⟩
abbrev S1023x1 : Shape := ⟨2, ![1023, 1]⟩
abbrev S16x1023 : Shape := ⟨2, ![16, 1023]⟩
abbrev S1x16x1x1023 : Shape := ⟨4, ![1, 16, 1, 1023]⟩
abbrev S1x16x512x1023 : Shape := ⟨4, ![1, 16, 512, 1023]⟩
abbrev S16x523776 : Shape := ⟨2, ![16, 523776]⟩
abbrev S16x523264 : Shape := ⟨2, ![16, 523264]⟩
abbrev S16x512x1022 : Shape := ⟨3, ![16, 512, 1022]⟩
abbrev S16x512x512 : Shape := ⟨3, ![16, 512, 512]⟩
abbrev S32768x2048 : Shape := ⟨2, ![32768, 2048]⟩
abbrev S512x128 : Shape := ⟨2, ![512, 128]⟩
abbrev S512x640 : Shape := ⟨2, ![512, 640]⟩
abbrev S128x128 : Shape := ⟨2, ![128, 128]⟩
abbrev S128x512 : Shape := ⟨2, ![128, 512]⟩
abbrev S1x128x512 : Shape := ⟨3, ![1, 128, 512]⟩
abbrev S1x128x128 : Shape := ⟨3, ![1, 128, 128]⟩
abbrev S384x128 : Shape := ⟨2, ![384, 128]⟩
abbrev S128x384 : Shape := ⟨2, ![128, 384]⟩
abbrev S1x128x384 : Shape := ⟨3, ![1, 128, 384]⟩
abbrev S256x128 : Shape := ⟨2, ![256, 128]⟩
abbrev S128x256 : Shape := ⟨2, ![128, 256]⟩
abbrev S1x128x256 : Shape := ⟨3, ![1, 128, 256]⟩
abbrev S64x640 : Shape := ⟨2, ![64, 640]⟩
abbrev S64 : Shape := ⟨1, ![64]⟩
abbrev S64x1 : Shape := ⟨2, ![64, 1]⟩
abbrev S64x128 : Shape := ⟨2, ![64, 128]⟩

abbrev nBuf : Space → Nat
  | .hbm => 89
  | .vmem => 19
  | .smem => 0
  | _ => 0

abbrev bufTy : (tb : Table) → Fin (tcTables nBuf tb) → BufTy
  | .hbm, ⟨0, _⟩ => ⟨S32768x6144, .bf16⟩
  | .hbm, ⟨1, _⟩ => ⟨S16x257, .f32⟩
  | .hbm, ⟨2, _⟩ => ⟨S1023, .i32⟩
  | .hbm, ⟨3, _⟩ => ⟨S1023, .i1⟩
  | .hbm, ⟨4, _⟩ => ⟨S1023, .i32⟩
  | .hbm, ⟨5, _⟩ => ⟨S1023, .i1⟩
  | .hbm, ⟨6, _⟩ => ⟨S512, .i32⟩
  | .hbm, ⟨7, _⟩ => ⟨S512x1, .i32⟩
  | .hbm, ⟨8, _⟩ => ⟨S_, .i32⟩
  | .hbm, ⟨9, _⟩ => ⟨S_, .i32⟩
  | .hbm, ⟨10, _⟩ => ⟨S512x1, .i32⟩
  | .hbm, ⟨11, _⟩ => ⟨S512x1, .i32⟩
  | .hbm, ⟨12, _⟩ => ⟨S512x1, .i32⟩
  | .hbm, ⟨13, _⟩ => ⟨S_, .i32⟩
  | .hbm, ⟨14, _⟩ => ⟨S512x1, .i32⟩
  | .hbm, ⟨15, _⟩ => ⟨S512x1, .i1⟩
  | .hbm, ⟨16, _⟩ => ⟨S512x1, .i32⟩
  | .hbm, ⟨17, _⟩ => ⟨S512x1, .i32⟩
  | .hbm, ⟨18, _⟩ => ⟨S_, .i32⟩
  | .hbm, ⟨19, _⟩ => ⟨S512x1, .i32⟩
  | .hbm, ⟨20, _⟩ => ⟨S512x1, .i1⟩
  | .hbm, ⟨21, _⟩ => ⟨S512x1, .i1⟩
  | .hbm, ⟨22, _⟩ => ⟨S_, .i32⟩
  | .hbm, ⟨23, _⟩ => ⟨S512x1, .i32⟩
  | .hbm, ⟨24, _⟩ => ⟨S512x1, .i32⟩
  | .hbm, ⟨25, _⟩ => ⟨S512x1, .i32⟩
  | .hbm, ⟨26, _⟩ => ⟨S512, .i32⟩
  | .hbm, ⟨27, _⟩ => ⟨S1x512, .i32⟩
  | .hbm, ⟨28, _⟩ => ⟨S_, .i32⟩
  | .hbm, ⟨29, _⟩ => ⟨S_, .i32⟩
  | .hbm, ⟨30, _⟩ => ⟨S1x512, .i32⟩
  | .hbm, ⟨31, _⟩ => ⟨S1x512, .i32⟩
  | .hbm, ⟨32, _⟩ => ⟨S1x512, .i32⟩
  | .hbm, ⟨33, _⟩ => ⟨S_, .i32⟩
  | .hbm, ⟨34, _⟩ => ⟨S1x512, .i32⟩
  | .hbm, ⟨35, _⟩ => ⟨S1x512, .i1⟩
  | .hbm, ⟨36, _⟩ => ⟨S1x512, .i32⟩
  | .hbm, ⟨37, _⟩ => ⟨S1x512, .i32⟩
  | .hbm, ⟨38, _⟩ => ⟨S_, .i32⟩
  | .hbm, ⟨39, _⟩ => ⟨S1x512, .i32⟩
  | .hbm, ⟨40, _⟩ => ⟨S1x512, .i1⟩
  | .hbm, ⟨41, _⟩ => ⟨S1x512, .i1⟩
  | .hbm, ⟨42, _⟩ => ⟨S_, .i32⟩
  | .hbm, ⟨43, _⟩ => ⟨S1x512, .i32⟩
  | .hbm, ⟨44, _⟩ => ⟨S1x512, .i32⟩
  | .hbm, ⟨45, _⟩ => ⟨S1x512, .i32⟩
  | .hbm, ⟨46, _⟩ => ⟨S512x512, .i32⟩
  | .hbm, ⟨47, _⟩ => ⟨S512x512, .i32⟩
  | .hbm, ⟨48, _⟩ => ⟨S512x512, .i1⟩
  | .hbm, ⟨49, _⟩ => ⟨S1x512x512, .i1⟩
  | .hbm, ⟨50, _⟩ => ⟨S_, .i32⟩
  | .hbm, ⟨51, _⟩ => ⟨S1023, .i32⟩
  | .hbm, ⟨52, _⟩ => ⟨S1023, .i32⟩
  | .hbm, ⟨53, _⟩ => ⟨S1023, .i32⟩
  | .hbm, ⟨54, _⟩ => ⟨S1023x1, .i32⟩
  | .hbm, ⟨55, _⟩ => ⟨S16x1023, .f32⟩
  | .hbm, ⟨56, _⟩ => ⟨S1x16x1x1023, .f32⟩
  | .hbm, ⟨57, _⟩ => ⟨S1x16x512x1023, .f32⟩
  | .hbm, ⟨58, _⟩ => ⟨S16x523776, .f32⟩
  | .hbm, ⟨59, _⟩ => ⟨S16x523264, .f32⟩
  | .hbm, ⟨60, _⟩ => ⟨S16x512x1022, .f32⟩
  | .hbm, ⟨61, _⟩ => ⟨S16x512x512, .f32⟩
  | .hbm, ⟨62, _⟩ => ⟨S_, .f32⟩
  | .hbm, ⟨63, _⟩ => ⟨S_, .f32⟩
  | .hbm, ⟨64, _⟩ => ⟨S16x512x512, .i1⟩
  | .hbm, ⟨65, _⟩ => ⟨S16x512x512, .f32⟩
  | .hbm, ⟨66, _⟩ => ⟨S16x512x512, .f32⟩
  | .hbm, ⟨67, _⟩ => ⟨S512x512, .i32⟩
  | .hbm, ⟨68, _⟩ => ⟨S512x512, .i32⟩
  | .hbm, ⟨69, _⟩ => ⟨S512x512, .i1⟩
  | .hbm, ⟨70, _⟩ => ⟨S1x512x512, .i1⟩
  | .hbm, ⟨71, _⟩ => ⟨S_, .i32⟩
  | .hbm, ⟨72, _⟩ => ⟨S1023, .i32⟩
  | .hbm, ⟨73, _⟩ => ⟨S1023, .i32⟩
  | .hbm, ⟨74, _⟩ => ⟨S1023, .i32⟩
  | .hbm, ⟨75, _⟩ => ⟨S1023x1, .i32⟩
  | .hbm, ⟨76, _⟩ => ⟨S16x1023, .f32⟩
  | .hbm, ⟨77, _⟩ => ⟨S1x16x1x1023, .f32⟩
  | .hbm, ⟨78, _⟩ => ⟨S1x16x512x1023, .f32⟩
  | .hbm, ⟨79, _⟩ => ⟨S16x523776, .f32⟩
  | .hbm, ⟨80, _⟩ => ⟨S16x523264, .f32⟩
  | .hbm, ⟨81, _⟩ => ⟨S16x512x1022, .f32⟩
  | .hbm, ⟨82, _⟩ => ⟨S16x512x512, .f32⟩
  | .hbm, ⟨83, _⟩ => ⟨S_, .f32⟩
  | .hbm, ⟨84, _⟩ => ⟨S_, .f32⟩
  | .hbm, ⟨85, _⟩ => ⟨S16x512x512, .i1⟩
  | .hbm, ⟨86, _⟩ => ⟨S16x512x512, .f32⟩
  | .hbm, ⟨87, _⟩ => ⟨S16x512x512, .f32⟩
  | .hbm, ⟨88, _⟩ => ⟨S32768x2048, .bf16⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S512x128, .bf16⟩
  | .local _ .vmem, ⟨15, _⟩ => ⟨S512x128, .bf16⟩
  | .local _ .vmem, ⟨16, _⟩ => ⟨S512x640, .f32⟩
  | .local _ .vmem, ⟨17, _⟩ => ⟨S512x640, .bf16⟩
  | .local _ .vmem, ⟨18, _⟩ => ⟨S512x128, .f32⟩
  | _, _ => ⟨S32768x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v0 : Ref sig .tc := ⟨.hbm, 6, rfl⟩
abbrev main_v1 : Ref sig .tc := ⟨.hbm, 7, rfl⟩
abbrev main_c_3 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_c_4 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_c_5 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_cst : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_c_6 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_cst_7 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_v37 : Ref sig .tc := ⟨.hbm, 87, rfl⟩
abbrev main_v38 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![16, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c0_i32 : BitVec 32 := 0#32
  let v2 : BitVec 32 := Scalar.addi c0_i32 arg0
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c16_i32_0 : BitVec 32 := 16#32
  let v4 : BitVec 32 := Scalar.addi c16_i32_0 arg0
  let c0_i32_1 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c16_i32_0 : BitVec 32 := 16#32
  let v2 : BitVec 32 := Scalar.addi c16_i32_0 arg0
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c32_i32 : BitVec 32 := 32#32
  let v4 : BitVec 32 := Scalar.addi c32_i32 arg0
  let c0_i32_0 : BitVec 32 := 0#32
  ![v3.toNat, v4.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c32_i32 : BitVec 32 := 32#32
  let v2 : BitVec 32 := Scalar.addi c32_i32 arg0
  let c0_i32 : BitVec 32 := 0#32
  ![v1.toNat, v2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c0_i32 : BitVec 32 := 0#32
  ![v1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== AttnIdeal.lean ====
variable {F : FTy → Type} [FloatOps F] [Named F]
def κ : String → Option EReal := fun
  | "mask" => some ⊥
  | _ => none
-- ==== AttnRefIdeal.lean ====
abbrev S32768x6144 : Shape := ⟨2, ![32768, 6144]⟩
abbrev S16x257 : Shape := ⟨2, ![16, 257]⟩
abbrev S4x8192x3x16x128 : Shape := ⟨5, ![4, 8192, 3, 16, 128]⟩
abbrev S4x8192x1x16x128 : Shape := ⟨5, ![4, 8192, 1, 16, 128]⟩
abbrev S4x8192x16x128 : Shape := ⟨4, ![4, 8192, 16, 128]⟩
abbrev S_ : Shape := ⟨0, ![]⟩
abbrev S4x8704x16x128 : Shape := ⟨4, ![4, 8704, 16, 128]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S128 : Shape := ⟨1, ![128]⟩
abbrev S128x1 : Shape := ⟨2, ![128, 1]⟩
abbrev S4x128x64x16x128 : Shape := ⟨5, ![4, 128, 64, 16, 128]⟩
abbrev S128x576 : Shape := ⟨2, ![128, 576]⟩
abbrev S128x576x1 : Shape := ⟨3, ![128, 576, 1]⟩
abbrev S4x128x576x16x128 : Shape := ⟨5, ![4, 128, 576, 16, 128]⟩
abbrev S4x128x16x64x576 : Shape := ⟨5, ![4, 128, 16, 64, 576]⟩
abbrev S1x1x16x64x576 : Shape := ⟨5, ![1, 1, 16, 64, 576]⟩
abbrev S1x128x1x1x576 : Shape := ⟨5, ![1, 128, 1, 1, 576]⟩
abbrev S4x128x16x64 : Shape := ⟨4, ![4, 128, 16, 64]⟩
abbrev S4x128x16x64x1 : Shape := ⟨5, ![4, 128, 16, 64, 1]⟩
abbrev S4x128x16x128x64 : Shape := ⟨5, ![4, 128, 16, 128, 64]⟩
abbrev S32768x2048 : Shape := ⟨2, ![32768, 2048]⟩

abbrev nBuf : Space → Nat
  | .hbm => 116
  | .vmem => 0
  | .smem => 0
  | _ => 0

abbrev bufTy : (tb : Table) → Fin (tcTables nBuf tb) → BufTy
  | .hbm, ⟨0, _⟩ => ⟨S32768x6144, .bf16⟩
  | .hbm, ⟨1, _⟩ => ⟨S16x257, .f32⟩
  | .hbm, ⟨2, _⟩ => ⟨S32768x6144, .f32⟩
  | .hbm, ⟨3, _⟩ => ⟨S4x8192x3x16x128, .f32⟩
  | .hbm, ⟨4, _⟩ => ⟨S4x8192x1x16x128, .f32⟩
  | .hbm, ⟨5, _⟩ => ⟨S4x8192x16x128, .f32⟩
  | .hbm, ⟨6, _⟩ => ⟨S_, .f32⟩
  | .hbm, ⟨7, _⟩ => ⟨S4x8192x16x128, .f32⟩
  | .hbm, ⟨8, _⟩ => ⟨S4x8192x16x128, .f32⟩
  | .hbm, ⟨9, _⟩ => ⟨S4x8192x1x16x128, .f32⟩
  | .hbm, ⟨10, _⟩ => ⟨S4x8192x16x128, .f32⟩
  | .hbm, ⟨11, _⟩ => ⟨S_, .i32⟩
  | .hbm, ⟨12, _⟩ => ⟨S_, .f32⟩
  | .hbm, ⟨13, _⟩ => ⟨S4x8704x16x128, .f32⟩
  | .hbm, ⟨14, _⟩ => ⟨S4x8192x1x16x128, .f32⟩
  | .hbm, ⟨15, _⟩ => ⟨S4x8192x16x128, .f32⟩
  | .hbm, ⟨16, _⟩ => ⟨S_, .i32⟩
  | .hbm, ⟨17, _⟩ => ⟨S_, .f32⟩
  | .hbm, ⟨18, _⟩ => ⟨S4x8704x16x128, .f32⟩
  | .hbm, ⟨19, _⟩ => ⟨S64, .i32⟩
  | .hbm, ⟨20, _⟩ => ⟨S64x1, .i32⟩
  | .hbm, ⟨21, _⟩ => ⟨S576, .i32⟩
  | .hbm, ⟨22, _⟩ => ⟨S1x576, .i32⟩
  | .hbm, ⟨23, _⟩ => ⟨S_, .i32⟩
  | .hbm, ⟨24, _⟩ => ⟨S64x1, .i32⟩
  | .hbm, ⟨25, _⟩ => ⟨S64x1, .i32⟩
  | .hbm, ⟨26, _⟩ => ⟨S64x576, .i32⟩
  | .hbm, ⟨27, _⟩ => ⟨S64x576, .i32⟩
  | .hbm, ⟨28, _⟩ => ⟨S64x576, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S64x576, .i32⟩
  | .hbm, ⟨33, _⟩ => ⟨S64x576, .i32⟩
  | .hbm, ⟨34, _⟩ => ⟨S_, .i32⟩
  | .hbm, ⟨35, _⟩ => ⟨S64x576, .i32⟩
  | .hbm, ⟨36, _⟩ => ⟨S64x576, .i32⟩
  | .hbm, ⟨37, _⟩ => ⟨S_, .i32⟩
  | .hbm, ⟨38, _⟩ => ⟨S64x576, .i32⟩
  | .hbm, ⟨39, _⟩ => ⟨S64x576, .i32⟩
  | .hbm, ⟨40, _⟩ => ⟨S_, .i32⟩
  | .hbm, ⟨41, _⟩ => ⟨S64x576, .i32⟩
  | .hbm, ⟨42, _⟩ => ⟨S64x576, .i1⟩
  | .hbm, ⟨43, _⟩ => ⟨S_, .i32⟩
  | .hbm, ⟨44, _⟩ => ⟨S64x576, .i32⟩
  | .hbm, ⟨45, _⟩ => ⟨S64x576, .i32⟩
  | .hbm, ⟨46, _⟩ => ⟨S64x576, .i32⟩
  | .hbm, ⟨47, _⟩ => ⟨S64x576x1, .i32⟩
  | .hbm, ⟨48, _⟩ => ⟨S16x64x576, .f32⟩
  | .hbm, ⟨49, _⟩ => ⟨S128, .i32⟩
  | .hbm, ⟨50, _⟩ => ⟨S128x1, .i32⟩
  | .hbm, ⟨51, _⟩ => ⟨S_, .i32⟩
  | .hbm, ⟨52, _⟩ => ⟨S128x1, .i32⟩
  | .hbm, ⟨53, _⟩ => ⟨S128x1, .i32⟩
  | .hbm, ⟨54, _⟩ => ⟨S4x128x64x16x128, .f32⟩
  | .hbm, ⟨55, _⟩ => ⟨S128x576, .i32⟩
  | .hbm, ⟨56, _⟩ => ⟨S128x576, .i32⟩
  | .hbm, ⟨57, _⟩ => ⟨S128x576, .i32⟩
  | .hbm, ⟨58, _⟩ => ⟨S_, .i32⟩
  | .hbm, ⟨59, _⟩ => ⟨S128x576, .i32⟩
  | .hbm, ⟨60, _⟩ => ⟨S128x576, .i1⟩
  | .hbm, ⟨61, _⟩ => ⟨S_, .i32⟩
  | .hbm, ⟨62, _⟩ => ⟨S128x576, .i32⟩
  | .hbm, ⟨63, _⟩ => ⟨S128x576, .i32⟩
  | .hbm, ⟨64, _⟩ => ⟨S128x576, .i32⟩
  | .hbm, ⟨65, _⟩ => ⟨S128x576x1, .i32⟩
  | .hbm, ⟨66, _⟩ => ⟨S4x128x576x16x128, .f32⟩
  | .hbm, ⟨67, _⟩ => ⟨S128x576, .i32⟩
  | .hbm, ⟨68, _⟩ => ⟨S128x576, .i32⟩
  | .hbm, ⟨69, _⟩ => ⟨S128x576, .i32⟩
  | .hbm, ⟨70, _⟩ => ⟨S_, .i32⟩
  | .hbm, ⟨71, _⟩ => ⟨S128x576, .i32⟩
  | .hbm, ⟨72, _⟩ => ⟨S128x576, .i1⟩
  | .hbm, ⟨73, _⟩ => ⟨S_, .i32⟩
  | .hbm, ⟨74, _⟩ => ⟨S128x576, .i32⟩
  | .hbm, ⟨75, _⟩ => ⟨S128x576, .i32⟩
  | .hbm, ⟨76, _⟩ => ⟨S128x576, .i32⟩
  | .hbm, ⟨77, _⟩ => ⟨S128x576x1, .i32⟩
  | .hbm, ⟨78, _⟩ => ⟨S4x128x576x16x128, .f32⟩
  | .hbm, ⟨79, _⟩ => ⟨S4x128x16x64x576, .f32⟩
  | .hbm, ⟨80, _⟩ => ⟨S1x1x16x64x576, .f32⟩
  | .hbm, ⟨81, _⟩ => ⟨S4x128x16x64x576, .f32⟩
  | .hbm, ⟨82, _⟩ => ⟨S4x128x16x64x576, .f32⟩
  | .hbm, ⟨83, _⟩ => ⟨S_, .i32⟩
  | .hbm, ⟨84, _⟩ => ⟨S128x1, .i32⟩
  | .hbm, ⟨85, _⟩ => ⟨S128x1, .i32⟩
  | .hbm, ⟨86, _⟩ => ⟨S128x576, .i32⟩
  | .hbm, ⟨87, _⟩ => ⟨S128x576, .i32⟩
  | .hbm, ⟨88, _⟩ => ⟨S128x576, .i32⟩
  | .hbm, ⟨89, _⟩ => ⟨S_, .i32⟩
  | .hbm, ⟨90, _⟩ => ⟨S128x576, .i32⟩
  | .hbm, ⟨91, _⟩ => ⟨S128x576, .i1⟩
  | .hbm, ⟨92, _⟩ => ⟨S1x128x1x1x576, .i1⟩
  | .hbm, ⟨93, _⟩ => ⟨S_, .f32⟩
  | .hbm, ⟨94, _⟩ => ⟨S_, .f32⟩
  | .hbm, ⟨95, _⟩ => ⟨S4x128x16x64x576, .i1⟩
  | .hbm, ⟨96, _⟩ => ⟨S4x128x16x64x576, .f32⟩
  | .hbm, ⟨97, _⟩ => ⟨S4x128x16x64x576, .f32⟩
  | .hbm, ⟨98, _⟩ => ⟨S_, .f32⟩
  | .hbm, ⟨99, _⟩ => ⟨S4x128x16x64, .f32⟩
  | .hbm, ⟨100, _⟩ => ⟨S_, .f32⟩
  | .hbm, ⟨101, _⟩ => ⟨S4x128x16x64, .f32⟩
  | .hbm, ⟨102, _⟩ => ⟨S4x128x16x64, .f32⟩
  | .hbm, ⟨103, _⟩ => ⟨S4x128x16x64x1, .f32⟩
  | .hbm, ⟨104, _⟩ => ⟨S4x128x16x64x576, .f32⟩
  | .hbm, ⟨105, _⟩ => ⟨S4x128x16x64x576, .f32⟩
  | .hbm, ⟨106, _⟩ => ⟨S4x128x16x64x576, .f32⟩
  | .hbm, ⟨107, _⟩ => ⟨S_, .f32⟩
  | .hbm, ⟨108, _⟩ => ⟨S4x128x16x64, .f32⟩
  | .hbm, ⟨109, _⟩ => ⟨S4x128x16x64x1, .f32⟩
  | .hbm, ⟨110, _⟩ => ⟨S4x128x16x64x576, .f32⟩
  | .hbm, ⟨111, _⟩ => ⟨S4x128x16x64x576, .f32⟩
  | .hbm, ⟨112, _⟩ => ⟨S4x128x16x128x64, .f32⟩
  | .hbm, ⟨113, _⟩ => ⟨S4x128x64x16x128, .f32⟩
  | .hbm, ⟨114, _⟩ => ⟨S32768x2048, .f32⟩
  | .hbm, ⟨115, _⟩ => ⟨S32768x2048, .bf16⟩
  | _, _ => ⟨S32768x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_call1_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_2 : Ref sig .tc := ⟨.hbm, 29, rfl⟩
abbrev main_c_3 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_8 : Ref sig .tc := ⟨.hbm, 58, rfl⟩
abbrev main_v39 : Ref sig .tc := ⟨.hbm, 59, rfl⟩
abbrev main_v40 : Ref sig .tc := ⟨.hbm, 60, rfl⟩
abbrev main_c_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_10 : Ref sig .tc := ⟨.hbm, 70, rfl⟩
abbrev main_v49 : Ref sig .tc := ⟨.hbm, 71, rfl⟩
abbrev main_v50 : Ref sig .tc := ⟨.hbm, 72, rfl⟩
abbrev main_c_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_12 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_13 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_14 : Ref sig .tc := ⟨.hbm, 93, rfl⟩
abbrev main_call3_v0 : Ref sig .tc := ⟨.hbm, 94, rfl⟩
abbrev main_call3_v1 : Ref sig .tc := ⟨.hbm, 95, rfl⟩
abbrev main_call3_v2 : Ref sig .tc := ⟨.hbm, 96, rfl⟩
abbrev main_v68 : Ref sig .tc := ⟨.hbm, 97, rfl⟩
abbrev main_cst_15 : Ref sig .tc := ⟨.hbm, 98, rfl⟩
abbrev main_v69 : Ref sig .tc := ⟨.hbm, 99, rfl⟩
abbrev main_cst_16 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_17 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩

abbrev nD : Nat := 1
abbrev τ : Topo := Topo.v7x

variable {F : FTy → Type} [FloatOps F]
-- ==== Qkv.lean ====
abbrev S32768x2048 : Shape := ⟨2, ![32768, 2048]⟩
abbrev S2048x6144 : Shape := ⟨2, ![2048, 6144]⟩
abbrev S32768x6144 : Shape := ⟨2, ![32768, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x6144, .f32⟩
  | .hbm, ⟨2, _⟩ => ⟨S2048x6144, .bf16⟩
  | .hbm, ⟨3, _⟩ => ⟨S32768x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvRefIdeal.lean ====
abbrev S32768x2048 : Shape := ⟨2, ![32768, 2048]⟩
abbrev S2048x6144 : Shape := ⟨2, ![2048, 6144]⟩
abbrev S32768x6144 : Shape := ⟨2, ![32768, 6144]⟩

abbrev nBuf : Space → Nat
  | .hbm => 5
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x6144, .f32⟩
  | .hbm, ⟨2, _⟩ => ⟨S32768x2048, .f32⟩
  | .hbm, ⟨3, _⟩ => ⟨S32768x6144, .f32⟩
  | .hbm, ⟨4, _⟩ => ⟨S32768x6144, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Query.lean ====
abbrev S2048x2048 : Shape := ⟨2, ![2048, 2048]⟩
abbrev S2048x32768 : Shape := ⟨2, ![2048, 32768]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x32768, .bf16⟩
  | .hbm, ⟨2, _⟩ => ⟨S2048x2048, .f32⟩
  | .hbm, ⟨3, _⟩ => ⟨S2048x2048, .bf16⟩
  | .hbm, ⟨4, _⟩ => ⟨S2048x32768, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QueryRefIdeal.lean ====
abbrev S2048x2048 : Shape := ⟨2, ![2048, 2048]⟩
abbrev S2048x32768 : Shape := ⟨2, ![2048, 32768]⟩
abbrev S32768x2048 : Shape := ⟨2, ![32768, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x32768, .bf16⟩
  | .hbm, ⟨2, _⟩ => ⟨S2048x32768, .f32⟩
  | .hbm, ⟨3, _⟩ => ⟨S32768x2048, .f32⟩
  | .hbm, ⟨4, _⟩ => ⟨S32768x2048, .f32⟩
  | .hbm, ⟨5, _⟩ => ⟨S2048x32768, .f32⟩
  | .hbm, ⟨6, _⟩ => ⟨S2048x32768, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== SsmIn.lean ====
abbrev S32768x2048 : Shape := ⟨2, ![32768, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S2048x2048, .bf16⟩
  | .hbm, ⟨3, _⟩ => ⟨S32768x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SsmInRefIdeal.lean ====
abbrev S32768x2048 : Shape := ⟨2, ![32768, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S32768x2048, .f32⟩
  | .hbm, ⟨3, _⟩ => ⟨S32768x2048, .f32⟩
  | .hbm, ⟨4, _⟩ => ⟨S32768x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Out.lean ====
abbrev S32768x2048 : Shape := ⟨2, ![32768, 2048]⟩
abbrev S2048x2048 : Shape := ⟨2, ![2048, 2048]⟩
abbrev S2048 : Shape := ⟨1, ![2048]⟩
abbrev S1x2048 : Shape := ⟨2, ![1, 2048]⟩
abbrev S2048x32768 : Shape := ⟨2, ![2048, 32768]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S32768x2048, .f32⟩
  | .hbm, ⟨3, _⟩ => ⟨S2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S1x2048, .f32⟩
  | .hbm, ⟨8, _⟩ => ⟨S32768x2048, .f32⟩
  | .hbm, ⟨9, _⟩ => ⟨S32768x2048, .bf16⟩
  | .hbm, ⟨10, _⟩ => ⟨S2048x32768, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S2048x512, .bf16⟩
  | .local _ .vmem, ⟨12, _⟩ => ⟨S2048x512, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutRefIdeal.lean ====
abbrev S32768x2048 : Shape := ⟨2, ![32768, 2048]⟩
abbrev S2048x2048 : Shape := ⟨2, ![2048, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S2048x32768 : Shape := ⟨2, ![2048, 32768]⟩

abbrev nBuf : Space → Nat
  | .hbm => 43
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S32768x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S32768x2048, .f32⟩
  | .hbm, ⟨7, _⟩ => ⟨S32768x2048, .f32⟩
  | .hbm, ⟨8, _⟩ => ⟨S32768x2048, .f32⟩
  | .hbm, ⟨9, _⟩ => ⟨S32768x2048, .f32⟩
  | .hbm, ⟨10, _⟩ => ⟨S32768x2048, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x2048, .f32⟩
  | .hbm, ⟨18, _⟩ => ⟨S32768x2048, .f32⟩
  | .hbm, ⟨19, _⟩ => ⟨S32768x2048, .f32⟩
  | .hbm, ⟨20, _⟩ => ⟨S_, .f32⟩
  | .hbm, ⟨21, _⟩ => ⟨S32768, .f32⟩
  | .hbm, ⟨22, _⟩ => ⟨S32768x1, .f32⟩
  | .hbm, ⟨23, _⟩ => ⟨S_, .f32⟩
  | .hbm, ⟨24, _⟩ => ⟨S32768x1, .f32⟩
  | .hbm, ⟨25, _⟩ => ⟨S32768x1, .f32⟩
  | .hbm, ⟨26, _⟩ => ⟨S32768x2048, .f32⟩
  | .hbm, ⟨27, _⟩ => ⟨S32768x2048, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S32768x1, .f32⟩
  | .hbm, ⟨32, _⟩ => ⟨S32768x2048, .f32⟩
  | .hbm, ⟨33, _⟩ => ⟨S32768x2048, .f32⟩
  | .hbm, ⟨34, _⟩ => ⟨S1x2048, .f32⟩
  | .hbm, ⟨35, _⟩ => ⟨S32768x2048, .f32⟩
  | .hbm, ⟨36, _⟩ => ⟨S32768x2048, .f32⟩
  | .hbm, ⟨37, _⟩ => ⟨S1x2048, .f32⟩
  | .hbm, ⟨38, _⟩ => ⟨S32768x2048, .f32⟩
  | .hbm, ⟨39, _⟩ => ⟨S32768x2048, .f32⟩
  | .hbm, ⟨40, _⟩ => ⟨S32768x2048, .bf16⟩
  | .hbm, ⟨41, _⟩ => ⟨S2048x32768, .f32⟩
  | .hbm, ⟨42, _⟩ => ⟨S2048x32768, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Gate.lean ====
abbrev S32768x2048 : Shape := ⟨2, ![32768, 2048]⟩
abbrev S4x8192x256 : Shape := ⟨3, ![4, 8192, 256]⟩
abbrev S2048x2048 : Shape := ⟨2, ![2048, 2048]⟩
abbrev S256x2048 : Shape := ⟨2, ![256, 2048]⟩
abbrev S2048 : Shape := ⟨1, ![2048]⟩
abbrev S32768x256 : Shape := ⟨2, ![32768, 256]⟩
abbrev S1x2048 : Shape := ⟨2, ![1, 2048]⟩
abbrev S512x2048 : Shape := ⟨2, ![512, 2048]⟩
abbrev S512x256 : Shape := ⟨2, ![512, 256]⟩

abbrev nBuf : Space → Nat
  | .hbm => 13
  | .vmem => 13
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .f32⟩
  | .hbm, ⟨2, _⟩ => ⟨S4x8192x256, .f32⟩
  | .hbm, ⟨3, _⟩ => ⟨S2048x2048, .f32⟩
  | .hbm, ⟨4, _⟩ => ⟨S256x2048, .f32⟩
  | .hbm, ⟨5, _⟩ => ⟨S2048, .f32⟩
  | .hbm, ⟨6, _⟩ => ⟨S32768x256, .f32⟩
  | .hbm, ⟨7, _⟩ => ⟨S32768x256, .bf16⟩
  | .hbm, ⟨8, _⟩ => ⟨S2048x2048, .bf16⟩
  | .hbm, ⟨9, _⟩ => ⟨S256x2048, .bf16⟩
  | .hbm, ⟨10, _⟩ => ⟨S1x2048, .f32⟩
  | .hbm, ⟨11, _⟩ => ⟨S32768x2048, .f32⟩
  | .hbm, ⟨12, _⟩ => ⟨S32768x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S512x256, .bf16⟩
  | .local _ .vmem, ⟨5, _⟩ => ⟨S512x256, .bf16⟩
  | .local _ .vmem, ⟨6, _⟩ => ⟨S2048x2048, .bf16⟩
  | .local _ .vmem, ⟨7, _⟩ => ⟨S256x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GateRefIdeal.lean ====
abbrev S32768x2048 : Shape := ⟨2, ![32768, 2048]⟩
abbrev S4x8192x256 : Shape := ⟨3, ![4, 8192, 256]⟩
abbrev S2048x2048 : Shape := ⟨2, ![2048, 2048]⟩
abbrev S256x2048 : Shape := ⟨2, ![256, 2048]⟩
abbrev S2048 : Shape := ⟨1, ![2048]⟩
abbrev S1x2048 : Shape := ⟨2, ![1, 2048]⟩
abbrev S_ : Shape := ⟨0, ![]⟩
abbrev S4x8192x2048 : Shape := ⟨3, ![4, 8192, 2048]⟩

abbrev nBuf : Space → Nat
  | .hbm => 24
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .f32⟩
  | .hbm, ⟨2, _⟩ => ⟨S4x8192x256, .f32⟩
  | .hbm, ⟨3, _⟩ => ⟨S2048x2048, .f32⟩
  | .hbm, ⟨4, _⟩ => ⟨S256x2048, .f32⟩
  | .hbm, ⟨5, _⟩ => ⟨S2048, .f32⟩
  | .hbm, ⟨6, _⟩ => ⟨S32768x2048, .f32⟩
  | .hbm, ⟨7, _⟩ => ⟨S32768x2048, .f32⟩
  | .hbm, ⟨8, _⟩ => ⟨S1x2048, .f32⟩
  | .hbm, ⟨9, _⟩ => ⟨S32768x2048, .f32⟩
  | .hbm, ⟨10, _⟩ => ⟨S32768x2048, .f32⟩
  | .hbm, ⟨11, _⟩ => ⟨S32768x2048, .f32⟩
  | .hbm, ⟨12, _⟩ => ⟨S32768x2048, .f32⟩
  | .hbm, ⟨13, _⟩ => ⟨S_, .f32⟩
  | .hbm, ⟨14, _⟩ => ⟨S32768x2048, .f32⟩
  | .hbm, ⟨15, _⟩ => ⟨S32768x2048, .f32⟩
  | .hbm, ⟨16, _⟩ => ⟨S_, .f32⟩
  | .hbm, ⟨17, _⟩ => ⟨S32768x2048, .f32⟩
  | .hbm, ⟨18, _⟩ => ⟨S32768x2048, .f32⟩
  | .hbm, ⟨19, _⟩ => ⟨S4x8192x2048, .f32⟩
  | .hbm, ⟨20, _⟩ => ⟨S32768x2048, .f32⟩
  | .hbm, ⟨21, _⟩ => ⟨S32768x2048, .f32⟩
  | .hbm, ⟨22, _⟩ => ⟨S32768x2048, .f32⟩
  | .hbm, ⟨23, _⟩ => ⟨S32768x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Glu.lean ====
abbrev S32768x2048 : Shape := ⟨2, ![32768, 2048]⟩
abbrev S2048x2048 : Shape := ⟨2, ![2048, 2048]⟩
abbrev S512x2048 : Shape := ⟨2, ![512, 2048]⟩

abbrev nBuf : Space → Nat
  | .hbm => 4
  | .vmem => 5
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S2048x2048, .bf16⟩
  | .hbm, ⟨3, _⟩ => ⟨S32768x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GluRefIdeal.lean ====
abbrev S32768x2048 : Shape := ⟨2, ![32768, 2048]⟩
abbrev S2048x2048 : Shape := ⟨2, ![2048, 2048]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S32768x2048, .f32⟩
  | .hbm, ⟨3, _⟩ => ⟨S32768x2048, .f32⟩
  | .hbm, ⟨4, _⟩ => ⟨S32768x2048, .f32⟩
  | .hbm, ⟨5, _⟩ => ⟨S32768x2048, .f32⟩
  | .hbm, ⟨6, _⟩ => ⟨S_, .f32⟩
  | .hbm, ⟨7, _⟩ => ⟨S32768x2048, .f32⟩
  | .hbm, ⟨8, _⟩ => ⟨S32768x2048, .f32⟩
  | .hbm, ⟨9, _⟩ => ⟨S_, .f32⟩
  | .hbm, ⟨10, _⟩ => ⟨S32768x2048, .f32⟩
  | .hbm, ⟨11, _⟩ => ⟨S32768x2048, .f32⟩
  | .hbm, ⟨12, _⟩ => ⟨S32768x2048, .f32⟩
  | .hbm, ⟨13, _⟩ => ⟨S32768x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Pool.lean ====
abbrev S32768x2048 : Shape := ⟨2, ![32768, 2048]⟩
abbrev S2048x2048 : Shape := ⟨2, ![2048, 2048]⟩
abbrev S4x512x512 : Shape := ⟨3, ![4, 512, 512]⟩
abbrev S2048 : Shape := ⟨1, ![2048]⟩
abbrev S1x2048 : Shape := ⟨2, ![1, 2048]⟩
abbrev S512x2048 : Shape := ⟨2, ![512, 2048]⟩
abbrev S528x2048 : Shape := ⟨2, ![528, 2048]⟩
abbrev S16x2048 : Shape := ⟨2, ![16, 2048]⟩
abbrev S512x1 : Shape := ⟨2, ![512, 1]⟩
abbrev S512x512 : Shape := ⟨2, ![512, 512]⟩
abbrev S1x512x512 : Shape := ⟨3, ![1, 512, 512]⟩
abbrev S1x512 : Shape := ⟨2, ![1, 512]⟩

abbrev nBuf : Space → Nat
  | .hbm => 8
  | .vmem => 8
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S4x512x512, .f32⟩
  | .hbm, ⟨3, _⟩ => ⟨S2048, .f32⟩
  | .hbm, ⟨4, _⟩ => ⟨S2048x2048, .bf16⟩
  | .hbm, ⟨5, _⟩ => ⟨S4x512x512, .bf16⟩
  | .hbm, ⟨6, _⟩ => ⟨S1x2048, .f32⟩
  | .hbm, ⟨7, _⟩ => ⟨S32768x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S4x512x512, .bf16⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S528x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PoolRefIdeal.lean ====
abbrev S32768x2048 : Shape := ⟨2, ![32768, 2048]⟩
abbrev S2048x2048 : Shape := ⟨2, ![2048, 2048]⟩
abbrev S4x512x512 : Shape := ⟨3, ![4, 512, 512]⟩
abbrev S2048 : Shape := ⟨1, ![2048]⟩
abbrev S4x8192x2048 : Shape := ⟨3, ![4, 8192, 2048]⟩
abbrev S_ : Shape := ⟨0, ![]⟩
abbrev S4x8208x2048 : Shape := ⟨3, ![4, 8208, 2048]⟩
abbrev S8192 : Shape := ⟨1, ![8192]⟩
abbrev S4x8192x512 : Shape := ⟨3, ![4, 8192, 512]⟩
abbrev S1x8192x1 : Shape := ⟨3, ![1, 8192, 1]⟩
abbrev S4x8192x1x512 : Shape := ⟨4, ![4, 8192, 1, 512]⟩
abbrev S4x8192x4x512 : Shape := ⟨4, ![4, 8192, 4, 512]⟩
abbrev S4x512x4x8192 : Shape := ⟨4, ![4, 512, 4, 8192]⟩
abbrev S1x2048 : Shape := ⟨2, ![1, 2048]⟩

abbrev nBuf : Space → Nat
  | .hbm => 82
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S4x512x512, .f32⟩
  | .hbm, ⟨3, _⟩ => ⟨S2048, .f32⟩
  | .hbm, ⟨4, _⟩ => ⟨S32768x2048, .f32⟩
  | .hbm, ⟨5, _⟩ => ⟨S32768x2048, .f32⟩
  | .hbm, ⟨6, _⟩ => ⟨S4x8192x2048, .f32⟩
  | .hbm, ⟨7, _⟩ => ⟨S_, .f32⟩
  | .hbm, ⟨8, _⟩ => ⟨S_, .f32⟩
  | .hbm, ⟨9, _⟩ => ⟨S4x8192x2048, .f32⟩
  | .hbm, ⟨10, _⟩ => ⟨S_, .i32⟩
  | .hbm, ⟨11, _⟩ => ⟨S_, .f32⟩
  | .hbm, ⟨12, _⟩ => ⟨S4x8208x2048, .f32⟩
  | .hbm, ⟨13, _⟩ => ⟨S8192, .f32⟩
  | .hbm, ⟨14, _⟩ => ⟨S4x8192x512, .f32⟩
  | .hbm, ⟨15, _⟩ => ⟨S4x8192x512, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S1x8192x1, .f32⟩
  | .hbm, ⟨23, _⟩ => ⟨S4x8192x512, .f32⟩
  | .hbm, ⟨24, _⟩ => ⟨S4x8192x512, .f32⟩
  | .hbm, ⟨25, _⟩ => ⟨S4x8192x512, .f32⟩
  | .hbm, ⟨26, _⟩ => ⟨S4x8192x512, .f32⟩
  | .hbm, ⟨27, _⟩ => ⟨S4x8192x512, .f32⟩
  | .hbm, ⟨28, _⟩ => ⟨S4x8192x512, .f32⟩
  | .hbm, ⟨29, _⟩ => ⟨S4x8192x512, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S1x8192x1, .f32⟩
  | .hbm, ⟨37, _⟩ => ⟨S4x8192x512, .f32⟩
  | .hbm, ⟨38, _⟩ => ⟨S4x8192x512, .f32⟩
  | .hbm, ⟨39, _⟩ => ⟨S4x8192x512, .f32⟩
  | .hbm, ⟨40, _⟩ => ⟨S4x8192x512, .f32⟩
  | .hbm, ⟨41, _⟩ => ⟨S4x8192x512, .f32⟩
  | .hbm, ⟨42, _⟩ => ⟨S4x8192x512, .f32⟩
  | .hbm, ⟨43, _⟩ => ⟨S4x8192x512, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S1x8192x1, .f32⟩
  | .hbm, ⟨51, _⟩ => ⟨S4x8192x512, .f32⟩
  | .hbm, ⟨52, _⟩ => ⟨S4x8192x512, .f32⟩
  | .hbm, ⟨53, _⟩ => ⟨S4x8192x512, .f32⟩
  | .hbm, ⟨54, _⟩ => ⟨S4x8192x512, .f32⟩
  | .hbm, ⟨55, _⟩ => ⟨S4x8192x512, .f32⟩
  | .hbm, ⟨56, _⟩ => ⟨S4x8192x512, .f32⟩
  | .hbm, ⟨57, _⟩ => ⟨S4x8192x512, .f32⟩
  | .hbm, ⟨58, _⟩ => ⟨S_, .f32⟩
  | .hbm, ⟨59, _⟩ => ⟨S8192, .f32⟩
  | .hbm, ⟨60, _⟩ => ⟨S8192, .f32⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S1x8192x1, .f32⟩
  | .hbm, ⟨65, _⟩ => ⟨S4x8192x512, .f32⟩
  | .hbm, ⟨66, _⟩ => ⟨S4x8192x512, .f32⟩
  | .hbm, ⟨67, _⟩ => ⟨S4x8192x512, .f32⟩
  | .hbm, ⟨68, _⟩ => ⟨S4x8192x512, .f32⟩
  | .hbm, ⟨69, _⟩ => ⟨S4x8192x512, .f32⟩
  | .hbm, ⟨70, _⟩ => ⟨S4x8192x1x512, .f32⟩
  | .hbm, ⟨71, _⟩ => ⟨S4x8192x1x512, .f32⟩
  | .hbm, ⟨72, _⟩ => ⟨S4x8192x1x512, .f32⟩
  | .hbm, ⟨73, _⟩ => ⟨S4x8192x1x512, .f32⟩
  | .hbm, ⟨74, _⟩ => ⟨S4x8192x4x512, .f32⟩
  | .hbm, ⟨75, _⟩ => ⟨S4x512x4x8192, .f32⟩
  | .hbm, ⟨76, _⟩ => ⟨S4x8192x4x512, .f32⟩
  | .hbm, ⟨77, _⟩ => ⟨S32768x2048, .f32⟩
  | .hbm, ⟨78, _⟩ => ⟨S1x2048, .f32⟩
  | .hbm, ⟨79, _⟩ => ⟨S32768x2048, .f32⟩
  | .hbm, ⟨80, _⟩ => ⟨S32768x2048, .f32⟩
  | .hbm, ⟨81, _⟩ => ⟨S32768x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_call0_cst : Ref sig .tc := ⟨.hbm, 7, rfl⟩
abbrev main_call0_call0_v0 : Ref sig .tc := ⟨.hbm, 8, rfl⟩
abbrev main_v3 : Ref sig .tc := ⟨.hbm, 9, rfl⟩
abbrev main_c : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_5 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩

abbrev nD : Nat := 1
abbrev τ : Topo := Topo.v7x

variable {F : FTy → Type} [FloatOps F]
-- ==== Experts.lean ====
abbrev S32768x2048 : Shape := ⟨2, ![32768, 2048]⟩
abbrev S16384x2048 : Shape := ⟨2, ![16384, 2048]⟩
abbrev S8x128x32768 : Shape := ⟨3, ![8, 128, 32768]⟩
abbrev S2048 : Shape := ⟨1, ![2048]⟩
abbrev S32x512x2048 : Shape := ⟨3, ![32, 512, 2048]⟩
abbrev S32x2048x512 : Shape := ⟨3, ![32, 2048, 512]⟩
abbrev S1x2048 : Shape := ⟨2, ![1, 2048]⟩
abbrev S512x2048 : Shape := ⟨2, ![512, 2048]⟩
abbrev S1x512x2048 : Shape := ⟨3, ![1, 512, 2048]⟩
abbrev S1x2048x512 : Shape := ⟨3, ![1, 2048, 512]⟩
abbrev S8x128x512 : Shape := ⟨3, ![8, 128, 512]⟩
abbrev S2048x512 : Shape := ⟨2, ![2048, 512]⟩
abbrev S256x512 : Shape := ⟨2, ![256, 512]⟩
abbrev S64x512 : Shape := ⟨2, ![64, 512]⟩
abbrev S1x1x512 : Shape := ⟨3, ![1, 1, 512]⟩
abbrev S1x512 : Shape := ⟨2, ![1, 512]⟩
abbrev S1x256x2048 : Shape := ⟨3, ![1, 256, 2048]⟩
abbrev S256x2048 : Shape := ⟨2, ![256, 2048]⟩
abbrev S256x256 : Shape := ⟨2, ![256, 256]⟩
abbrev S1x256 : Shape := ⟨2, ![1, 256]⟩
abbrev S8x256 : Shape := ⟨2, ![8, 256]⟩
abbrev S1x8x256 : Shape := ⟨3, ![1, 8, 256]⟩
abbrev S1024x512 : Shape := ⟨2, ![1024, 512]⟩
abbrev S1x1024x256 : Shape := ⟨3, ![1, 1024, 256]⟩
abbrev S1024x256 : Shape := ⟨2, ![1024, 256]⟩
abbrev S512 : Shape := ⟨1, ![512]⟩
abbrev S512x1 : Shape := ⟨2, ![512, 1]⟩

abbrev nBuf : Space → Nat
  | .hbm => 18
  | .vmem => 23
  | .smem => 0
  | _ => 0

abbrev bufTy : (tb : Table) → Fin (tcTables nBuf tb) → BufTy
  | .hbm, ⟨0, _⟩ => ⟨S32768x2048, .bf16⟩
  | .hbm, ⟨1, _⟩ => ⟨S16384x2048, .f32⟩
  | .hbm, ⟨2, _⟩ => ⟨S16384x2048, .f32⟩
  | .hbm, ⟨3, _⟩ => ⟨S8x128x32768, .bf16⟩
  | .hbm, ⟨4, _⟩ => ⟨S8x128x32768, .f32⟩
  | .hbm, ⟨5, _⟩ => ⟨S8x128x32768, .f32⟩
  | .hbm, ⟨6, _⟩ => ⟨S32768x2048, .f32⟩
  | .hbm, ⟨7, _⟩ => ⟨S2048, .f32⟩
  | .hbm, ⟨8, _⟩ => ⟨S2048, .f32⟩
  | .hbm, ⟨9, _⟩ => ⟨S16384x2048, .bf16⟩
  | .hbm, ⟨10, _⟩ => ⟨S32x512x2048, .bf16⟩
  | .hbm, ⟨11, _⟩ => ⟨S16384x2048, .bf16⟩
  | .hbm, ⟨12, _⟩ => ⟨S32x512x2048, .bf16⟩
  | .hbm, ⟨13, _⟩ => ⟨S32x2048x512, .bf16⟩
  | .hbm, ⟨14, _⟩ => ⟨S1x2048, .f32⟩
  | .hbm, ⟨15, _⟩ => ⟨S1x2048, .f32⟩
  | .hbm, ⟨16, _⟩ => ⟨S32768x2048, .f32⟩
  | .hbm, ⟨17, _⟩ => ⟨S32768x2048, .bf16⟩
  | .local _ .vmem, ⟨0, _⟩ => ⟨S512x2048, .bf16⟩
  | .local _ .vmem, ⟨1, _⟩ => ⟨S512x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1x2048x512, .bf16⟩
  | .local _ .vmem, ⟨5, _⟩ => ⟨S1x2048x512, .bf16⟩
  | .local _ .vmem, ⟨6, _⟩ => ⟨S8x128x512, .bf16⟩
  | .local _ .vmem, ⟨7, _⟩ => ⟨S8x128x512, .bf16⟩
  | .local _ .vmem, ⟨8, _⟩ => ⟨S8x128x512, .f32⟩
  | .local _ .vmem, ⟨9, _⟩ => ⟨S8x128x512, .f32⟩
  | .local _ .vmem, ⟨10, _⟩ => ⟨S512x2048, .f32⟩
  | .local _ .vmem, ⟨11, _⟩ => ⟨S1x2048, .f32⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | .local _ .vmem, ⟨16, _⟩ => ⟨S512x2048, .bf16⟩
  | .local _ .vmem, ⟨17, _⟩ => ⟨S2048x512, .f32⟩
  | .local _ .vmem, ⟨18, _⟩ => ⟨S256x512, .f32⟩
  | .local _ .vmem, ⟨19, _⟩ => ⟨S256x512, .f32⟩
  | .local _ .vmem, ⟨20, _⟩ => ⟨S256x512, .bf16⟩
  | .local _ .vmem, ⟨21, _⟩ => ⟨S256x512, .bf16⟩
  | .local _ .vmem, ⟨22, _⟩ => ⟨S64x512, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![64, 33], ![false, false]⟩

def k0_off1 (i : grid0.Coords) (c0_i32_2 : BitVec 32) : Fin 3 → Nat :=
  let c0 : Index := 0#32
  let c127_i32 : BitVec 32 := 127#32
  let c0_i32_3 : BitVec 32 := 0#32
  let c2_i32 : BitVec 32 := 2#32
  let arg1 : BitVec 32 := BitVec.ofNat 32 (i 1).val
  let v3 : BitVec 32 := Scalar.muli c2_i32 arg1
  let c1_i32 : BitVec 32 := 1#32
  let v4 : BitVec 32 := Scalar.subi v3 c1_i32
  let c2_i32_1 : BitVec 32 := 2#32
  let v5 : BitVec 32 := Scalar.muli v4 c2_i32_1
  let v6 : BitVec 32 := Scalar.addi v5 c0_i32_2
  let v7 : BitVec 32 := Scalar.maxsi c0_i32_3 v6
  let v8 : BitVec 32 := Scalar.minsi c127_i32 v7
  let v9 : Index := Scalar.indexCast v8
  let c0_4 : Index := 0#32
  ![0, v9.toNat, 0]
def k0_off2 (i : grid0.Coords) (c0_i32_2 : BitVec 32) : Fin 3 → Nat :=
  let c1 : Index := 1#32
  let c127_i32 : BitVec 32 := 127#32
  let c0_i32_3 : BitVec 32 := 0#32
  let c2_i32 : BitVec 32 := 2#32
  let arg1 : BitVec 32 := BitVec.ofNat 32 (i 1).val
  let v3 : BitVec 32 := Scalar.muli c2_i32 arg1
  let c1_i32 : BitVec 32 := 1#32
  let v4 : BitVec 32 := Scalar.subi v3 c1_i32
  let c2_i32_1 : BitVec 32 := 2#32
  let v5 : BitVec 32 := Scalar.muli v4 c2_i32_1
  let v6 : BitVec 32 := Scalar.addi v5 c0_i32_2
  let v7 : BitVec 32 := Scalar.maxsi c0_i32_3 v6
  let v8 : BitVec 32 := Scalar.minsi c127_i32 v7
  let v21 : Index := Scalar.indexCast v8
  let c0_10 : Index := 0#32
  ![1, v21.toNat, 0]
def k0_off3 (i : grid0.Coords) (c0_i32_2 : BitVec 32) : Fin 3 → Nat :=
  let c2 : Index := 2#32
  let c127_i32 : BitVec 32 := 127#32
  let c0_i32_3 : BitVec 32 := 0#32
  let c2_i32 : BitVec 32 := 2#32
  let arg1 : BitVec 32 := BitVec.ofNat 32 (i 1).val
  let v3 : BitVec 32 := Scalar.muli c2_i32 arg1
  let c1_i32 : BitVec 32 := 1#32
  let v4 : BitVec 32 := Scalar.subi v3 c1_i32
  let c2_i32_1 : BitVec 32 := 2#32
  let v5 : BitVec 32 := Scalar.muli v4 c2_i32_1
  let v6 : BitVec 32 := Scalar.addi v5 c0_i32_2
  let v7 : BitVec 32 := Scalar.maxsi c0_i32_3 v6
  let v8 : BitVec 32 := Scalar.minsi c127_i32 v7
  let v33 : Index := Scalar.indexCast v8
  let c0_16 : Index := 0#32
  ![2, v33.toNat, 0]
def k0_off4 (i : grid0.Coords) (c0_i32_2 : BitVec 32) : Fin 3 → Nat :=
  let c3 : Index := 3#32
  let c127_i32 : BitVec 32 := 127#32
  let c0_i32_3 : BitVec 32 := 0#32
  let c2_i32 : BitVec 32 := 2#32
  let arg1 : BitVec 32 := BitVec.ofNat 32 (i 1).val
  let v3 : BitVec 32 := Scalar.muli c2_i32 arg1
  let c1_i32 : BitVec 32 := 1#32
  let v4 : BitVec 32 := Scalar.subi v3 c1_i32
  let c2_i32_1 : BitVec 32 := 2#32
  let v5 : BitVec 32 := Scalar.muli v4 c2_i32_1
  let v6 : BitVec 32 := Scalar.addi v5 c0_i32_2
  let v7 : BitVec 32 := Scalar.maxsi c0_i32_3 v6
  let v8 : BitVec 32 := Scalar.minsi c127_i32 v7
  let v45 : Index := Scalar.indexCast v8
  let c0_22 : Index := 0#32
  ![3, v45.toNat, 0]
def k0_off5 (i : grid0.Coords) (c0_i32_2 : BitVec 32) : Fin 3 → Nat :=
  let c4 : Index := 4#32
  let c127_i32 : BitVec 32 := 127#32
  let c0_i32_3 : BitVec 32 := 0#32
  let c2_i32 : BitVec 32 := 2#32
  let arg1 : BitVec 32 := BitVec.ofNat 32 (i 1).val
  let v3 : BitVec 32 := Scalar.muli c2_i32 arg1
  let c1_i32 : BitVec 32 := 1#32
  let v4 : BitVec 32 := Scalar.subi v3 c1_i32
  let c2_i32_1 : BitVec 32 := 2#32
  let v5 : BitVec 32 := Scalar.muli v4 c2_i32_1
  let v6 : BitVec 32 := Scalar.addi v5 c0_i32_2
  let v7 : BitVec 32 := Scalar.maxsi c0_i32_3 v6
  let v8 : BitVec 32 := Scalar.minsi c127_i32 v7
  let v57 : Index := Scalar.indexCast v8
  let c0_28 : Index := 0#32
  ![4, v57.toNat, 0]
def k0_off6 (i : grid0.Coords) (c0_i32_2 : BitVec 32) : Fin 3 → Nat :=
  let c5 : Index := 5#32
  let c127_i32 : BitVec 32 := 127#32
  let c0_i32_3 : BitVec 32 := 0#32
  let c2_i32 : BitVec 32 := 2#32
  let arg1 : BitVec 32 := BitVec.ofNat 32 (i 1).val
  let v3 : BitVec 32 := Scalar.muli c2_i32 arg1
  let c1_i32 : BitVec 32 := 1#32
  let v4 : BitVec 32 := Scalar.subi v3 c1_i32
  let c2_i32_1 : BitVec 32 := 2#32
  let v5 : BitVec 32 := Scalar.muli v4 c2_i32_1
  let v6 : BitVec 32 := Scalar.addi v5 c0_i32_2
  let v7 : BitVec 32 := Scalar.maxsi c0_i32_3 v6
  let v8 : BitVec 32 := Scalar.minsi c127_i32 v7
  let v69 : Index := Scalar.indexCast v8
  let c0_34 : Index := 0#32
  ![5, v69.toNat, 0]
def k0_off7 (i : grid0.Coords) (c0_i32_2 : BitVec 32) : Fin 3 → Nat :=
  let c6 : Index := 6#32
  let c127_i32 : BitVec 32 := 127#32
  let c0_i32_3 : BitVec 32 := 0#32
  let c2_i32 : BitVec 32 := 2#32
  let arg1 : BitVec 32 := BitVec.ofNat 32 (i 1).val
  let v3 : BitVec 32 := Scalar.muli c2_i32 arg1
  let c1_i32 : BitVec 32 := 1#32
  let v4 : BitVec 32 := Scalar.subi v3 c1_i32
  let c2_i32_1 : BitVec 32 := 2#32
  let v5 : BitVec 32 := Scalar.muli v4 c2_i32_1
  let v6 : BitVec 32 := Scalar.addi v5 c0_i32_2
  let v7 : BitVec 32 := Scalar.maxsi c0_i32_3 v6
  let v8 : BitVec 32 := Scalar.minsi c127_i32 v7
  let v81 : Index := Scalar.indexCast v8
  let c0_40 : Index := 0#32
  ![6, v81.toNat, 0]
def k0_off8 (i : grid0.Coords) (c0_i32_2 : BitVec 32) : Fin 3 → Nat :=
  let c7 : Index := 7#32
  let c127_i32 : BitVec 32 := 127#32
  let c0_i32_3 : BitVec 32 := 0#32
  let c2_i32 : BitVec 32 := 2#32
  let arg1 : BitVec 32 := BitVec.ofNat 32 (i 1).val
  let v3 : BitVec 32 := Scalar.muli c2_i32 arg1
  let c1_i32 : BitVec 32 := 1#32
  let v4 : BitVec 32 := Scalar.subi v3 c1_i32
  let c2_i32_1 : BitVec 32 := 2#32
  let v5 : BitVec 32 := Scalar.muli v4 c2_i32_1
  let v6 : BitVec 32 := Scalar.addi v5 c0_i32_2
  let v7 : BitVec 32 := Scalar.maxsi c0_i32_3 v6
  let v8 : BitVec 32 := Scalar.minsi c127_i32 v7
  let v93 : Index := Scalar.indexCast v8
  let c0_46 : Index := 0#32
  ![7, v93.toNat, 0]
def k0_off9 (i : grid0.Coords) (c0_i32_106 : BitVec 32) : Fin 3 → Nat :=
  let c0_109 : Index := 0#32
  let c127_i32_108 : BitVec 32 := 127#32
  let c0_i32_107 : BitVec 32 := 0#32
  let c2_i32_104 : BitVec 32 := 2#32
  let arg1 : BitVec 32 := BitVec.ofNat 32 (i 1).val
  let v205 : BitVec 32 := Scalar.muli c2_i32_104 arg1
  let c2_i32_105 : BitVec 32 := 2#32
  let v206 : BitVec 32 := Scalar.muli v205 c2_i32_105
  let v207 : BitVec 32 := Scalar.addi v206 c0_i32_106
  let v208 : BitVec 32 := Scalar.maxsi c0_i32_107 v207
  let v209 : BitVec 32 := Scalar.minsi c127_i32_108 v208
  let v210 : Index := Scalar.indexCast v209
  let c0_110 : Index := 0#32
  ![0, v210.toNat, 0]
def k0_off10 (i : grid0.Coords) (c0_i32_106 : BitVec 32) : Fin 3 → Nat :=
  let c1_115 : Index := 1#32
  let c127_i32_108 : BitVec 32 := 127#32
  let c0_i32_107 : BitVec 32 := 0#32
  let c2_i32_104 : BitVec 32 := 2#32
  let arg1 : BitVec 32 := BitVec.ofNat 32 (i 1).val
  let v205 : BitVec 32 := Scalar.muli c2_i32_104 arg1
  let c2_i32_105 : BitVec 32 := 2#32
  let v206 : BitVec 32 := Scalar.muli v205 c2_i32_105
  let v207 : BitVec 32 := Scalar.addi v206 c0_i32_106
  let v208 : BitVec 32 := Scalar.maxsi c0_i32_107 v207
  let v209 : BitVec 32 := Scalar.minsi c127_i32_108 v208
  let v222 : Index := Scalar.indexCast v209
  let c0_116 : Index := 0#32
  ![1, v222.toNat, 0]
def k0_off11 (i : grid0.Coords) (c0_i32_106 : BitVec 32) : Fin 3 → Nat :=
  let c2_121 : Index := 2#32
  let c127_i32_108 : BitVec 32 := 127#32
  let c0_i32_107 : BitVec 32 := 0#32
  let c2_i32_104 : BitVec 32 := 2#32
  let arg1 : BitVec 32 := BitVec.ofNat 32 (i 1).val
  let v205 : BitVec 32 := Scalar.muli c2_i32_104 arg1
  let c2_i32_105 : BitVec 32 := 2#32
  let v206 : BitVec 32 := Scalar.muli v205 c2_i32_105
  let v207 : BitVec 32 := Scalar.addi v206 c0_i32_106
  let v208 : BitVec 32 := Scalar.maxsi c0_i32_107 v207
  let v209 : BitVec 32 := Scalar.minsi c127_i32_108 v208
  let v234 : Index := Scalar.indexCast v209
  let c0_122 : Index := 0#32
  ![2, v234.toNat, 0]
def k0_off12 (i : grid0.Coords) (c0_i32_106 : BitVec 32) : Fin 3 → Nat :=
  let c3_127 : Index := 3#32
  let c127_i32_108 : BitVec 32 := 127#32
  let c0_i32_107 : BitVec 32 := 0#32
  let c2_i32_104 : BitVec 32 := 2#32
  let arg1 : BitVec 32 := BitVec.ofNat 32 (i 1).val
  let v205 : BitVec 32 := Scalar.muli c2_i32_104 arg1
  let c2_i32_105 : BitVec 32 := 2#32
  let v206 : BitVec 32 := Scalar.muli v205 c2_i32_105
  let v207 : BitVec 32 := Scalar.addi v206 c0_i32_106
  let v208 : BitVec 32 := Scalar.maxsi c0_i32_107 v207
  let v209 : BitVec 32 := Scalar.minsi c127_i32_108 v208
  let v246 : Index := Scalar.indexCast v209
  let c0_128 : Index := 0#32
  ![3, v246.toNat, 0]
def k0_off13 (i : grid0.Coords) (c0_i32_106 : BitVec 32) : Fin 3 → Nat :=
  let c4_133 : Index := 4#32
  let c127_i32_108 : BitVec 32 := 127#32
  let c0_i32_107 : BitVec 32 := 0#32
  let c2_i32_104 : BitVec 32 := 2#32
  let arg1 : BitVec 32 := BitVec.ofNat 32 (i 1).val
  let v205 : BitVec 32 := Scalar.muli c2_i32_104 arg1
  let c2_i32_105 : BitVec 32 := 2#32
  let v206 : BitVec 32 := Scalar.muli v205 c2_i32_105
  let v207 : BitVec 32 := Scalar.addi v206 c0_i32_106
  let v208 : BitVec 32 := Scalar.maxsi c0_i32_107 v207
  let v209 : BitVec 32 := Scalar.minsi c127_i32_108 v208
  let v258 : Index := Scalar.indexCast v209
  let c0_134 : Index := 0#32
  ![4, v258.toNat, 0]
def k0_off14 (i : grid0.Coords) (c0_i32_106 : BitVec 32) : Fin 3 → Nat :=
  let c5_139 : Index := 5#32
  let c127_i32_108 : BitVec 32 := 127#32
  let c0_i32_107 : BitVec 32 := 0#32
  let c2_i32_104 : BitVec 32 := 2#32
  let arg1 : BitVec 32 := BitVec.ofNat 32 (i 1).val
  let v205 : BitVec 32 := Scalar.muli c2_i32_104 arg1
  let c2_i32_105 : BitVec 32 := 2#32
  let v206 : BitVec 32 := Scalar.muli v205 c2_i32_105
  let v207 : BitVec 32 := Scalar.addi v206 c0_i32_106
  let v208 : BitVec 32 := Scalar.maxsi c0_i32_107 v207
  let v209 : BitVec 32 := Scalar.minsi c127_i32_108 v208
  let v270 : Index := Scalar.indexCast v209
  let c0_140 : Index := 0#32
  ![5, v270.toNat, 0]
def k0_off15 (i : grid0.Coords) (c0_i32_106 : BitVec 32) : Fin 3 → Nat :=
  let c6_145 : Index := 6#32
  let c127_i32_108 : BitVec 32 := 127#32
  let c0_i32_107 : BitVec 32 := 0#32
  let c2_i32_104 : BitVec 32 := 2#32
  let arg1 : BitVec 32 := BitVec.ofNat 32 (i 1).val
  let v205 : BitVec 32 := Scalar.muli c2_i32_104 arg1
  let c2_i32_105 : BitVec 32 := 2#32
  let v206 : BitVec 32 := Scalar.muli v205 c2_i32_105
  let v207 : BitVec 32 := Scalar.addi v206 c0_i32_106
  let v208 : BitVec 32 := Scalar.maxsi c0_i32_107 v207
  let v209 : BitVec 32 := Scalar.minsi c127_i32_108 v208
  let v282 : Index := Scalar.indexCast v209
  let c0_146 : Index := 0#32
  ![6, v282.toNat, 0]
def k0_off16 (i : grid0.Coords) (c0_i32_106 : BitVec 32) : Fin 3 → Nat :=
  let c7_151 : Index := 7#32
  let c127_i32_108 : BitVec 32 := 127#32
  let c0_i32_107 : BitVec 32 := 0#32
  let c2_i32_104 : BitVec 32 := 2#32
  let arg1 : BitVec 32 := BitVec.ofNat 32 (i 1).val
  let v205 : BitVec 32 := Scalar.muli c2_i32_104 arg1
  let c2_i32_105 : BitVec 32 := 2#32
  let v206 : BitVec 32 := Scalar.muli v205 c2_i32_105
  let v207 : BitVec 32 := Scalar.addi v206 c0_i32_106
  let v208 : BitVec 32 := Scalar.maxsi c0_i32_107 v207
  let v209 : BitVec 32 := Scalar.minsi c127_i32_108 v208
  let v294 : Index := Scalar.indexCast v209
  let c0_152 : Index := 0#32
  ![7, v294.toNat, 0]
def k0_cond2 (i : grid0.Coords) : BitVec 1 :=
  let arg1 : BitVec 32 := BitVec.ofNat 32 (i 1).val
  let c32_i32 : BitVec 32 := 32#32
  let v8798 : BitVec 1 := Scalar.cmpi .eq arg1 c32_i32
  let v8799 : BitVec 32 := Scalar.extui v8798
  let c0_i32_4486 : BitVec 32 := 0#32
  let v8800 : BitVec 1 := Scalar.cmpi .ne v8799 c0_i32_4486
  v8800

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S8x128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S8x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S512x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ExpertsRefIdeal.lean ====
abbrev S32768x2048 : Shape := ⟨2, ![32768, 2048]⟩
abbrev S16384x2048 : Shape := ⟨2, ![16384, 2048]⟩
abbrev S8x128x32768 : Shape := ⟨3, ![8, 128, 32768]⟩
abbrev S2048 : Shape := ⟨1, ![2048]⟩
abbrev S8x1x128x32768 : Shape := ⟨4, ![8, 1, 128, 32768]⟩
abbrev S8x128x1x32768 : Shape := ⟨4, ![8, 128, 1, 32768]⟩
abbrev S8x128x128x32768 : Shape := ⟨4, ![8, 128, 128, 32768]⟩
abbrev S_ : Shape := ⟨0, ![]⟩
abbrev S128x128x32768 : Shape := ⟨3, ![128, 128, 32768]⟩
abbrev S2048x16384 : Shape := ⟨2, ![2048, 16384]⟩
abbrev S32768x16384 : Shape := ⟨2, ![32768, 16384]⟩
abbrev S16384x32768 : Shape := ⟨2, ![16384, 32768]⟩
abbrev S32768 : Shape := ⟨1, ![32768]⟩
abbrev S32768x1 : Shape := ⟨2, ![32768, 1]⟩
abbrev S1x2048 : Shape := ⟨2, ![1, 2048]⟩

abbrev nBuf : Space → Nat
  | .hbm => 77
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S16384x2048, .f32⟩
  | .hbm, ⟨2, _⟩ => ⟨S16384x2048, .f32⟩
  | .hbm, ⟨3, _⟩ => ⟨S8x128x32768, .bf16⟩
  | .hbm, ⟨4, _⟩ => ⟨S8x128x32768, .f32⟩
  | .hbm, ⟨5, _⟩ => ⟨S8x128x32768, .f32⟩
  | .hbm, ⟨6, _⟩ => ⟨S32768x2048, .f32⟩
  | .hbm, ⟨7, _⟩ => ⟨S2048, .f32⟩
  | .hbm, ⟨8, _⟩ => ⟨S2048, .f32⟩
  | .hbm, ⟨9, _⟩ => ⟨S8x128x32768, .f32⟩
  | .hbm, ⟨10, _⟩ => ⟨S8x1x128x32768, .f32⟩
  | .hbm, ⟨11, _⟩ => ⟨S8x128x1x32768, .f32⟩
  | .hbm, ⟨12, _⟩ => ⟨S8x128x128x32768, .f32⟩
  | .hbm, ⟨13, _⟩ => ⟨S8x128x128x32768, .f32⟩
  | .hbm, ⟨14, _⟩ => ⟨S8x128x128x32768, .i1⟩
  | .hbm, ⟨15, _⟩ => ⟨S8x128x1x32768, .f32⟩
  | .hbm, ⟨16, _⟩ => ⟨S8x128x128x32768, .f32⟩
  | .hbm, ⟨17, _⟩ => ⟨S8x128x128x32768, .f32⟩
  | .hbm, ⟨18, _⟩ => ⟨S8x128x128x32768, .f32⟩
  | .hbm, ⟨19, _⟩ => ⟨S_, .f32⟩
  | .hbm, ⟨20, _⟩ => ⟨S_, .f32⟩
  | .hbm, ⟨21, _⟩ => ⟨S8x128x128x32768, .f32⟩
  | .hbm, ⟨22, _⟩ => ⟨S8x128x128x32768, .f32⟩
  | .hbm, ⟨23, _⟩ => ⟨S_, .f32⟩
  | .hbm, ⟨24, _⟩ => ⟨S128x128x32768, .f32⟩
  | .hbm, ⟨25, _⟩ => ⟨S32768x2048, .f32⟩
  | .hbm, ⟨26, _⟩ => ⟨S2048x16384, .f32⟩
  | .hbm, ⟨27, _⟩ => ⟨S32768x16384, .f32⟩
  | .hbm, ⟨28, _⟩ => ⟨S_, .f32⟩
  | .hbm, ⟨29, _⟩ => ⟨S32768x16384, .f32⟩
  | .hbm, ⟨30, _⟩ => ⟨S32768x16384, .f32⟩
  | .hbm, ⟨31, _⟩ => ⟨S_, .f32⟩
  | .hbm, ⟨32, _⟩ => ⟨S32768x16384, .f32⟩
  | .hbm, ⟨33, _⟩ => ⟨S32768x16384, .f32⟩
  | .hbm, ⟨34, _⟩ => ⟨S32768x16384, .f32⟩
  | .hbm, ⟨35, _⟩ => ⟨S_, .f32⟩
  | .hbm, ⟨36, _⟩ => ⟨S32768x16384, .f32⟩
  | .hbm, ⟨37, _⟩ => ⟨S32768x16384, .f32⟩
  | .hbm, ⟨38, _⟩ => ⟨S32768x16384, .f32⟩
  | .hbm, ⟨39, _⟩ => ⟨S16384x32768, .f32⟩
  | .hbm, ⟨40, _⟩ => ⟨S32768x16384, .f32⟩
  | .hbm, ⟨41, _⟩ => ⟨S32768x16384, .f32⟩
  | .hbm, ⟨42, _⟩ => ⟨S_, .f32⟩
  | .hbm, ⟨43, _⟩ => ⟨S32768x2048, .f32⟩
  | .hbm, ⟨44, _⟩ => ⟨S32768x2048, .f32⟩
  | .hbm, ⟨45, _⟩ => ⟨S32768x2048, .f32⟩
  | .hbm, ⟨46, _⟩ => ⟨S32768x2048, .f32⟩
  | .hbm, ⟨47, _⟩ => ⟨S_, .f32⟩
  | .hbm, ⟨48, _⟩ => ⟨S32768, .f32⟩
  | .hbm, ⟨49, _⟩ => ⟨S32768x1, .f32⟩
  | .hbm, ⟨50, _⟩ => ⟨S_, .f32⟩
  | .hbm, ⟨51, _⟩ => ⟨S32768x1, .f32⟩
  | .hbm, ⟨52, _⟩ => ⟨S32768x1, .f32⟩
  | .hbm, ⟨53, _⟩ => ⟨S32768x2048, .f32⟩
  | .hbm, ⟨54, _⟩ => ⟨S32768x2048, .f32⟩
  | .hbm, ⟨55, _⟩ => ⟨S32768x2048, .f32⟩
  | .hbm, ⟨56, _⟩ => ⟨S_, .f32⟩
  | .hbm, ⟨57, _⟩ => ⟨S32768, .f32⟩
  | .hbm, ⟨58, _⟩ => ⟨S32768x1, .f32⟩
  | .hbm, ⟨59, _⟩ => ⟨S_, .f32⟩
  | .hbm, ⟨60, _⟩ => ⟨S32768x1, .f32⟩
  | .hbm, ⟨61, _⟩ => ⟨S32768x1, .f32⟩
  | .hbm, ⟨62, _⟩ => ⟨S32768x2048, .f32⟩
  | .hbm, ⟨63, _⟩ => ⟨S32768x2048, .f32⟩
  | .hbm, ⟨64, _⟩ => ⟨S_, .f32⟩
  | .hbm, ⟨65, _⟩ => ⟨S32768x1, .f32⟩
  | .hbm, ⟨66, _⟩ => ⟨S32768x1, .f32⟩
  | .hbm, ⟨67, _⟩ => ⟨S32768x1, .f32⟩
  | .hbm, ⟨68, _⟩ => ⟨S32768x2048, .f32⟩
  | .hbm, ⟨69, _⟩ => ⟨S32768x2048, .f32⟩
  | .hbm, ⟨70, _⟩ => ⟨S1x2048, .f32⟩
  | .hbm, ⟨71, _⟩ => ⟨S32768x2048, .f32⟩
  | .hbm, ⟨72, _⟩ => ⟨S32768x2048, .f32⟩
  | .hbm, ⟨73, _⟩ => ⟨S1x2048, .f32⟩
  | .hbm, ⟨74, _⟩ => ⟨S32768x2048, .f32⟩
  | .hbm, ⟨75, _⟩ => ⟨S32768x2048, .f32⟩
  | .hbm, ⟨76, _⟩ => ⟨S32768x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]
-- ==== Proof.Softmax.lean ====
/- Masked softmax averages over the extended reals: the finite facts that the two attention programs are compared by. -/
module

public import Idealize.ShloMosaic.PureOps.Ideal.Laws
public import Idealize.ShloMosaic.Lib.ValueIdx

@[expose] public section

noncomputable section

namespace Cert.Softmax

open Idealize.ShloMosaic

/-- A score that is kept as a real number or masked to `-∞`. -/
def score (keep : Prop) [Decidable keep] (s : ℝ) : EReal := if keep then (s : EReal) else ⊥

variable {ι : Type*} [Fintype ι]

/-- The largest of finitely many scores, one of them kept, is a real number. -/
theorem sup_real (keep : ι → Prop) [DecidablePred keep] (s : ι → ℝ) (h : ∃ i, keep i) :
    ∃ μ : ℝ, (Finset.univ.sup fun i => score (keep i) (s i)) = (μ : EReal) := by
  have hlo : (Finset.univ.sup fun i => score (keep i) (s i)) ≠ ⊥ := by
    obtain ⟨i, hi⟩ := h
    have := Finset.le_sup (f := fun i => score (keep i) (s i)) (Finset.mem_univ i)
    intro hb
    rw [hb] at this
    simp [score, hi] at this
  have hhi : (Finset.univ.sup fun i => score (keep i) (s i)) ≠ ⊤ := by
    apply ne_of_lt
    rw [Finset.sup_lt_iff (by simp)]
    intro i _
    unfold score
    split
    · exact EReal.coe_lt_top _
    · exact bot_lt_top
  exact ⟨_, (EReal.coe_toReal hhi hlo).symm⟩

/-- The exponential of a score less a real number, as a real number: zero where the score is masked. -/
def weight (keep : Prop) [Decidable keep] (s μ : ℝ) : ℝ := if keep then Real.exp (s - μ) else 0

theorem exp_score (keep : Prop) [Decidable keep] (s μ : ℝ) :
    Ideal.exp (score keep s - (μ : EReal)) = (weight keep s μ : EReal) := by
  unfold score weight
  split
  · rw [← EReal.coe_sub]; rfl
  · rw [EReal.bot_sub]; rfl

theorem coe_sum (f : ι → ℝ) : (∑ i, (f i : EReal)) = ((∑ i, f i : ℝ) : EReal) := by
  classical
  induction (Finset.univ : Finset ι) using Finset.induction_on with
  | empty => simp
  | insert a s ha ih => rw [Finset.sum_insert ha, Finset.sum_insert ha, ih, EReal.coe_add]

theorem sum_weight_pos (keep : ι → Prop) [DecidablePred keep] (s : ι → ℝ) (μ : ℝ) (h : ∃ i, keep i) :
    0 < ∑ i, weight (keep i) (s i) μ := by
  obtain ⟨i, hi⟩ := h
  refine Finset.sum_pos' (fun j _ => ?_) ⟨i, Finset.mem_univ i, ?_⟩
  · unfold weight; split
    · exact (Real.exp_pos _).le
    · exact le_rfl
  · simp only [weight, hi, if_true]; exact Real.exp_pos _

/-- **Dividing the weighted sum once is averaging with divided weights.** With real scores, some masked and at least one
    kept, the sum of the exponentials times the values divided by the sum of the exponentials equals the sum of the values
    times the quotients; the two families of values need to agree only where the score is kept. -/
theorem average_eq (keep : ι → Prop) [DecidablePred keep] (s v v' : ι → ℝ) (h : ∃ i, keep i)
    (hv : ∀ i, keep i → v i = v' i) (M : EReal) (hM : M = Finset.univ.sup fun i => score (keep i) (s i)) :
    Ideal.div (∑ i, Ideal.exp (score (keep i) (s i) - M) * (v i : EReal)) (∑ i, Ideal.exp (score (keep i) (s i) - M))
      = ∑ i, (v' i : EReal) * Ideal.div (Ideal.exp (score (keep i) (s i) - M)) (∑ i, Ideal.exp (score (keep i) (s i) - M)) := by
  obtain ⟨μ, hμ⟩ := sup_real keep s h
  rw [hM, hμ]
  simp only [exp_score]
  have hpos := sum_weight_pos keep s μ h
  rw [coe_sum]
  simp only [Ideal.div_coe hpos.ne', ← EReal.coe_mul, coe_sum]
  congr 1
  rw [Finset.sum_mul]
  refine Finset.sum_congr rfl fun i _ => ?_
  by_cases hi : keep i
  · rw [hv i hi]; ring
  · simp [weight, hi]

/-- A sum over a longer axis that vanishes outside a window is the sum over the window. -/
theorem sum_window {A : Type*} [AddCommMonoid A] {n k : ℕ} (off : ℕ) (hk : off + k ≤ n) (f : Fin n → A)
    (hf : ∀ w : Fin n, ¬ (off ≤ w.val ∧ w.val < off + k) → f w = 0) :
    (∑ w, f w) = ∑ j : Fin k, f ⟨off + j.val, by have := j.isLt; omega⟩ := by
  classical
  symm
  refine Finset.sum_of_injOn (fun j : Fin k => (⟨off + j.val, by have := j.isLt; omega⟩ : Fin n)) ?_ ?_ ?_ ?_
  · intro a _ b _ hab
    have : off + a.val = off + b.val := congrArg Fin.val hab
    exact Fin.ext (by omega)
  · intro j _; simp
  · intro w _ hw
    refine hf w fun hin => hw ⟨⟨w.val - off, by omega⟩, by simp, Fin.ext (by simp only []; omega)⟩
  · intro j _; rfl

/-- A maximum over a longer axis that is `-∞` outside a window is the maximum over the window. -/
theorem sup_window {n k : ℕ} (off : ℕ) (hk : off + k ≤ n) (f : Fin n → EReal)
    (hf : ∀ w : Fin n, ¬ (off ≤ w.val ∧ w.val < off + k) → f w = ⊥) :
    Finset.univ.sup f = Finset.univ.sup fun j : Fin k => f ⟨off + j.val, by have := j.isLt; omega⟩ := by
  apply le_antisymm
  · refine Finset.sup_le fun w _ => ?_
    by_cases hw : off ≤ w.val ∧ w.val < off + k
    · have := Finset.le_sup (f := fun j : Fin k => f ⟨off + j.val, by have := j.isLt; omega⟩)
        (Finset.mem_univ (⟨w.val - off, by omega⟩ : Fin k))
      refine le_trans (le_of_eq ?_) this
      congr 1
      exact Fin.ext (by simp only []; omega)
    · rw [hf w hw]; exact bot_le
  · refine Finset.sup_le fun j _ => Finset.le_sup (f := f) (Finset.mem_univ _)

/-- Folding `max` from `-∞` is taking the supremum. -/
theorem fold_max_bot (f : ι → EReal) : (Finset.univ : Finset ι).fold max ⊥ f = Finset.univ.sup f := by
  classical
  induction (Finset.univ : Finset ι) using Finset.induction_on with
  | empty => simp
  | insert a s ha ih => rw [Finset.fold_insert ha, Finset.sup_insert, ih]

/-- A sum over `p + q` lanes is the sum over the first `p` and the sum over the last `q`. -/
theorem sum_split {A : Type*} [AddCommMonoid A] {n : ℕ} (p q : ℕ) (h : n = p + q) (f : Fin n → A) :
    (∑ w, f w) = (∑ a : Fin p, f ⟨a.val, by have := a.isLt; omega⟩) + ∑ b : Fin q, f ⟨p + b.val, by have := b.isLt; omega⟩ := by
  subst h
  rw [Fin.sum_univ_add]
  rfl

end Cert.Softmax

end
-- ==== Proof.Block.lean ====
/- What one grid point of the attention kernel leaves in its output block: the masked scores of a 512-row tile, their
   exponentials and row sums, and the divided weighted sum of the values, each as one function of the block's inputs. -/
module

public import proofs.«01_k».proof.Proof.Gen.AttnIdeal.Value
public import Idealize.ShloMosaic.Lib.Pipeline.ValueKit
public import Idealize.ShloMosaic.Lib.Pipeline.ReadBack
public import Idealize.ShloMosaic.Lib.Pointwise
public import Idealize.ShloMosaic.Lib.ValueIdx
public import proofs.«01_k».proof.Proof.Softmax

@[expose] public section

set_option maxRecDepth 16384

noncomputable section

namespace Cert.AttnIdeal.Block

open Cert.AttnIdeal Cert.AttnIdeal.Gen Idealize.ShloMosaic Idealize.ShloMosaic.TcCoe Idealize.SL.Sem

/-- Loads of a scratch buffer that was stored piece by piece, when every piece is its part of one function `G` and the
    pieces cover the buffer: each load reads its part of `G`. -/
theorem readCov_of_pieces {sig : RefSig} {κ : Kind} {sp : Space} {s : Shape} {e : EltTy} (v : View sig κ sp s e)
    (G : s.Idx → Elt Ideal e) (L : List (View.Piece (Elt Ideal) s e)) (hL : View.PiecesOf G L)
    (hc : ∀ y, ∃ p ∈ L, y ∈ p.1.set) (r : Rect s) : v.readCov L r.toLoadRect = View.ld G r := by
  rw [View.readCov_eq_canon_ld v L r hc]
  congr 1
  funext y
  exact View.canon_apply_of_pieces G L hL.mem y (hc y)

/-- The lane's key among the 1024 keys of the two tiles in view, taken in its own tile. -/
def key (n : ℕ) : Fin 512 := ⟨n % 512, Nat.mod_lt _ (by decide)⟩

/-- The scaled product of a query row and a key row, plus a table entry. -/
def dotBias (q k : S512x128.Idx → EReal) (b : S1x512x512.Idx → EReal) (r : Fin 512) (n : Fin 512) : EReal :=
  (∑ d : Fin 128, q (ix2 r d) * k (ix2 n d)) * Ideal.ofBits .f32 0x3DB504F3#32 + b (ix3 0 r n)

/-- The 512 × 640 scores of a tile: row `r` sees the keys from `r / 128 * 128` on, first the previous tile's (masked in
    the first tile), then its own. -/
def scores (first : Prop) [Decidable first] (q kp kc : S512x128.Idx → EReal) (bp bc : S1x512x512.Idx → EReal) (y : S512x640.Idx) : EReal :=
  if (y 0).val / 128 * 128 + (y 1).val < 512 then
    if first then ⊥ else dotBias q kp bp (y 0) (key ((y 0).val / 128 * 128 + (y 1).val))
  else dotBias q kc bc (y 0) (key ((y 0).val / 128 * 128 + (y 1).val))

variable (i : grid0.Coords) (x0 x1 x2 x3 x4 : Vec Ideal S512x128 .bf16) (x5 x6 : Vec Ideal S1x512x512 .f32)

/-- A lane in the previous tile. -/
theorem scores_prev (first : Prop) [Decidable first] (q kp kc : S512x128.Idx → EReal) (bp bc : S1x512x512.Idx → EReal)
    (y : S512x640.Idx) (r n : Fin 512) (hr : (y 0).val = r.val) (hn : r.val / 128 * 128 + (y 1).val = n.val) :
    scores first q kp kc bp bc y = if first then ⊥ else dotBias q kp bp r n := by
  have h0 : y 0 = r := Fin.ext hr
  have hk : key (r.val / 128 * 128 + (y 1).val) = n := Fin.ext (by show _ % 512 = _; have := n.isLt; omega)
  unfold scores
  rw [h0, if_pos (by have := n.isLt; omega), hk]

/-- A lane in the tile itself. -/
theorem scores_cur (first : Prop) [Decidable first] (q kp kc : S512x128.Idx → EReal) (bp bc : S1x512x512.Idx → EReal)
    (y : S512x640.Idx) (r n : Fin 512) (hr : (y 0).val = r.val) (hn : r.val / 128 * 128 + (y 1).val = 512 + n.val) :
    scores first q kp kc bp bc y = dotBias q kc bc r n := by
  have h0 : y 0 = r := Fin.ext hr
  have hk : key (r.val / 128 * 128 + (y 1).val) = n := Fin.ext (by show _ % 512 = _; have := n.isLt; omega)
  unfold scores
  rw [h0, if_neg (by omega), hk]

/-- The kernel's choice of the mask in the first tile. -/
theorem select_first (a : EReal) :
    (Scalar.select (Scalar.cmpi CmpIPredicate.eq (BitVec.ofNat 32 (i 2).val) 0#32) (Named.named (F := Ideal) (φ := .f32) κ "mask" 0xF149F2CA#32) a : EReal)
      = if (i 2).val = 0 then ⊥ else a := by
  have hlt : (i 2).val < 16 := (i 2).isLt
  by_cases h : (i 2).val = 0
  · rw [h]; rfl
  · rw [if_neg h]
    have hb : BitVec.ofNat 32 (i 2).val ≠ 0#32 := fun hb => h (by
      have := congrArg BitVec.toNat hb
      rw [BitVec.toNat_ofNat] at this
      have h0 : (0#32).toNat = 0 := rfl
      omega)
    have : Scalar.cmpi CmpIPredicate.eq (BitVec.ofNat 32 (i 2).val) 0#32 = 0#1 := by
      show BitVec.ofBool _ = _; rw [beq_eq_false_iff_ne.mpr hb]; rfl
    rw [this]; rfl

/-- The stores into the score buffer, the last first. -/
abbrev scoreStores : List (View.Piece (Elt Ideal) S512x640 .f32) :=
  [⟨Rect.unit ![384, 128] ![128, 512] inb_S512x640_S128x512_384_128,
      k0_pay14 (k0_pay13 (View.ld x0 (Rect.unit ![384, 0] ![128, 128] inb_S512x128_S128x128_384_0)) x2)
        (View.ld x6 (Rect.unit ![0, 384, 0] ![1, 128, 512] inb_S1x512x512_S1x128x512_0_384_0))⟩,
    ⟨Rect.unit ![384, 0] ![128, 128] inb_S512x640_S128x128_384_0,
      k0_pay12 (BitVec.ofNat 32 (i 2).val) (View.ld x0 (Rect.unit ![384, 0] ![128, 128] inb_S512x128_S128x128_384_0))
        (View.ld x1 (Rect.unit ![384, 0] ![128, 128] inb_S512x128_S128x128_384_0))
        (View.ld x5 (Rect.unit ![0, 384, 384] ![1, 128, 128] inb_S1x512x512_S1x128x128_0_384_384))⟩,
    ⟨Rect.unit ![256, 256] ![128, 384] inb_S512x640_S128x384_256_256,
      k0_pay11 (View.ld x0 (Rect.unit ![256, 0] ![128, 128] inb_S512x128_S128x128_256_0))
        (View.ld x2 (Rect.unit ![0, 0] ![384, 128] inb_S512x128_S384x128_0_0))
        (View.ld x6 (Rect.unit ![0, 256, 0] ![1, 128, 384] inb_S1x512x512_S1x128x384_0_256_0))⟩,
    ⟨Rect.unit ![256, 0] ![128, 256] inb_S512x640_S128x256_256_0,
      k0_pay10 (k0_pay8 (View.ld x0 (Rect.unit ![256, 0] ![128, 128] inb_S512x128_S128x128_256_0))
          (View.ld x1 (Rect.unit ![256, 0] ![256, 128] inb_S512x128_S256x128_256_0))
          (View.ld x5 (Rect.unit ![0, 256, 256] ![1, 128, 256] inb_S1x512x512_S1x128x256_0_256_256)))
        (Scalar.cmpi CmpIPredicate.eq (BitVec.ofNat 32 (i 2).val) 0#32) k0_pay9⟩,
    ⟨Rect.unit ![128, 384] ![128, 256] inb_S512x640_S128x256_128_384,
      k0_pay7 (View.ld x0 (Rect.unit ![128, 0] ![128, 128] inb_S512x128_S128x128_128_0))
        (View.ld x2 (Rect.unit ![0, 0] ![256, 128] inb_S512x128_S256x128_0_0))
        (View.ld x6 (Rect.unit ![0, 128, 0] ![1, 128, 256] inb_S1x512x512_S1x128x256_0_128_0))⟩,
    ⟨Rect.unit ![128, 0] ![128, 384] inb_S512x640_S128x384_128_0,
      k0_pay6 (BitVec.ofNat 32 (i 2).val) (k0_pay5 (View.ld x0 (Rect.unit ![128, 0] ![128, 128] inb_S512x128_S128x128_128_0))
          (View.ld x1 (Rect.unit ![128, 0] ![384, 128] inb_S512x128_S384x128_128_0)))
        (FloatOps.ofBits FTy.f32 0x3DB504F3#32)
        (View.ld x5 (Rect.unit ![0, 128, 128] ![1, 128, 384] inb_S1x512x512_S1x128x384_0_128_128))⟩,
    ⟨Rect.unit ![0, 512] ![128, 128] inb_S512x640_S128x128_0_512,
      k0_pay4 (View.ld x0 (Rect.unit ![0, 0] ![128, 128] inb_S512x128_S128x128_0_0))
        (View.ld x2 (Rect.unit ![0, 0] ![128, 128] inb_S512x128_S128x128_0_0))
        (View.ld x6 (Rect.unit ![0, 0, 0] ![1, 128, 128] inb_S1x512x512_S1x128x128_0_0_0))⟩,
    ⟨Rect.unit ![0, 0] ![128, 512] inb_S512x640_S128x512_0_0,
      k0_pay3 i (View.ld x0 (Rect.unit ![0, 0] ![128, 128] inb_S512x128_S128x128_0_0)) x1
        (View.ld x5 (Rect.unit ![0, 0, 0] ![1, 128, 512] inb_S1x512x512_S1x128x512_0_0_0))⟩]

/-- A rectangle of a matrix holds the indices between its sides. -/
theorem mem_rect {n k : ℕ} (off size : Fin 2 → ℕ) (inb : ∀ a, off a + size a ≤ (⟨2, ![n, k]⟩ : Shape).size a) (y : (⟨2, ![n, k]⟩ : Shape).Idx)
    (h0 : off 0 ≤ (y 0).val ∧ (y 0).val < off 0 + size 0) (h1 : off 1 ≤ (y 1).val ∧ (y 1).val < off 1 + size 1) :
    y ∈ (Rect.unit (s := ⟨2, ![n, k]⟩) off size inb).set :=
  Rect.mem_set_unit.mpr (Fin.forall_fin_two.mpr ⟨h0, h1⟩)

/-- The eight stores cover the buffer. -/
theorem scoreStores_cover (y : S512x640.Idx) : ∃ p ∈ scoreStores i x0 x1 x2 x5 x6, y ∈ p.1.set := by
  have h0 : (y 0).val < 512 := (y 0).isLt
  have h1 : (y 1).val < 640 := (y 1).isLt
  unfold scoreStores
  simp only [List.exists_mem_cons_iff]
  rcases (show (384 ≤ (y 0).val ∧ (y 0).val < 384 + 128) ∨ (256 ≤ (y 0).val ∧ (y 0).val < 256 + 128) ∨ (128 ≤ (y 0).val ∧ (y 0).val < 128 + 128)
      ∨ (0 ≤ (y 0).val ∧ (y 0).val < 0 + 128) by omega) with hr | hr | hr | hr
  · by_cases hw : 128 ≤ (y 1).val
    · exact .inl (mem_rect _ _ _ y hr ⟨hw, by show _ < 128 + 512; omega⟩)
    · exact .inr (.inl (mem_rect _ _ _ y hr ⟨Nat.zero_le _, by show _ < 0 + 128; omega⟩))
  · by_cases hw : 256 ≤ (y 1).val
    · exact .inr (.inr (.inl (mem_rect _ _ _ y hr ⟨hw, by show _ < 256 + 384; omega⟩)))
    · exact .inr (.inr (.inr (.inl (mem_rect _ _ _ y hr ⟨Nat.zero_le _, by show _ < 0 + 256; omega⟩))))
  · by_cases hw : 384 ≤ (y 1).val
    · exact .inr (.inr (.inr (.inr (.inl (mem_rect _ _ _ y hr ⟨hw, by show _ < 384 + 256; omega⟩)))))
    · exact .inr (.inr (.inr (.inr (.inr (.inl (mem_rect _ _ _ y hr ⟨Nat.zero_le _, by show _ < 0 + 384; omega⟩))))))
  · by_cases hw : 512 ≤ (y 1).val
    · exact .inr (.inr (.inr (.inr (.inr (.inr (.inl (mem_rect _ _ _ y hr ⟨hw, by show _ < 512 + 128; omega⟩)))))))
    · exact .inr (.inr (.inr (.inr (.inr (.inr (.inr (.inl (mem_rect _ _ _ y hr ⟨Nat.zero_le _, by show _ < 0 + 512; omega⟩))))))))

/-- A property of every index of a matrix, from its coordinates. -/
theorem at_ix2 {n k : ℕ} {P : (⟨2, ![n, k]⟩ : Shape).Idx → Prop} (h : ∀ (a : Fin n) (b : Fin k), P (ix2 a b)) (x) : P x := by
  rw [eq_ix2 x]; exact h _ _

/-- The store at row 384, lane 128: keys of the own tile. -/
theorem store_384_128 (a : Fin 128) (b : Fin 512) :
    k0_pay14 (F := Ideal) (k0_pay13 (View.ld x0 (Rect.unit ![384, 0] ![128, 128] inb_S512x128_S128x128_384_0)) x2)
        (View.ld x6 (Rect.unit ![0, 384, 0] ![1, 128, 512] inb_S1x512x512_S1x128x512_0_384_0)) (ix2 a b)
      = scores ((i 2).val = 0) x0 x1 x2 x5 x6 ((Rect.unit (s := S512x640) ![384, 128] ![128, 512] inb_S512x640_S128x512_384_128).emb (ix2 a b)) := by
  rw [scores_cur _ _ _ _ _ _ _ ⟨384 + a.val, by omega⟩ ⟨0 + b.val, by omega⟩
    (by show 384 + 1 * a.val = 384 + a.val; omega)
    (by show (384 + a.val) / 128 * 128 + (128 + 1 * b.val) = 512 + (0 + b.val); omega)]
  pointwise [k0_pay13, k0_pay14, dotBias]

/-- The store at row 384, lane 0: keys of the previous tile. -/
theorem store_384_0 (a : Fin 128) (b : Fin 128) :
    k0_pay12 (F := Ideal) (BitVec.ofNat 32 (i 2).val) (View.ld x0 (Rect.unit ![384, 0] ![128, 128] inb_S512x128_S128x128_384_0))
        (View.ld x1 (Rect.unit ![384, 0] ![128, 128] inb_S512x128_S128x128_384_0))
        (View.ld x5 (Rect.unit ![0, 384, 384] ![1, 128, 128] inb_S1x512x512_S1x128x128_0_384_384)) (ix2 a b)
      = scores ((i 2).val = 0) x0 x1 x2 x5 x6 ((Rect.unit (s := S512x640) ![384, 0] ![128, 128] inb_S512x640_S128x128_384_0).emb (ix2 a b)) := by
  rw [scores_prev _ _ _ _ _ _ _ ⟨384 + a.val, by omega⟩ ⟨384 + b.val, by omega⟩
    (by show 384 + 1 * a.val = 384 + a.val; omega)
    (by show (384 + a.val) / 128 * 128 + (0 + 1 * b.val) = (384 + b.val); omega), ← select_first]
  pointwise [k0_pay12, dotBias]

/-- The store at row 256, lane 256: keys of the own tile. -/
theorem store_256_256 (a : Fin 128) (b : Fin 384) :
    k0_pay11 (F := Ideal) (View.ld x0 (Rect.unit ![256, 0] ![128, 128] inb_S512x128_S128x128_256_0))
        (View.ld x2 (Rect.unit ![0, 0] ![384, 128] inb_S512x128_S384x128_0_0))
        (View.ld x6 (Rect.unit ![0, 256, 0] ![1, 128, 384] inb_S1x512x512_S1x128x384_0_256_0)) (ix2 a b)
      = scores ((i 2).val = 0) x0 x1 x2 x5 x6 ((Rect.unit (s := S512x640) ![256, 256] ![128, 384] inb_S512x640_S128x384_256_256).emb (ix2 a b)) := by
  rw [scores_cur _ _ _ _ _ _ _ ⟨256 + a.val, by omega⟩ ⟨0 + b.val, by omega⟩
    (by show 256 + 1 * a.val = 256 + a.val; omega)
    (by show (256 + a.val) / 128 * 128 + (256 + 1 * b.val) = 512 + (0 + b.val); omega)]
  pointwise [k0_pay11, dotBias]

/-- The store at row 256, lane 0: keys of the previous tile. -/
theorem store_256_0 (a : Fin 128) (b : Fin 256) :
    k0_pay10 (F := Ideal) (k0_pay8 (View.ld x0 (Rect.unit ![256, 0] ![128, 128] inb_S512x128_S128x128_256_0))
          (View.ld x1 (Rect.unit ![256, 0] ![256, 128] inb_S512x128_S256x128_256_0))
          (View.ld x5 (Rect.unit ![0, 256, 256] ![1, 128, 256] inb_S1x512x512_S1x128x256_0_256_256)))
        (Scalar.cmpi CmpIPredicate.eq (BitVec.ofNat 32 (i 2).val) 0#32) k0_pay9 (ix2 a b)
      = scores ((i 2).val = 0) x0 x1 x2 x5 x6 ((Rect.unit (s := S512x640) ![256, 0] ![128, 256] inb_S512x640_S128x256_256_0).emb (ix2 a b)) := by
  rw [scores_prev _ _ _ _ _ _ _ ⟨256 + a.val, by omega⟩ ⟨256 + b.val, by omega⟩
    (by show 256 + 1 * a.val = 256 + a.val; omega)
    (by show (256 + a.val) / 128 * 128 + (0 + 1 * b.val) = (256 + b.val); omega), ← select_first]
  pointwise [k0_pay10, k0_pay8, k0_pay9, dotBias]

/-- The store at row 128, lane 384: keys of the own tile. -/
theorem store_128_384 (a : Fin 128) (b : Fin 256) :
    k0_pay7 (F := Ideal) (View.ld x0 (Rect.unit ![128, 0] ![128, 128] inb_S512x128_S128x128_128_0))
        (View.ld x2 (Rect.unit ![0, 0] ![256, 128] inb_S512x128_S256x128_0_0))
        (View.ld x6 (Rect.unit ![0, 128, 0] ![1, 128, 256] inb_S1x512x512_S1x128x256_0_128_0)) (ix2 a b)
      = scores ((i 2).val = 0) x0 x1 x2 x5 x6 ((Rect.unit (s := S512x640) ![128, 384] ![128, 256] inb_S512x640_S128x256_128_384).emb (ix2 a b)) := by
  rw [scores_cur _ _ _ _ _ _ _ ⟨128 + a.val, by omega⟩ ⟨0 + b.val, by omega⟩
    (by show 128 + 1 * a.val = 128 + a.val; omega)
    (by show (128 + a.val) / 128 * 128 + (384 + 1 * b.val) = 512 + (0 + b.val); omega)]
  pointwise [k0_pay7, dotBias]

/-- The store at row 128, lane 0: keys of the previous tile. -/
theorem store_128_0 (a : Fin 128) (b : Fin 384) :
    k0_pay6 (F := Ideal) (BitVec.ofNat 32 (i 2).val) (k0_pay5 (View.ld x0 (Rect.unit ![128, 0] ![128, 128] inb_S512x128_S128x128_128_0))
          (View.ld x1 (Rect.unit ![128, 0] ![384, 128] inb_S512x128_S384x128_128_0)))
        (FloatOps.ofBits FTy.f32 0x3DB504F3#32)
        (View.ld x5 (Rect.unit ![0, 128, 128] ![1, 128, 384] inb_S1x512x512_S1x128x384_0_128_128)) (ix2 a b)
      = scores ((i 2).val = 0) x0 x1 x2 x5 x6 ((Rect.unit (s := S512x640) ![128, 0] ![128, 384] inb_S512x640_S128x384_128_0).emb (ix2 a b)) := by
  rw [scores_prev _ _ _ _ _ _ _ ⟨128 + a.val, by omega⟩ ⟨128 + b.val, by omega⟩
    (by show 128 + 1 * a.val = 128 + a.val; omega)
    (by show (128 + a.val) / 128 * 128 + (0 + 1 * b.val) = (128 + b.val); omega), ← select_first]
  pointwise [k0_pay5, k0_pay6, dotBias]

/-- The store at row 0, lane 512: keys of the own tile. -/
theorem store_0_512 (a : Fin 128) (b : Fin 128) :
    k0_pay4 (F := Ideal) (View.ld x0 (Rect.unit ![0, 0] ![128, 128] inb_S512x128_S128x128_0_0))
        (View.ld x2 (Rect.unit ![0, 0] ![128, 128] inb_S512x128_S128x128_0_0))
        (View.ld x6 (Rect.unit ![0, 0, 0] ![1, 128, 128] inb_S1x512x512_S1x128x128_0_0_0)) (ix2 a b)
      = scores ((i 2).val = 0) x0 x1 x2 x5 x6 ((Rect.unit (s := S512x640) ![0, 512] ![128, 128] inb_S512x640_S128x128_0_512).emb (ix2 a b)) := by
  rw [scores_cur _ _ _ _ _ _ _ ⟨0 + a.val, by omega⟩ ⟨0 + b.val, by omega⟩
    (by show 0 + 1 * a.val = 0 + a.val; omega)
    (by show (0 + a.val) / 128 * 128 + (512 + 1 * b.val) = 512 + (0 + b.val); omega)]
  pointwise [k0_pay4, dotBias]

/-- The store at row 0, lane 0: keys of the previous tile. -/
theorem store_0_0 (a : Fin 128) (b : Fin 512) :
    k0_pay3 (F := Ideal) i (View.ld x0 (Rect.unit ![0, 0] ![128, 128] inb_S512x128_S128x128_0_0)) x1
        (View.ld x5 (Rect.unit ![0, 0, 0] ![1, 128, 512] inb_S1x512x512_S1x128x512_0_0_0)) (ix2 a b)
      = scores ((i 2).val = 0) x0 x1 x2 x5 x6 ((Rect.unit (s := S512x640) ![0, 0] ![128, 512] inb_S512x640_S128x512_0_0).emb (ix2 a b)) := by
  rw [scores_prev _ _ _ _ _ _ _ ⟨0 + a.val, by omega⟩ ⟨0 + b.val, by omega⟩
    (by show 0 + 1 * a.val = 0 + a.val; omega)
    (by show (0 + a.val) / 128 * 128 + (0 + 1 * b.val) = (0 + b.val); omega), ← select_first]
  pointwise [k0_pay3, dotBias]

/-- Every store is its part of the tile's scores. -/
theorem scoreStores_pieces : View.PiecesOf (scores ((i 2).val = 0) x0 x1 x2 x5 x6) (scoreStores i x0 x1 x2 x5 x6) :=
  ⟨at_ix2 (store_384_128 i x0 x1 x2 x5 x6), at_ix2 (store_384_0 i x0 x1 x2 x5 x6), at_ix2 (store_256_256 i x0 x1 x2 x5 x6), at_ix2 (store_256_0 i x0 x1 x2 x5 x6), at_ix2 (store_128_384 i x0 x1 x2 x5 x6), at_ix2 (store_128_0 i x0 x1 x2 x5 x6), at_ix2 (store_0_512 i x0 x1 x2 x5 x6), at_ix2 (store_0_0 i x0 x1 x2 x5 x6), trivial⟩

/-- A load from the score buffer. -/
theorem load_scores (r : Rect S512x640) :
    (View.whole cc0_scratch0).readCov (scoreStores i x0 x1 x2 x5 x6) r.toLoadRect = View.ld (scores ((i 2).val = 0) x0 x1 x2 x5 x6) r :=
  readCov_of_pieces _ _ _ (scoreStores_pieces i x0 x1 x2 x5 x6) (scoreStores_cover i x0 x1 x2 x5 x6) r

/-- The exponentials of a tile's scores, each less its row's largest. -/
def expScores (S : Vec Ideal S512x640 .f32) (y : S512x640.Idx) : Elt Ideal .bf16 :=
  Ideal.exp (S y - (Finset.univ : Finset (Fin 640)).fold max (Ideal.ofBits .f32 0xFF800000#32) fun w => S (ix2 (y 0) w))

/-- The row sums of the exponentials, along every lane. -/
def rowSums (S : Vec Ideal S512x640 .f32) (y : S512x128.Idx) : Elt Ideal .f32 := ∑ w : Fin 640, expScores S (ix2 (y 0) w)

variable (S : Vec Ideal S512x640 .f32)

/-- Where a rectangle's element lies. -/
theorem emb_ix2 {n k p q : ℕ} (o l : ℕ) (inb : ∀ a, ![o, l] a + ![p, q] a ≤ (⟨2, ![n, k]⟩ : Shape).size a) (a : Fin p) (b : Fin q)
    (ha : o + a.val < n) (hb : l + b.val < k) :
    (Rect.unit (s := ⟨2, ![n, k]⟩) ![o, l] ![p, q] inb).emb (ix2 a b) = ix2 ⟨o + a.val, ha⟩ ⟨l + b.val, hb⟩ := by
  funext d
  apply Fin.ext
  revert d
  rw [Fin.forall_fin_two]
  exact ⟨by show o + 1 * a.val = o + a.val; omega, by show l + 1 * b.val = l + b.val; omega⟩

/-- Sixty-four rows of exponentials. -/
theorem exp_rows (o : ℕ) (inb : ∀ a, ![o, 0] a + ![64, 640] a ≤ S512x640.size a) (a : Fin 64) (b : Fin 640) :
    k0_pay17 (F := Ideal) (View.ld S (Rect.unit (s := S512x640) ![o, 0] ![64, 640] inb)) (ix2 a b)
      = expScores S ((Rect.unit (s := S512x640) ![o, 0] ![64, 640] inb).emb (ix2 a b)) := by
  have ho : o + 64 ≤ 512 := inb 0
  have he : ∀ b : Fin 640, (Rect.unit (s := S512x640) ![o, 0] ![64, 640] inb).emb (ix2 a b) = ix2 ⟨o + a.val, by omega⟩ b := fun b => by
    rw [emb_ix2 o 0 inb a b (by omega) (by omega)]; congr 1; exact Fin.ext (Nat.zero_add _)
  pointwise [k0_pay17, k0_pay15, expScores, View.ld, he]

/-- Sixty-four rows of sums. -/
theorem sum_rows (o : ℕ) (inb : ∀ a, ![o, 0] a + ![64, 640] a ≤ S512x640.size a)
    (inb' : ∀ a, ![o, 0] a + ![64, 128] a ≤ S512x128.size a) (a : Fin 64) (b : Fin 128) :
    k0_pay16 (F := Ideal) (View.ld S (Rect.unit (s := S512x640) ![o, 0] ![64, 640] inb)) (ix2 a b)
      = rowSums S ((Rect.unit (s := S512x128) ![o, 0] ![64, 128] inb').emb (ix2 a b)) := by
  have ho : o + 64 ≤ 512 := inb 0
  have he : ∀ b : Fin 640, (Rect.unit (s := S512x640) ![o, 0] ![64, 640] inb).emb (ix2 a b) = ix2 ⟨o + a.val, by omega⟩ b := fun b => by
    rw [emb_ix2 o 0 inb a b (by omega) (by omega)]; congr 1; exact Fin.ext (Nat.zero_add _)
  have hx : ∀ w : Fin 640, k0_pay15 (F := Ideal) (View.ld S (Rect.unit (s := S512x640) ![o, 0] ![64, 640] inb)) (ix2 a w)
      = expScores S (ix2 ⟨o + a.val, by omega⟩ w) := fun w => by
    rw [← he w, ← exp_rows]; pointwise [k0_pay17]
  rw [emb_ix2 o 0 inb' a b (by omega) (by omega)]
  pointwise [k0_pay16, rowSums, hx]

/-- The stores into the exponentials' buffer. -/
abbrev expStores : List (View.Piece (Elt Ideal) S512x640 .bf16) :=
  [ ⟨Rect.unit ![448, 0] ![64, 640] inb_S512x640_S64x640_448_0, k0_pay40 (View.ld S (Rect.unit ![448, 0] ![64, 640] inb_S512x640_S64x640_448_0))⟩,
    ⟨Rect.unit ![384, 0] ![64, 640] inb_S512x640_S64x640_384_0, k0_pay37 (View.ld S (Rect.unit ![384, 0] ![64, 640] inb_S512x640_S64x640_384_0))⟩,
    ⟨Rect.unit ![320, 0] ![64, 640] inb_S512x640_S64x640_320_0, k0_pay34 (View.ld S (Rect.unit ![320, 0] ![64, 640] inb_S512x640_S64x640_320_0))⟩,
    ⟨Rect.unit ![256, 0] ![64, 640] inb_S512x640_S64x640_256_0, k0_pay31 (View.ld S (Rect.unit ![256, 0] ![64, 640] inb_S512x640_S64x640_256_0))⟩,
    ⟨Rect.unit ![192, 0] ![64, 640] inb_S512x640_S64x640_192_0, k0_pay28 (k0_pay27 (View.ld S (Rect.unit ![192, 0] ![64, 640] inb_S512x640_S64x640_192_0)))⟩,
    ⟨Rect.unit ![128, 0] ![64, 640] inb_S512x640_S64x640_128_0, k0_pay24 (View.ld S (Rect.unit ![128, 0] ![64, 640] inb_S512x640_S64x640_128_0))⟩,
    ⟨Rect.unit ![64, 0] ![64, 640] inb_S512x640_S64x640_64_0, k0_pay21 (k0_pay18 (View.ld S (Rect.unit ![64, 0] ![64, 640] inb_S512x640_S64x640_64_0)))⟩,
    ⟨Rect.unit ![0, 0] ![64, 640] inb_S512x640_S64x640_0_0, k0_pay17 (View.ld S (Rect.unit ![0, 0] ![64, 640] inb_S512x640_S64x640_0_0))⟩ ]

/-- The stores into the row sums' buffer. -/
abbrev sumStores : List (View.Piece (Elt Ideal) S512x128 .f32) :=
  [ ⟨Rect.unit ![448, 0] ![64, 128] inb_S512x128_S64x128_448_0, k0_pay39 (View.ld S (Rect.unit ![448, 0] ![64, 640] inb_S512x640_S64x640_448_0))⟩,
    ⟨Rect.unit ![384, 0] ![64, 128] inb_S512x128_S64x128_384_0, k0_pay36 (View.ld S (Rect.unit ![384, 0] ![64, 640] inb_S512x640_S64x640_384_0))⟩,
    ⟨Rect.unit ![320, 0] ![64, 128] inb_S512x128_S64x128_320_0, k0_pay33 (View.ld S (Rect.unit ![320, 0] ![64, 640] inb_S512x640_S64x640_320_0))⟩,
    ⟨Rect.unit ![256, 0] ![64, 128] inb_S512x128_S64x128_256_0, k0_pay30 (View.ld S (Rect.unit ![256, 0] ![64, 640] inb_S512x640_S64x640_256_0))⟩,
    ⟨Rect.unit ![192, 0] ![64, 128] inb_S512x128_S64x128_192_0, k0_pay26 (View.ld S (Rect.unit ![192, 0] ![64, 640] inb_S512x640_S64x640_192_0))⟩,
    ⟨Rect.unit ![128, 0] ![64, 128] inb_S512x128_S64x128_128_0, k0_pay23 (View.ld S (Rect.unit ![128, 0] ![64, 640] inb_S512x640_S64x640_128_0))⟩,
    ⟨Rect.unit ![64, 0] ![64, 128] inb_S512x128_S64x128_64_0, k0_pay20 (k0_pay19 (View.ld S (Rect.unit ![64, 0] ![64, 640] inb_S512x640_S64x640_64_0)))⟩,
    ⟨Rect.unit ![0, 0] ![64, 128] inb_S512x128_S64x128_0_0, k0_pay16 (View.ld S (Rect.unit ![0, 0] ![64, 640] inb_S512x640_S64x640_0_0))⟩ ]

theorem load_exps (r : Rect S512x640) :
    (View.whole cc0_scratch1).readCov (expStores S) r.toLoadRect = View.ld (expScores S) r :=
  readCov_of_pieces _ (expScores S) (expStores S) ⟨at_ix2 (exp_rows S _ inb_S512x640_S64x640_448_0), at_ix2 (exp_rows S _ inb_S512x640_S64x640_384_0), at_ix2 (exp_rows S _ inb_S512x640_S64x640_320_0), at_ix2 (exp_rows S _ inb_S512x640_S64x640_256_0), at_ix2 (exp_rows S _ inb_S512x640_S64x640_192_0), at_ix2 (exp_rows S _ inb_S512x640_S64x640_128_0), at_ix2 (exp_rows S _ inb_S512x640_S64x640_64_0), at_ix2 (exp_rows S _ inb_S512x640_S64x640_0_0), trivial⟩
    (View.cover_of_tiledL (expStores S) ![64, 640] (by sl_kernel_rfl)) r

theorem load_sums (r : Rect S512x128) :
    (View.whole cc0_scratch2).readCov (sumStores S) r.toLoadRect = View.ld (rowSums S) r :=
  readCov_of_pieces _ (rowSums S) (sumStores S) ⟨at_ix2 (sum_rows S _ _ inb_S512x128_S64x128_448_0), at_ix2 (sum_rows S _ _ inb_S512x128_S64x128_384_0), at_ix2 (sum_rows S _ _ inb_S512x128_S64x128_320_0), at_ix2 (sum_rows S _ _ inb_S512x128_S64x128_256_0), at_ix2 (sum_rows S _ _ inb_S512x128_S64x128_192_0), at_ix2 (sum_rows S _ _ inb_S512x128_S64x128_128_0), at_ix2 (sum_rows S _ _ inb_S512x128_S64x128_64_0), at_ix2 (sum_rows S _ _ inb_S512x128_S64x128_0_0), trivial⟩
    (View.cover_of_tiledL (sumStores S) ![64, 128] (by sl_kernel_rfl)) r

/-- The value that lane `w` of row `r` is weighted into column `c`. -/
def values (vp vc : S512x128.Idx → EReal) (r : Fin 512) (c : Fin 128) (w : Fin 640) : EReal :=
  if r.val / 128 * 128 + w.val < 512 then vp (ix2 (key (r.val / 128 * 128 + w.val)) c) else vc (ix2 (key (r.val / 128 * 128 + w.val)) c)

/-- The weighted sums of the values, divided by the row sums. -/
def outBlock (vp vc : S512x128.Idx → EReal) (y : S512x128.Idx) : Elt Ideal .bf16 :=
  Ideal.div (∑ w : Fin 640, expScores S (ix2 (y 0) w) * values vp vc (y 0) (y 1) w) (rowSums S y)

theorem values_prev (vp vc : S512x128.Idx → EReal) (r : Fin 512) (c : Fin 128) (w : Fin 640) (n : Fin 512)
    (hn : r.val / 128 * 128 + w.val = n.val) : values vp vc r c w = vp (ix2 n c) := by
  have hk : key (r.val / 128 * 128 + w.val) = n := Fin.ext (by show _ % 512 = _; have := n.isLt; omega)
  unfold values
  rw [if_pos (by have := n.isLt; omega), hk]

theorem values_cur (vp vc : S512x128.Idx → EReal) (r : Fin 512) (c : Fin 128) (w : Fin 640) (n : Fin 512)
    (hn : r.val / 128 * 128 + w.val = 512 + n.val) : values vp vc r c w = vc (ix2 n c) := by
  have hk : key (r.val / 128 * 128 + w.val) = n := Fin.ext (by show _ % 512 = _; have := n.isLt; omega)
  unfold values
  rw [if_neg (by omega), hk]

/-- A row's divided sum, split at the last lane of the previous tile. -/
theorem outBlock_split (vp vc : S512x128.Idx → EReal) (p q o : ℕ) (h : 640 = p + q) (r : Fin 512) (c : Fin 128)
    (ho : r.val / 128 * 128 = o) (hp : o + p = 512) (hq : q ≤ 512) :
    outBlock S vp vc (ix2 r c)
      = Ideal.div ((∑ a : Fin p, expScores S (ix2 r ⟨a.val, by have := a.isLt; omega⟩) * vp (ix2 ⟨o + a.val, by have := a.isLt; omega⟩ c))
          + ∑ b : Fin q, expScores S (ix2 r ⟨p + b.val, by have := b.isLt; omega⟩) * vc (ix2 ⟨b.val, by have := b.isLt; omega⟩ c))
        (rowSums S (ix2 r c)) := by
  show Ideal.div (∑ w : Fin 640, expScores S (ix2 r w) * values vp vc r c w) (rowSums S (ix2 r c)) = _
  rw [Cert.Softmax.sum_split p q h]
  congr 2
  · refine Finset.sum_congr rfl fun a _ => ?_
    rw [values_prev vp vc r c _ ⟨o + a.val, by have := a.isLt; omega⟩ (by rw [ho])]
  · refine Finset.sum_congr rfl fun b _ => ?_
    rw [values_cur vp vc r c _ ⟨b.val, by have := b.isLt; omega⟩ (by rw [ho]; show _ + (p + b.val) = 512 + b.val; omega)]

/-- Rows 0 to 127 of the output. -/
theorem out_0 (a b : Fin 128) :
    k0_pay42 (F := Ideal) (k0_pay41 (View.ld (expScores S) (Rect.unit ![0, 0] ![128, 512] inb_S512x640_S128x512_0_0)) x3)
        (View.ld (expScores S) (Rect.unit ![0, 512] ![128, 128] inb_S512x640_S128x128_0_512)) (View.ld x4 (Rect.unit ![0, 0] ![128, 128] inb_S512x128_S128x128_0_0))
        (View.ld (rowSums S) (Rect.unit ![0, 0] ![128, 128] inb_S512x128_S128x128_0_0)) (ix2 a b)
      = outBlock S x3 x4 ((Rect.unit (s := S512x128) ![0, 0] ![128, 128] inb_S512x128_S128x128_0_0).emb (ix2 a b)) := by
  rw [emb_ix2 0 0 _ a b (by omega) (by omega), outBlock_split S x3 x4 512 128 0 rfl _ _
    (by show (0 + a.val) / 128 * 128 = 0; omega) rfl (by omega)]
  pointwise [k0_pay42, k0_pay41]

/-- Rows 128 to 255 of the output. -/
theorem out_128 (a b : Fin 128) :
    k0_pay43 (F := Ideal) (View.ld (expScores S) (Rect.unit ![128, 0] ![128, 384] inb_S512x640_S128x384_128_0)) (View.ld x3 (Rect.unit ![128, 0] ![384, 128] inb_S512x128_S384x128_128_0))
        (View.ld (expScores S) (Rect.unit ![128, 384] ![128, 256] inb_S512x640_S128x256_128_384)) (View.ld x4 (Rect.unit ![0, 0] ![256, 128] inb_S512x128_S256x128_0_0))
        (View.ld (rowSums S) (Rect.unit ![128, 0] ![128, 128] inb_S512x128_S128x128_128_0)) (ix2 a b)
      = outBlock S x3 x4 ((Rect.unit (s := S512x128) ![128, 0] ![128, 128] inb_S512x128_S128x128_128_0).emb (ix2 a b)) := by
  rw [emb_ix2 128 0 _ a b (by omega) (by omega), outBlock_split S x3 x4 384 256 128 rfl _ _
    (by show (128 + a.val) / 128 * 128 = 128; omega) rfl (by omega)]
  pointwise [k0_pay43]

/-- Rows 256 to 383 of the output. -/
theorem out_256 (a b : Fin 128) :
    k0_pay1 (F := Ideal) (k0_pay44 (View.ld (expScores S) (Rect.unit ![256, 0] ![128, 256] inb_S512x640_S128x256_256_0)) (View.ld x3 (Rect.unit ![256, 0] ![256, 128] inb_S512x128_S256x128_256_0))
        (View.ld (expScores S) (Rect.unit ![256, 256] ![128, 384] inb_S512x640_S128x384_256_256)) (View.ld x4 (Rect.unit ![0, 0] ![384, 128] inb_S512x128_S384x128_0_0)))
        (View.ld (rowSums S) (Rect.unit ![256, 0] ![128, 128] inb_S512x128_S128x128_256_0)) (ix2 a b)
      = outBlock S x3 x4 ((Rect.unit (s := S512x128) ![256, 0] ![128, 128] inb_S512x128_S128x128_256_0).emb (ix2 a b)) := by
  rw [emb_ix2 256 0 _ a b (by omega) (by omega), outBlock_split S x3 x4 256 384 256 rfl _ _
    (by show (256 + a.val) / 128 * 128 = 256; omega) rfl (by omega)]
  pointwise [k0_pay1, k0_pay44]

/-- Rows 384 to 511 of the output. -/
theorem out_384 (a b : Fin 128) :
    k0_pay2 (F := Ideal) (View.ld (expScores S) (Rect.unit ![384, 0] ![128, 128] inb_S512x640_S128x128_384_0)) (View.ld x3 (Rect.unit ![384, 0] ![128, 128] inb_S512x128_S128x128_384_0))
        (View.ld (expScores S) (Rect.unit ![384, 128] ![128, 512] inb_S512x640_S128x512_384_128)) x4
        (View.ld (rowSums S) (Rect.unit ![384, 0] ![128, 128] inb_S512x128_S128x128_384_0)) (ix2 a b)
      = outBlock S x3 x4 ((Rect.unit (s := S512x128) ![384, 0] ![128, 128] inb_S512x128_S128x128_384_0).emb (ix2 a b)) := by
  rw [emb_ix2 384 0 _ a b (by omega) (by omega), outBlock_split S x3 x4 128 512 384 rfl _ _
    (by show (384 + a.val) / 128 * 128 = 384; omega) rfl (by omega)]
  pointwise [k0_pay2]

/-- **One grid point's output block**, as one function of the six input blocks that it reads. -/
theorem outsAt0_eq (m : (ℓ : Loc nD τ sig) → Buf (Elt Ideal) ℓ) (c : Dev nD) (t : Fin cfg0.N) (y : S512x128.Idx) :
    outsAt0 m c t y = outBlock (scores ((grid0.coords t 2).val = 0) (iblk m c 0 t) (iblk m c 1 t) (iblk m c 2 t) (iblk m c 5 t) (iblk m c 6 t))
      (iblk m c 3 t) (iblk m c 4 t) y := by
  unfold outsAt0
  frame_out
  simp only [load_scores]
  simp only [load_exps, load_sums]
  refine View.canon_apply_of_pieces _ _ (View.PiecesOf.mem ?_) y (View.cover_of_tiledL _ ![128, 128] (by sl_kernel_rfl) y)
  exact ⟨at_ix2 (out_384 _ _ _), at_ix2 (out_256 _ _ _), at_ix2 (out_128 _ _ _), at_ix2 (out_0 _ _ _), trivial⟩

end Cert.AttnIdeal.Block

end
-- ==== Proof.Gather.lean ====
/- The three gathers of the attention programs, read at an index. -/
module

public import proofs.«01_k».proof.Proof.Gen.AttnIdeal
public import proofs.«01_k».proof.Proof.Gen.AttnRefIdeal
public import Idealize.ShloMosaic.Lib.Pointwise
public import Idealize.ShloMosaic.Lib.ValueIdx

@[expose] public section

set_option maxRecDepth 16384

noncomputable section

namespace Cert.Gathers

open Idealize.ShloMosaic

/-- Columns taken from a matrix at one index each: entry `(h, j)` is row `h` at the column `idx j`. -/
theorem columns (x : Vec Ideal Cert.AttnIdeal.S16x257 .f32) (idx : IVec Cert.AttnIdeal.S1023x1 32) (h : Fin 16) (j : Fin 1023) :
    Host.gather Cert.AttnIdeal.gather_S16x257_S1023x1_S16x1023_0_1_n_n_1_1_161 x idx (ix2 h j)
      = x (ix2 h ⟨min (idx (ix2 j 0)).toInt.toNat 256, by omega⟩) := by
  unfold Host.gather
  congr 1
  funext a
  refine Fin.ext ?_
  match a with
  | ⟨0, _⟩ =>
    show GatherDims.start _ _ _ 0 + GatherDims.batchCoord _ _ 0 + GatherDims.offCoord _ _ 0 = h.val
    unfold GatherDims.start
    rw [GatherDims.batchCoord_eq_zero _ _ _ List.not_mem_nil, dif_neg (by decide), Nat.add_zero, Nat.zero_add]
    rfl
  | ⟨1, _⟩ =>
    show GatherDims.start _ _ _ 1 + GatherDims.batchCoord _ _ 1 + GatherDims.offCoord _ _ 1 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (by decide)]
    show min (idx _).toInt.toNat 256 = min (idx _).toInt.toNat 256
    congr 4
    funext b
    refine Fin.ext ?_
    match b with
    | ⟨0, _⟩ => rfl
    | ⟨1, _⟩ => rfl

/-- Columns taken from a matrix at a table of indices: entry `(h, q, j)` is row `h` at the column `idx q j`. -/
theorem columnTable (x : Vec Ideal Cert.AttnRefIdeal.S16x257 .f32) (idx : IVec Cert.AttnRefIdeal.S64x576x1 32) (h : Fin 16) (q : Fin 64) (j : Fin 576) :
    Host.gather Cert.AttnRefIdeal.gather_S16x257_S64x576x1_S16x64x576_0_1_n_n_1_2_161 x idx (ix3 h q j)
      = x (ix2 h ⟨min (idx (ix3 q j 0)).toInt.toNat 256, by omega⟩) := by
  unfold Host.gather
  congr 1
  funext a
  refine Fin.ext ?_
  match a with
  | ⟨0, _⟩ =>
    show GatherDims.start _ _ _ 0 + GatherDims.batchCoord _ _ 0 + GatherDims.offCoord _ _ 0 = h.val
    unfold GatherDims.start
    rw [GatherDims.batchCoord_eq_zero _ _ _ List.not_mem_nil, dif_neg (by decide), Nat.add_zero, Nat.zero_add]
    rfl
  | ⟨1, _⟩ =>
    show GatherDims.start _ _ _ 1 + GatherDims.batchCoord _ _ 1 + GatherDims.offCoord _ _ 1 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (by decide)]
    show min (idx _).toInt.toNat 256 = min (idx _).toInt.toNat 256
    congr 4
    funext b
    refine Fin.ext ?_
    match b with
    | ⟨0, _⟩ => rfl
    | ⟨1, _⟩ => rfl
    | ⟨2, _⟩ => rfl

/-- Rows taken along the second axis at a table of indices: entry `(b, c, j, h, d)` is `x` at `(b, idx c j, h, d)`. -/
theorem rowTable (x : Vec Ideal Cert.AttnRefIdeal.S4x8704x16x128 .f32) (idx : IVec Cert.AttnRefIdeal.S128x576x1 32) (b : Fin 4) (c : Fin 128)
    (j : Fin 576) (h : Fin 16) (d : Fin 128) :
    Host.gather Cert.AttnRefIdeal.gather_S4x8704x16x128_S128x576x1_S4x128x576x16x128_034_1_n_n_1_2_4116128 x idx (ix5 b c j h d)
      = x (ix4 b ⟨min (idx (ix3 c j 0)).toInt.toNat 8703, by omega⟩ h d) := by
  unfold Host.gather
  congr 1
  funext a
  refine Fin.ext ?_
  match a with
  | ⟨0, _⟩ =>
    show GatherDims.start _ _ _ 0 + GatherDims.batchCoord _ _ 0 + GatherDims.offCoord _ _ 0 = b.val
    unfold GatherDims.start
    rw [GatherDims.batchCoord_eq_zero _ _ _ List.not_mem_nil, dif_neg (by decide), Nat.add_zero, Nat.zero_add]
    rfl
  | ⟨1, _⟩ =>
    show GatherDims.start _ _ _ 1 + GatherDims.batchCoord _ _ 1 + GatherDims.offCoord _ _ 1 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (by decide)]
    show min (idx _).toInt.toNat 8703 = min (idx _).toInt.toNat 8703
    congr 4
    funext b
    refine Fin.ext ?_
    match b with
    | ⟨0, _⟩ => rfl
    | ⟨1, _⟩ => rfl
    | ⟨2, _⟩ => rfl
  | ⟨2, _⟩ =>
    show GatherDims.start _ _ _ 2 + GatherDims.batchCoord _ _ 2 + GatherDims.offCoord _ _ 2 = h.val
    unfold GatherDims.start
    rw [GatherDims.batchCoord_eq_zero _ _ _ List.not_mem_nil, dif_neg (by decide), Nat.add_zero, Nat.zero_add]
    rfl
  | ⟨3, _⟩ =>
    show GatherDims.start _ _ _ 3 + GatherDims.batchCoord _ _ 3 + GatherDims.offCoord _ _ 3 = d.val
    unfold GatherDims.start
    rw [GatherDims.batchCoord_eq_zero _ _ _ List.not_mem_nil, dif_neg (by decide), Nat.add_zero, Nat.zero_add]
    rfl

end Cert.Gathers

end
-- ==== Proof.Tables.lean ====
/- The two printed tables of clipped distances, in closed form. -/
module

public import proofs.«01_k».proof.AttnIdeal

@[expose] public section

set_option maxRecDepth 16384

noncomputable section

namespace Cert.AttnIdeal.Tables

open Cert.AttnIdeal

/-- The table read by the tile's own keys. -/
theorem own : ∀ j : Fin 1023, (lit0 j).toInt.toNat = (if j.val < 512 then min (0 + 128 - j.val) 256 else min (0 + 128 + 1023 - j.val) 256) := by
  decide +kernel

/-- The table read by the previous tile's keys. -/
theorem previous : ∀ j : Fin 1023, (lit1 j).toInt.toNat = (if j.val < 512 then min (512 + 128 - j.val) 256 else min (512 + 128 + 1023 - j.val) 256) := by
  decide +kernel

end Cert.AttnIdeal.Tables

end
-- ==== Proof.Inputs.lean ====
/- What the windows of one grid point hold: blocks of the projection array, and the two bias tables. -/
module

public import proofs.«01_k».proof.Proof.Gen.AttnIdeal.Value
public import proofs.«01_k».proof.Proof.Gather
public import proofs.«01_k».proof.Proof.Tables
public import Idealize.ShloMosaic.Lib.Pipeline.ValueKit
public import Idealize.ShloMosaic.Lib.Pointwise
public import Idealize.ShloMosaic.Lib.ValueIdx

@[expose] public section

set_option maxRecDepth 16384

noncomputable section

namespace Cert.AttnIdeal.Inputs

open Cert.AttnIdeal Cert.AttnIdeal.Gen Idealize.ShloMosaic Idealize.ShloMosaic.TcCoe Idealize.SL.Sem

variable (m : (ℓ : Loc nD τ sig) → Buf (Elt Ideal) ℓ) (c : Dev nD)

/-- Every window's block, at every grid point: head `t / 64`, batch `t / 16 % 4`, tile `t % 16`. -/
theorem idx : ∀ t : Fin cfg0.N, (grid0.coords t 2).val = t.val % 16
    ∧ win0_0.index t = ![t.val / 16 % 4 * 16 + t.val % 16, t.val / 64]
    ∧ win0_1.index t = ![t.val / 16 % 4 * 16 + (t.val % 16 - 1), 16 + t.val / 64]
    ∧ win0_2.index t = ![t.val / 16 % 4 * 16 + t.val % 16, 16 + t.val / 64]
    ∧ win0_3.index t = ![t.val / 16 % 4 * 16 + (t.val % 16 - 1), 32 + t.val / 64]
    ∧ win0_4.index t = ![t.val / 16 % 4 * 16 + t.val % 16, 32 + t.val / 64]
    ∧ win0_5.index t = ![t.val / 64, 0, 0] ∧ win0_6.index t = ![t.val / 64, 0, 0]
    ∧ win0_7.index t = ![t.val / 16 % 4 * 16 + t.val % 16, t.val / 64] :=
  (by decide +kernel : ∀ t : Fin grid0.N, _)

/-- The entry of the bias array that a distance reads, the distance given with 128 added. -/
def relIx (n : ℕ) : Fin 257 := ⟨min n 256, by omega⟩

/-- The floor division by 64 as the program spells it. -/
def chunkWord (n : BitVec 32) : BitVec 32 :=
  Scalar.select
    (IntOp.andi
      (IntOp.cmpi CmpIPredicate.ne (if n = 0 then (0 : BitVec 32) else if n.msb = true then -1 else 1)
        (if 64#32 = 0 then 0 else if (64#32).msb = true then -1 else 1))
      (IntOp.cmpi CmpIPredicate.ne (IntOp.remsi ArithUnit.host n 64#32) 0#32))
    (IntOp.subi (IntOp.divsi ArithUnit.host n 64#32) 1#32)
    (IntOp.divsi ArithUnit.host n 64#32)

/-- On the words below 512 it is the quotient. -/
theorem chunkWord_eq : ∀ n : Fin 512, chunkWord (BitVec.ofNat 32 n.val) = BitVec.ofNat 32 (n.val / 64) := by
  decide +kernel

/-- The two signed comparisons of chunk numbers. -/
theorem chunk_cmp : ∀ a b : Fin 8, IntOp.cmpi CmpIPredicate.sge (BitVec.ofNat 32 a.val) (BitVec.ofNat 32 b.val) = BitVec.ofBool (decide (b.val ≤ a.val))
    ∧ IntOp.cmpi CmpIPredicate.sle (BitVec.ofNat 32 a.val) (BitVec.ofNat 32 b.val) = BitVec.ofBool (decide (a.val ≤ b.val)) := by
  decide +kernel

theorem select_ofBool (p : Prop) [Decidable p] (a b : EReal) : Scalar.select (BitVec.ofBool (decide p)) a b = if p then a else b := by
  by_cases h : p
  · simp [h, Scalar.select]
  · simp [h, Scalar.select]

/-- A selection by two chunk numbers, at or after. -/
theorem select_sge (k q : Fin 512) (X Y : BitVec 32) (hX : X = chunkWord (BitVec.ofNat 32 k.val)) (hY : Y = chunkWord (BitVec.ofNat 32 q.val)) (A B : EReal) :
    Scalar.select (IntOp.cmpi CmpIPredicate.sge X Y) A B = if q.val / 64 ≤ k.val / 64 then A else B := by
  rw [hX, hY, chunkWord_eq, chunkWord_eq, (chunk_cmp ⟨k.val / 64, by omega⟩ ⟨q.val / 64, by omega⟩).1, select_ofBool]

/-- A selection by two chunk numbers, at or before. -/
theorem select_sle (k q : Fin 512) (X Y : BitVec 32) (hX : X = chunkWord (BitVec.ofNat 32 k.val)) (hY : Y = chunkWord (BitVec.ofNat 32 q.val)) (A B : EReal) :
    Scalar.select (IntOp.cmpi CmpIPredicate.sle X Y) A B = if k.val / 64 ≤ q.val / 64 then A else B := by
  rw [hX, hY, chunkWord_eq, chunkWord_eq, (chunk_cmp ⟨k.val / 64, by omega⟩ ⟨q.val / 64, by omega⟩).2, select_ofBool]

/-- The entry that a clipped distance reads, through a table of clipped distances laid out by `k - q` modulo 1023. -/
theorem relIx_of (lit : Fin 1023 → BitVec 32) (off : ℕ)
    (hl : ∀ j : Fin 1023, (lit j).toInt.toNat = (if j.val < 512 then min (off + 128 - j.val) 256 else min (off + 128 + 1023 - j.val) 256))
    (h : Fin 16) (q k : Fin 512) (j : Fin 1023) (hm : j.val = (q.val * 1022 + k.val) % 1023) :
    (ix2 h ⟨min (lit j).toInt.toNat 256, by omega⟩ : S16x257.Idx) = ix2 h (relIx (off + q.val + 128 - k.val)) := by
  have hj := hl j
  congr 1
  refine Fin.ext ?_
  show min (lit j).toInt.toNat 256 = min (off + q.val + 128 - k.val) 256
  have hd : j.val = if q.val ≤ k.val then k.val - q.val else 1023 + k.val - q.val := by
    rw [hm]
    split
    · rw [show q.val * 1022 + k.val = (k.val - q.val) + 1023 * q.val from by omega, Nat.add_mul_mod_self_left,
        Nat.mod_eq_of_lt (by omega)]
    · rw [show q.val * 1022 + k.val = (1023 + k.val - q.val) + 1023 * (q.val - 1) from by omega,
        Nat.add_mul_mod_self_left, Nat.mod_eq_of_lt (by omega)]
  rw [hj, hd]
  by_cases hqk : q.val ≤ k.val
  · rw [if_pos hqk, if_pos (by omega)]
    omega
  · rw [if_neg hqk, if_neg (by omega)]
    omega

/-- The queries' block. -/
theorem q_at (t : Fin cfg0.N) (r : Fin 512) (d : Fin 128) (h1 : (t.val / 16 % 4 * 16 + t.val % 16) * 512 + r.val < 32768) (h2 : t.val / 64 * 128 + d.val < 6144) :
    iblk m c 0 t (ix2 r d) = m ((c : Thread nD τ).loc main_arg0) (ix2 ⟨(t.val / 16 % 4 * 16 + t.val % 16) * 512 + r.val, h1⟩ ⟨t.val / 64 * 128 + d.val, h2⟩) := by
  blk_ext [iblk, V, idx t]

/-- The previous tile's keys. -/
theorem kp_at (t : Fin cfg0.N) (r : Fin 512) (d : Fin 128) (h1 : (t.val / 16 % 4 * 16 + (t.val % 16 - 1)) * 512 + r.val < 32768) (h2 : (16 + t.val / 64) * 128 + d.val < 6144) :
    iblk m c 1 t (ix2 r d) = m ((c : Thread nD τ).loc main_arg0) (ix2 ⟨(t.val / 16 % 4 * 16 + (t.val % 16 - 1)) * 512 + r.val, h1⟩ ⟨(16 + t.val / 64) * 128 + d.val, h2⟩) := by
  blk_ext [iblk, V, idx t]

/-- The tile's own keys. -/
theorem kc_at (t : Fin cfg0.N) (r : Fin 512) (d : Fin 128) (h1 : (t.val / 16 % 4 * 16 + t.val % 16) * 512 + r.val < 32768) (h2 : (16 + t.val / 64) * 128 + d.val < 6144) :
    iblk m c 2 t (ix2 r d) = m ((c : Thread nD τ).loc main_arg0) (ix2 ⟨(t.val / 16 % 4 * 16 + t.val % 16) * 512 + r.val, h1⟩ ⟨(16 + t.val / 64) * 128 + d.val, h2⟩) := by
  blk_ext [iblk, V, idx t]

/-- The previous tile's values. -/
theorem vp_at (t : Fin cfg0.N) (r : Fin 512) (d : Fin 128) (h1 : (t.val / 16 % 4 * 16 + (t.val % 16 - 1)) * 512 + r.val < 32768) (h2 : (32 + t.val / 64) * 128 + d.val < 6144) :
    iblk m c 3 t (ix2 r d) = m ((c : Thread nD τ).loc main_arg0) (ix2 ⟨(t.val / 16 % 4 * 16 + (t.val % 16 - 1)) * 512 + r.val, h1⟩ ⟨(32 + t.val / 64) * 128 + d.val, h2⟩) := by
  blk_ext [iblk, V, idx t]

/-- The tile's own values. -/
theorem vc_at (t : Fin cfg0.N) (r : Fin 512) (d : Fin 128) (h1 : (t.val / 16 % 4 * 16 + t.val % 16) * 512 + r.val < 32768) (h2 : (32 + t.val / 64) * 128 + d.val < 6144) :
    iblk m c 4 t (ix2 r d) = m ((c : Thread nD τ).loc main_arg0) (ix2 ⟨(t.val / 16 % 4 * 16 + t.val % 16) * 512 + r.val, h1⟩ ⟨(32 + t.val / 64) * 128 + d.val, h2⟩) := by
  blk_ext [iblk, V, idx t]

/-- The bias table of the previous tile: keys of chunks at or after the query's. -/
theorem table_prev (h : Fin 16) (q k : Fin 512) : (V m c main_v37 : Vec Ideal S16x512x512 .f32) (ix3 h q k)
    = if q.val / 64 ≤ k.val / 64 then (m ((c : Thread nD τ).loc main_arg1) : Vec Ideal S16x257 .f32) (ix2 h (relIx (512 + q.val + 128 - k.val))) else Ideal.ofBits .f32 0xFF800000#32 := by
  entry_read
  simp only [List.flatten_cons, List.flatten_nil, List.cons_append, List.nil_append, List.append_nil]
  simp only [StableHlo.after_cons, StableHlo.after_nil]
  after_results_simp
  simp only [StableHlo.TRef.ofBuf, StableHlo.TRef.toBuf, StableHlo.TRef.of, cast_eq, id_eq]
  pointwise
  refine (select_sge k q _ _ rfl rfl _ _).trans ?_
  rw [Cert.Gathers.columns]
  congr 2
  pointwise
  exact relIx_of lit1 512 Cert.AttnIdeal.Tables.previous h q k _ (Shape.rowMajor_val_one _)

/-- The bias table of the tile itself: keys of chunks up to the query's. -/
theorem table_cur (h : Fin 16) (q k : Fin 512) : (V m c main_v21 : Vec Ideal S16x512x512 .f32) (ix3 h q k)
    = if k.val / 64 ≤ q.val / 64 then (m ((c : Thread nD τ).loc main_arg1) : Vec Ideal S16x257 .f32) (ix2 h (relIx (q.val + 128 - k.val))) else Ideal.ofBits .f32 0xFF800000#32 := by
  entry_read
  simp only [List.flatten_cons, List.flatten_nil, List.cons_append, List.nil_append, List.append_nil]
  simp only [StableHlo.after_cons, StableHlo.after_nil]
  after_results_simp
  simp only [StableHlo.TRef.ofBuf, StableHlo.TRef.toBuf, StableHlo.TRef.of, cast_eq, id_eq]
  pointwise
  refine (select_sle k q _ _ rfl rfl _ _).trans ?_
  rw [Cert.Gathers.columns]
  congr 2
  pointwise
  exact (relIx_of lit0 0 Cert.AttnIdeal.Tables.own h q k _ (Shape.rowMajor_val_one _)).trans (by rw [Nat.zero_add])

/-- The previous tile's bias block. -/
theorem bp_at (t : Fin cfg0.N) (q k : Fin 512) (h1 : t.val / 64 < 16) : iblk m c 5 t (ix3 0 q k) = V m c main_v37 (ix3 ⟨t.val / 64, h1⟩ q k) := by
  blk_ext [iblk, idx t]

/-- The tile's own bias block. -/
theorem bc_at (t : Fin cfg0.N) (q k : Fin 512) (h1 : t.val / 64 < 16) : iblk m c 6 t (ix3 0 q k) = V m c main_v21 (ix3 ⟨t.val / 64, h1⟩ q k) := by
  blk_ext [iblk, idx t]

end Cert.AttnIdeal.Inputs

end
-- ==== Proof.Band.lean ====
/- The attention over a band of 576 keys, on real numbers: what both programs compute at one query, head and coordinate. -/
module

public import proofs.«01_k».proof.Proof.Softmax
public import Idealize.ShloMosaic.Lib.ValueIdx
public import Idealize.ShloMosaic.Lib.Pointwise
public import Idealize.ShloMosaic.PureOps.Ideal.Laws

@[expose] public section

noncomputable section

namespace Cert.Band

open Idealize.ShloMosaic

/-- The projection array at real entries. -/
def Reads (x : (⟨2, ![32768, 6144]⟩ : Shape).Idx → EReal) (a : ℕ → ℕ → ℝ) : Prop :=
  ∀ (n k : ℕ) (hn : n < 32768) (hk : k < 6144), x (ix2 ⟨n, hn⟩ ⟨k, hk⟩) = (a n k : EReal)

/-- The bias array at real entries. -/
def BiasReads (x : (⟨2, ![16, 257]⟩ : Shape).Idx → EReal) (t : ℕ → ℕ → ℝ) : Prop :=
  ∀ (n k : ℕ) (hn : n < 16) (hk : k < 257), x (ix2 ⟨n, hn⟩ ⟨k, hk⟩) = (t n k : EReal)

/-- An array without infinities is read by a real function. -/
theorem reads_of_finite {N K : ℕ} (x : (⟨2, ![N, K]⟩ : Shape).Idx → EReal) (h : ∀ i, x i ≠ ⊤ ∧ x i ≠ ⊥) :
    ∃ a : ℕ → ℕ → ℝ, ∀ (n k : ℕ) (hn : n < N) (hk : k < K), x (ix2 ⟨n, hn⟩ ⟨k, hk⟩) = (a n k : EReal) := by
  refine ⟨fun n k => if hn : n < N then if hk : k < K then (x (ix2 ⟨n, hn⟩ ⟨k, hk⟩)).toReal else 0 else 0, fun n k hn hk => ?_⟩
  simp only [hn, hk, dif_pos]
  exact (EReal.coe_toReal (h _).1 (h _).2).symm

/-- The score scale as a real number. -/
def scale : ℝ := (Ideal.ofBits .f32 0x3DB504F3#32).toReal

theorem scale_eq : Ideal.ofBits .f32 0x3DB504F3#32 = (scale : EReal) := by
  refine (EReal.coe_toReal ?_ ?_).symm <;> simp [Ideal.ofBits, Ideal.ieee, -EReal.coe_mul]

theorem negInf : Ideal.ofBits .f32 0xFF800000#32 = ⊥ := by simp [Ideal.ofBits, Ideal.ieee]

variable (a t : ℕ → ℕ → ℝ) (b h c r : ℕ)

/-- The score of the band's key `j` for row `r` of chunk `c`: the scaled product plus the bias of their distance. -/
def score (j : ℕ) : ℝ :=
  (∑ d : Fin 128, a (b * 8192 + (c * 64 + r)) (h * 128 + d.val) * a (b * 8192 + (c * 64 + j - 512)) (2048 + h * 128 + d.val)) * scale
    + t h (min (640 + r - j) 256)

/-- The band's key `j` is a position of the sequence. -/
abbrev keep (j : ℕ) : Prop := 512 ≤ c * 64 + j

/-- The value row of the band's key `j`, at coordinate `d`. -/
def value (d j : ℕ) : ℝ := a (b * 8192 + (c * 64 + j - 512)) (4096 + h * 128 + d)

/-- The score of key `j`, `−∞` in front of the sequence. -/
def entry (j : ℕ) : EReal := Cert.Softmax.score (keep c j) (score a t b h c r j)

/-- The largest score of the band. -/
def top : EReal := Finset.univ.sup fun j : Fin 576 => entry a t b h c r j.val

/-- The softmax average of the band's value rows, divided once at the end. -/
def average (d : ℕ) : EReal :=
  Ideal.div (∑ j : Fin 576, Ideal.exp (entry a t b h c r j.val - top a t b h c r) * (value a b h c d j.val : EReal))
    (∑ j : Fin 576, Ideal.exp (entry a t b h c r j.val - top a t b h c r))

end Cert.Band

end
-- ==== Proof.Reference.lean ====
/- The reference program's attention, read at one query, head and coordinate. -/
module

public import proofs.«01_k».proof.Proof.Gen.AttnRefIdeal.Read
public import proofs.«01_k».proof.Proof.Gather
public import proofs.«01_k».proof.Proof.Band
public import Idealize.ShloMosaic.Lib.Pointwise
public import Idealize.ShloMosaic.Lib.ValueIdx

@[expose] public section

set_option maxRecDepth 16384

noncomputable section

namespace Cert.AttnRefIdeal.Banded

open Cert.AttnRefIdeal Cert.AttnRefIdeal.Gen Cert.AttnRefIdeal.Read Idealize.ShloMosaic Idealize.ShloMosaic.TcCoe Idealize.SL.Sem

variable (x0 : Vec Ideal S32768x6144 .bf16) (x1 : Vec Ideal S16x257 .f32)

/-- The scaled queries. -/
theorem q_at (b : Fin 4) (c : Fin 128) (r : Fin 64) (h : Fin 16) (d : Fin 128) :
    val_main_v35 (F := Ideal) x0 (ix5 b c r h d)
      = x0 (ix2 ⟨b.val * 8192 + (c.val * 64 + r.val), by omega⟩ ⟨h.val * 128 + d.val, by omega⟩) * Ideal.ofBits .f32 0x3DB504F3#32 := by
  pointwise [val_main_v35, val_main_v5, val_main_v3, val_main_v2, val_main_v1, val_main_v0, val_main_v4, val_main_cst]

/-- The keys behind 512 rows of padding. -/
theorem k_at (b : Fin 4) (p : Fin 8704) (h : Fin 16) (d : Fin 128) :
    val_main_v8 (F := Ideal) x0 (ix4 b p h d)
      = if hp : 512 ≤ p.val then x0 (ix2 ⟨b.val * 8192 + (p.val - 512), by omega⟩ ⟨2048 + h.val * 128 + d.val, by omega⟩) else 0 := by
  pointwise [val_main_v8, val_main_v7, val_main_v6, val_main_v1, val_main_v0, val_main_call0_v0]
  by_cases hp : 512 ≤ p.val
  · rw [dif_pos ⟨hp, by omega⟩, dif_pos hp]
  · rw [dif_neg (by omega), dif_neg hp]
    rw [val_main_c_apply]
    show (((0#32 : BitVec 32).toInt : ℝ) : EReal) = 0
    simp

/-- The values behind 512 rows of padding. -/
theorem v_at (b : Fin 4) (p : Fin 8704) (h : Fin 16) (d : Fin 128) :
    val_main_v11 (F := Ideal) x0 (ix4 b p h d)
      = if hp : 512 ≤ p.val then x0 (ix2 ⟨b.val * 8192 + (p.val - 512), by omega⟩ ⟨4096 + h.val * 128 + d.val, by omega⟩) else 0 := by
  pointwise [val_main_v11, val_main_v10, val_main_v9, val_main_v1, val_main_v0, val_main_call1_v0]
  by_cases hp : 512 ≤ p.val
  · rw [dif_pos ⟨hp, by omega⟩, dif_pos hp]
  · rw [dif_neg (by omega), dif_neg hp]
    rw [val_main_c_0_apply]
    show (((0#32 : BitVec 32).toInt : ℝ) : EReal) = 0
    simp

/-- A word sum of a chunk's start and a lane. -/
theorem word_add (c j : ℕ) : IntOp.addi (IntOp.muli (BitVec.ofNat 32 c) 64#32) (BitVec.ofNat 32 j) = BitVec.ofNat 32 (c * 64 + j) := by
  show BitVec.ofNat 32 c * 64#32 + BitVec.ofNat 32 j = _
  rw [BitVec.ofNat_add, BitVec.ofNat_mul]

theorem word_sub_add (c j : ℕ) : IntOp.addi (IntOp.subi (IntOp.muli (BitVec.ofNat 32 c) 64#32) 512#32) (BitVec.ofNat 32 j)
    = IntOp.subi (BitVec.ofNat 32 (c * 64 + j)) 512#32 := by
  rw [← word_add]
  show BitVec.ofNat 32 c * 64#32 - 512#32 + BitVec.ofNat 32 j = BitVec.ofNat 32 c * 64#32 + BitVec.ofNat 32 j - 512#32
  rw [BitVec.sub_eq_add_neg, BitVec.sub_eq_add_neg, BitVec.add_assoc, BitVec.add_assoc, BitVec.add_comm (-512#32)]

theorem word_rel (q j : ℕ) (hj : j < 576) : IntOp.subi (IntOp.addi (BitVec.ofNat 32 q) 512#32) (BitVec.ofNat 32 j)
    = IntOp.subi (BitVec.ofNat 32 (q + 576 - j)) 64#32 := by
  show BitVec.ofNat 32 q + 512#32 - BitVec.ofNat 32 j = BitVec.ofNat 32 (q + 576 - j) - 64#32
  have e : BitVec.ofNat 32 q + 512#32 + 64#32 = BitVec.ofNat 32 (q + 576 - j) + BitVec.ofNat 32 j := by
    rw [BitVec.add_assoc, ← BitVec.ofNat_add (q + 576 - j) j, Nat.sub_add_cancel (by omega), BitVec.ofNat_add]
    rfl
  rw [eq_comm, BitVec.sub_eq_iff_eq_add, BitVec.sub_eq_add_neg, BitVec.add_assoc, BitVec.add_comm (-_), ← BitVec.add_assoc, e,
    ← BitVec.sub_eq_add_neg, BitVec.add_sub_cancel]

/-- A negative index counts from the end: no index here is negative. -/
theorem wrap_key : ∀ n : Fin 8704, (Scalar.select (IntOp.cmpi CmpIPredicate.slt (BitVec.ofNat 32 n.val) 0#32)
    (IntOp.addi (BitVec.ofNat 32 n.val) 8704#32) (BitVec.ofNat 32 n.val)).toInt.toNat = n.val := by
  decide +kernel

theorem valid_key : ∀ n : Fin 8704, IntOp.cmpi CmpIPredicate.sge (IntOp.subi (BitVec.ofNat 32 n.val) 512#32) 0#32
    = BitVec.ofBool (decide (512 ≤ n.val)) := by
  decide +kernel

/-- The clipped distance with 128 added, as an index. -/
def relWord (w : BitVec 32) : BitVec 32 :=
  Scalar.select (IntOp.cmpi CmpIPredicate.slt (IntOp.addi (IntOp.minsi 128#32 (IntOp.maxsi 4294967168#32 w)) 128#32) 0#32)
    (IntOp.addi (IntOp.addi (IntOp.minsi 128#32 (IntOp.maxsi 4294967168#32 w)) 128#32) 257#32)
    (IntOp.addi (IntOp.minsi 128#32 (IntOp.maxsi 4294967168#32 w)) 128#32)

theorem rel_key : ∀ n : Fin 640, (relWord (IntOp.subi (BitVec.ofNat 32 n.val) 64#32)).toInt.toNat = min (n.val + 64) 256 := by
  decide +kernel

/-- The row of the padded keys that lane `j` of chunk `c` reads. -/
theorem keyWord (c : Fin 128) (j : Fin 576) : (val_main_v44 (F := Ideal) (ix3 c j 0)).toInt.toNat = c.val * 64 + j.val := by
  pointwise [val_main_v44, val_main_v43, val_main_v42, val_main_v41, val_main_v40, val_main_v39, val_main_v38, val_main_v37, val_main_v36,
    val_main_v34, val_main_v33, val_main_v32, val_main_v31, val_main_v15, val_main_v14, val_main_c_7, val_main_c_8, val_main_c_9]
  simp only [word_add]
  exact wrap_key ⟨c.val * 64 + j.val, by omega⟩

/-- The row of the padded values that lane `j` of chunk `c` reads. -/
theorem valueWord (c : Fin 128) (j : Fin 576) : (val_main_v54 (F := Ideal) (ix3 c j 0)).toInt.toNat = c.val * 64 + j.val := by
  pointwise [val_main_v54, val_main_v53, val_main_v52, val_main_v51, val_main_v50, val_main_v49, val_main_v48, val_main_v47, val_main_v46,
    val_main_v34, val_main_v33, val_main_v32, val_main_v31, val_main_v15, val_main_v14, val_main_c_7, val_main_c_10, val_main_c_11]
  simp only [word_add]
  exact wrap_key ⟨c.val * 64 + j.val, by omega⟩

/-- The bias entry that row `q` and lane `j` read. -/
theorem biasWord (q : Fin 64) (j : Fin 576) : (val_main_v29 (F := Ideal) (ix3 q j 0)).toInt.toNat = min (640 + q.val - j.val) 256 := by
  pointwise [val_main_v29, val_main_v28, val_main_v27, val_main_v26, val_main_v25, val_main_v24, val_main_v23, val_main_v22, val_main_v21,
    val_main_call2_v4, val_main_call2_v3, val_main_call2_v2, val_main_call2_v1, val_main_call2_v0, val_main_v20, val_main_v19, val_main_v18, val_main_v17, val_main_v16,
    val_main_v15, val_main_v14, val_main_v13, val_main_v12, val_main_c_1, val_main_c_2, val_main_c_3, val_main_c_4, val_main_c_5, val_main_c_6]
  refine (congrArg (fun w => (relWord w).toInt.toNat) (word_rel q.val j.val j.isLt)).trans ?_
  refine (rel_key ⟨q.val + 576 - j.val, by omega⟩).trans ?_
  show min (q.val + 576 - j.val + 64) 256 = _
  omega

/-- The gathered keys. -/
theorem band_key (b : Fin 4) (c : Fin 128) (j : Fin 576) (h : Fin 16) (d : Fin 128) (hc : c.val * 64 + j.val < 8704) :
    val_main_v45 (F := Ideal) x0 (ix5 b c j h d) = val_main_v8 (F := Ideal) x0 (ix4 b ⟨c.val * 64 + j.val, hc⟩ h d) := by
  refine (Cert.Gathers.rowTable (val_main_v8 (F := Ideal) x0) (val_main_v44 (F := Ideal)) b c j h d).trans ?_
  refine congrArg (fun p => val_main_v8 (F := Ideal) x0 (ix4 b p h d)) (Fin.ext ?_)
  show min (val_main_v44 (F := Ideal) (ix3 c j 0)).toInt.toNat 8703 = c.val * 64 + j.val
  rw [keyWord]; omega

/-- The gathered values. -/
theorem band_value (b : Fin 4) (c : Fin 128) (j : Fin 576) (h : Fin 16) (d : Fin 128) (hc : c.val * 64 + j.val < 8704) :
    val_main_v55 (F := Ideal) x0 (ix5 b c j h d) = val_main_v11 (F := Ideal) x0 (ix4 b ⟨c.val * 64 + j.val, hc⟩ h d) := by
  refine (Cert.Gathers.rowTable (val_main_v11 (F := Ideal) x0) (val_main_v54 (F := Ideal)) b c j h d).trans ?_
  refine congrArg (fun p => val_main_v11 (F := Ideal) x0 (ix4 b p h d)) (Fin.ext ?_)
  show min (val_main_v54 (F := Ideal) (ix3 c j 0)).toInt.toNat 8703 = c.val * 64 + j.val
  rw [valueWord]; omega

/-- The gathered bias. -/
theorem band_bias (h : Fin 16) (q : Fin 64) (j : Fin 576) :
    val_main_v30 (F := Ideal) x1 (ix3 h q j) = x1 (ix2 h ⟨min (640 + q.val - j.val) 256, by omega⟩) := by
  refine (Cert.Gathers.columnTable x1 (val_main_v29 (F := Ideal)) h q j).trans ?_
  refine congrArg (fun p => x1 (ix2 h p)) (Fin.ext ?_)
  show min (val_main_v29 (F := Ideal) (ix3 q j 0)).toInt.toNat 256 = min (640 + q.val - j.val) 256
  rw [biasWord]; omega

/-- The scores before masking. -/
theorem dot_at (b : Fin 4) (c : Fin 128) (h : Fin 16) (r : Fin 64) (j : Fin 576) :
    val_main_v56 (F := Ideal) x0 (ix5 b c h r j)
      = ∑ d : Fin 128, val_main_v35 (F := Ideal) x0 (ix5 b c r h d) * val_main_v45 (F := Ideal) x0 (ix5 b c j h d) := by
  unfold val_main_v56
  generalize val_main_v35 (F := Ideal) x0 = y
  generalize val_main_v45 (F := Ideal) x0 = z
  pointwise

theorem select_ofBool (p : Prop) [Decidable p] (a b : EReal) : Scalar.select (BitVec.ofBool (decide p)) a b = if p then a else b := by
  by_cases h : p <;> simp [h, Scalar.select]

/-- The masked scores. -/
theorem masked (b : Fin 4) (c : Fin 128) (h : Fin 16) (r : Fin 64) (j : Fin 576) :
    val_main_v68 (F := Ideal) x0 x1 (ix5 b c h r j)
      = if 512 ≤ c.val * 64 + j.val then val_main_v56 (F := Ideal) x0 (ix5 b c h r j) + val_main_v30 (F := Ideal) x1 (ix3 h r j) else Ideal.ofBits .f32 0xFF800000#32 := by
  rw [val_main_v68_apply, val_main_v59_apply]
  generalize val_main_v56 (F := Ideal) x0 = y
  generalize hg : val_main_v30 (F := Ideal) x1 = z
  pointwise [val_main_call3_v0, val_main_call3_v1, val_main_call3_v2, val_main_v67, val_main_v66, val_main_v65, val_main_v64, val_main_v63, val_main_v62, val_main_v61,
    val_main_v60, val_main_v15, val_main_v14, val_main_v34, val_main_v33, val_main_v32, val_main_v31, val_main_c_7, val_main_c_12, val_main_c_13, val_main_cst_14,
    val_main_v58, val_main_v57, hg]
  rw [word_sub_add]
  refine (congrArg (fun w => (Scalar.select w _ _ : EReal)) (valid_key ⟨c.val * 64 + j.val, by omega⟩)).trans ?_
  exact select_ofBool _ _ _

/-- The row maxima. -/
theorem max_at (b : Fin 4) (c : Fin 128) (h : Fin 16) (r : Fin 64) :
    val_main_v71 (F := Ideal) x0 x1 (ix4 b c h r) = Finset.univ.sup fun j : Fin 576 => val_main_v68 (F := Ideal) x0 x1 (ix5 b c h r j) := by
  rw [val_main_v71_apply]
  unfold val_main_v69
  generalize val_main_v68 (F := Ideal) x0 x1 = y
  pointwise [val_main_v70, val_main_cst_15, val_main_cst_16]
  rw [Cert.Band.negInf, max_eq_right bot_le]
  exact Cert.Softmax.fold_max_bot _

/-- The softmax weights. -/
theorem prob_at (b : Fin 4) (c : Fin 128) (h : Fin 16) (r : Fin 64) (j : Fin 576) :
    val_main_v79 (F := Ideal) x0 x1 (ix5 b c h r j)
      = Ideal.div (Ideal.exp (val_main_v68 (F := Ideal) x0 x1 (ix5 b c h r j) - val_main_v71 (F := Ideal) x0 x1 (ix4 b c h r)))
          (∑ w : Fin 576, Ideal.exp (val_main_v68 (F := Ideal) x0 x1 (ix5 b c h r w) - val_main_v71 (F := Ideal) x0 x1 (ix4 b c h r))) := by
  unfold val_main_v79 val_main_v78 val_main_v77 val_main_v76 val_main_v75 val_main_v74 val_main_v73 val_main_v72
  generalize val_main_v71 (F := Ideal) x0 x1 = y
  generalize val_main_v68 (F := Ideal) x0 x1 = z
  pointwise [val_main_cst_17]

/-- The average of the values. -/
theorem average_at (b : Fin 4) (c : Fin 128) (h : Fin 16) (r : Fin 64) (d : Fin 128) :
    val_main_v80 (F := Ideal) x0 x1 (ix5 b c h d r)
      = ∑ j : Fin 576, val_main_v55 (F := Ideal) x0 (ix5 b c j h d) * val_main_v79 (F := Ideal) x0 x1 (ix5 b c h r j) := by
  unfold val_main_v80
  generalize val_main_v55 (F := Ideal) x0 = y
  generalize val_main_v79 (F := Ideal) x0 x1 = z
  pointwise

/-- Where the result holds the average. -/
theorem out_at (b : Fin 4) (c : Fin 128) (r : Fin 64) (h : Fin 16) (d : Fin 128) :
    val_main_v83 (F := Ideal) x0 x1 (ix2 ⟨b.val * 8192 + c.val * 64 + r.val, by omega⟩ ⟨h.val * 128 + d.val, by omega⟩)
      = val_main_v80 (F := Ideal) x0 x1 (ix5 b c h d r) := by
  unfold val_main_v83 val_main_v82 val_main_v81
  generalize val_main_v80 (F := Ideal) x0 x1 = y
  pointwise

variable (a t : ℕ → ℕ → ℝ) (hx : Cert.Band.Reads x0 a) (ht : Cert.Band.BiasReads x1 t)
include hx

/-- The score of one lane on real entries. -/
theorem score_real (ht : Cert.Band.BiasReads x1 t) (b : Fin 4) (c : Fin 128) (h : Fin 16) (r : Fin 64) (j : Fin 576) :
    val_main_v68 (F := Ideal) x0 x1 (ix5 b c h r j) = Cert.Band.entry a t b.val h.val c.val r.val j.val := by
  rw [masked]
  unfold Cert.Band.entry Cert.Softmax.score
  by_cases hk : 512 ≤ c.val * 64 + j.val
  · rw [if_pos hk, if_pos hk, dot_at, band_bias, ht h.val _ h.isLt]
    have hterm : ∀ d : Fin 128, val_main_v35 (F := Ideal) x0 (ix5 b c r h d) * val_main_v45 (F := Ideal) x0 (ix5 b c j h d)
        = ((a (b.val * 8192 + (c.val * 64 + r.val)) (h.val * 128 + d.val) * Cert.Band.scale
            * a (b.val * 8192 + (c.val * 64 + j.val - 512)) (2048 + h.val * 128 + d.val) : ℝ) : EReal) := fun d => by
      rw [q_at, band_key x0 b c j h d (by omega), k_at, dif_pos hk, hx, hx, Cert.Band.scale_eq, ← EReal.coe_mul, ← EReal.coe_mul]
    rw [Finset.sum_congr rfl fun d _ => hterm d, Cert.Softmax.coe_sum, ← EReal.coe_add]
    congr 1
    unfold Cert.Band.score
    rw [Finset.sum_mul]
    congr 1
    exact Finset.sum_congr rfl fun d _ => by ring
  · rw [if_neg hk, if_neg hk, Cert.Band.negInf]

/-- The result on real entries is the band's softmax average. -/
theorem out_real (ht : Cert.Band.BiasReads x1 t) (b : Fin 4) (c : Fin 128) (r : Fin 64) (h : Fin 16) (d : Fin 128) :
    val_main_v83 (F := Ideal) x0 x1 (ix2 ⟨b.val * 8192 + c.val * 64 + r.val, by omega⟩ ⟨h.val * 128 + d.val, by omega⟩)
      = Cert.Band.average a t b.val h.val c.val r.val d.val := by
  rw [out_at, average_at]
  have hM : val_main_v71 (F := Ideal) x0 x1 (ix4 b c h r) = Cert.Band.top a t b.val h.val c.val r.val := by
    rw [max_at]
    unfold Cert.Band.top
    congr 1
    funext j
    exact score_real x0 x1 a t hx ht b c h r j
  have hv : ∀ j : Fin 576, val_main_v55 (F := Ideal) x0 (ix5 b c j h d)
      = (((if Cert.Band.keep c.val j.val then Cert.Band.value a b.val h.val c.val d.val j.val else 0 : ℝ)) : EReal) := fun j => by
    rw [band_value x0 b c j h d (by omega), v_at]
    by_cases hk : 512 ≤ c.val * 64 + j.val
    · rw [dif_pos hk, if_pos hk, hx]; rfl
    · rw [dif_neg hk, if_neg hk]; rfl
  simp only [prob_at, hM, hv, score_real x0 x1 a t hx ht]
  refine (Cert.Softmax.average_eq (fun j : Fin 576 => Cert.Band.keep c.val j.val) (fun j => Cert.Band.score a t b.val h.val c.val r.val j.val)
    (fun j => Cert.Band.value a b.val h.val c.val d.val j.val) _ ⟨⟨512, by omega⟩, by show 512 ≤ c.val * 64 + 512; omega⟩
    (fun j hj => (if_pos hj).symm) _ rfl).symm

end Cert.AttnRefIdeal.Banded

end
-- ==== Proof.Kernel.lean ====
/- The kernel's attention: the result array's blocks are the softmax averages over the bands of keys. -/
module

public import proofs.«01_k».proof.Proof.Block
public import proofs.«01_k».proof.Proof.Inputs
public import proofs.«01_k».proof.Proof.Reference

@[expose] public section

set_option maxRecDepth 16384

noncomputable section

namespace Cert.AttnIdeal.Banded

open Cert.AttnIdeal Cert.AttnIdeal.Gen Cert.AttnIdeal.Block Cert.AttnIdeal.Inputs Idealize.ShloMosaic Idealize.ShloMosaic.TcCoe Idealize.SL.Sem

variable (m : (ℓ : Loc nD τ sig) → Buf (Elt Ideal) ℓ) (c : Dev nD)
variable (a t : ℕ → ℕ → ℝ) (hx : Cert.Band.Reads (m ((c : Thread nD τ).loc main_arg0)) a) (ht : Cert.Band.BiasReads (m ((c : Thread nD τ).loc main_arg1)) t)

theorem point_lt (p : Fin cfg0.N) : p.val < 1024 := p.isLt

include hx in
/-- A query entry: tile `p % 16`, row `r`, that is row `r % 64` of chunk `p % 16 * 8 + r / 64`. -/
theorem q_real (p : Fin cfg0.N) (r : Fin 512) (d : Fin 128) : iblk m c 0 p (ix2 r d)
    = ((a (p.val / 16 % 4 * 8192 + ((p.val % 16 * 8 + r.val / 64) * 64 + r.val % 64)) (p.val / 64 * 128 + d.val) : ℝ) : EReal) := by
  have hp := point_lt p
  refine (q_at m c p r d (by omega) (by omega)).trans ((hx _ _ _ _).trans ?_)
  exact congrArg₂ (fun n k => ((a n k : ℝ) : EReal)) (by omega) (by omega)

include hx in
/-- A key entry of the previous tile, the sequence position `s - 512`. -/
theorem kp_real (p : Fin cfg0.N) (n : Fin 512) (d : Fin 128) (s : ℕ) (hs : s = p.val % 16 * 512 + n.val) (h0 : p.val % 16 ≠ 0) : iblk m c 1 p (ix2 n d)
    = ((a (p.val / 16 % 4 * 8192 + (s - 512)) (2048 + p.val / 64 * 128 + d.val) : ℝ) : EReal) := by
  have hp := point_lt p
  refine (kp_at m c p n d (by omega) (by omega)).trans ((hx _ _ _ _).trans ?_)
  exact congrArg₂ (fun n k => ((a n k : ℝ) : EReal)) (by omega) (by omega)

include hx in
/-- A key entry of the tile itself. -/
theorem kc_real (p : Fin cfg0.N) (n : Fin 512) (d : Fin 128) (s : ℕ) (hs : s = p.val % 16 * 512 + (512 + n.val)) : iblk m c 2 p (ix2 n d)
    = ((a (p.val / 16 % 4 * 8192 + (s - 512)) (2048 + p.val / 64 * 128 + d.val) : ℝ) : EReal) := by
  have hp := point_lt p
  refine (kc_at m c p n d (by omega) (by omega)).trans ((hx _ _ _ _).trans ?_)
  exact congrArg₂ (fun n k => ((a n k : ℝ) : EReal)) (by omega) (by omega)

include hx in
/-- A value entry of the previous tile. -/
theorem vp_real (p : Fin cfg0.N) (n : Fin 512) (d : Fin 128) (s : ℕ) (hs : s = p.val % 16 * 512 + n.val) (h0 : p.val % 16 ≠ 0) : iblk m c 3 p (ix2 n d)
    = ((a (p.val / 16 % 4 * 8192 + (s - 512)) (4096 + p.val / 64 * 128 + d.val) : ℝ) : EReal) := by
  have hp := point_lt p
  refine (vp_at m c p n d (by omega) (by omega)).trans ((hx _ _ _ _).trans ?_)
  exact congrArg₂ (fun n k => ((a n k : ℝ) : EReal)) (by omega) (by omega)

include hx in
/-- A value entry of the tile itself. -/
theorem vc_real (p : Fin cfg0.N) (n : Fin 512) (d : Fin 128) (s : ℕ) (hs : s = p.val % 16 * 512 + (512 + n.val)) : iblk m c 4 p (ix2 n d)
    = ((a (p.val / 16 % 4 * 8192 + (s - 512)) (4096 + p.val / 64 * 128 + d.val) : ℝ) : EReal) := by
  have hp := point_lt p
  refine (vc_at m c p n d (by omega) (by omega)).trans ((hx _ _ _ _).trans ?_)
  exact congrArg₂ (fun n k => ((a n k : ℝ) : EReal)) (by omega) (by omega)

include ht in
/-- An entry of the previous tile's bias block. -/
theorem bp_real (p : Fin cfg0.N) (r n : Fin 512) : iblk m c 5 p (ix3 0 r n)
    = (if r.val / 64 ≤ n.val / 64 then ((t (p.val / 64) (min (512 + r.val + 128 - n.val) 256) : ℝ) : EReal) else ⊥ : EReal) := by
  have hp := point_lt p
  refine (bp_at m c p r n (by omega)).trans ((table_prev m c _ r n).trans ?_)
  rw [Cert.Band.negInf]
  exact congrArg (fun x : EReal => if r.val / 64 ≤ n.val / 64 then x else ⊥) (ht _ _ _ _)

include ht in
/-- An entry of the tile's own bias block. -/
theorem bc_real (p : Fin cfg0.N) (r n : Fin 512) : iblk m c 6 p (ix3 0 r n)
    = (if n.val / 64 ≤ r.val / 64 then ((t (p.val / 64) (min (r.val + 128 - n.val) 256) : ℝ) : EReal) else ⊥ : EReal) := by
  have hp := point_lt p
  refine (bc_at m c p r n (by omega)).trans ((table_cur m c _ r n).trans ?_)
  rw [Cert.Band.negInf]
  exact congrArg (fun x : EReal => if n.val / 64 ≤ r.val / 64 then x else ⊥) (ht _ _ _ _)

/-- A scaled product of real rows plus a table entry that is real or `−∞`. -/
theorem dotBias_real (q k : S512x128.Idx → EReal) (b : S1x512x512.Idx → EReal) (r n : Fin 512) (x y : Fin 128 → ℝ) (keep : Prop) [Decidable keep] (e : ℝ)
    (hq : ∀ d, q (ix2 r d) = (x d : EReal)) (hk : ∀ d, k (ix2 n d) = (y d : EReal)) (hb : b (ix3 0 r n) = if keep then (e : EReal) else ⊥) :
    dotBias q k b r n = if keep then (((∑ d, x d * y d) * Cert.Band.scale + e : ℝ) : EReal) else ⊥ := by
  unfold dotBias
  simp only [hq, hk, hb, Cert.Band.scale_eq, ← EReal.coe_mul]
  rw [Cert.Softmax.coe_sum, ← EReal.coe_mul]
  split
  · rw [← EReal.coe_add]
  · exact EReal.add_bot _

/-- The scores of a grid point. -/
abbrev pointScores (p : Fin cfg0.N) : Vec Ideal S512x640 .f32 :=
  scores ((grid0.coords p 2).val = 0) (iblk m c 0 p) (iblk m c 1 p) (iblk m c 2 p) (iblk m c 5 p) (iblk m c 6 p)

include hx ht in
/-- Lane `w` of row `r` holds the score of the band's key `w - r / 64 % 2 * 64`, and `−∞` outside the band. -/
theorem score_lane (p : Fin cfg0.N) (r : Fin 512) (w : Fin 640) : pointScores m c p (ix2 r w)
    = if r.val / 64 % 2 * 64 ≤ w.val ∧ w.val < r.val / 64 % 2 * 64 + 576 then
        Cert.Band.entry a t (p.val / 16 % 4) (p.val / 64) (p.val % 16 * 8 + r.val / 64) (r.val % 64) (w.val - r.val / 64 % 2 * 64) else ⊥ := by
  have hp := point_lt p
  have hi := (idx p).1
  unfold pointScores
  by_cases hW : r.val / 128 * 128 + w.val < 512
  · rw [scores_prev _ _ _ _ _ _ _ r ⟨r.val / 128 * 128 + w.val, hW⟩ rfl rfl]
    by_cases h0 : p.val % 16 = 0
    · rw [if_pos (hi.trans h0)]
      split
      · rename_i hw
        unfold Cert.Band.entry Cert.Softmax.score
        rw [if_neg]
        show ¬ 512 ≤ (p.val % 16 * 8 + r.val / 64) * 64 + (w.val - r.val / 64 % 2 * 64)
        omega
      · rfl
    · rw [if_neg (fun h => h0 (hi.symm.trans h)), dotBias_real _ _ _ _ _ _ _ _ _ (q_real m c a hx p r) (fun d => kp_real m c a hx p _ d _ rfl h0) (bp_real m c t ht p r _)]
      by_cases hw : r.val / 64 % 2 * 64 ≤ w.val
      · rw [if_pos (by show r.val / 64 ≤ (r.val / 128 * 128 + w.val) / 64; omega), if_pos ⟨hw, by omega⟩]
        unfold Cert.Band.entry Cert.Softmax.score
        rw [if_pos (by show 512 ≤ (p.val % 16 * 8 + r.val / 64) * 64 + (w.val - r.val / 64 % 2 * 64); omega)]
        unfold Cert.Band.score
        rw [show p.val % 16 * 512 + (r.val / 128 * 128 + w.val) = (p.val % 16 * 8 + r.val / 64) * 64 + (w.val - r.val / 64 % 2 * 64) by omega,
          show 512 + r.val + 128 - (r.val / 128 * 128 + w.val) = 640 + r.val % 64 - (w.val - r.val / 64 % 2 * 64) by omega]
      · rw [if_neg (by show ¬ r.val / 64 ≤ (r.val / 128 * 128 + w.val) / 64; omega), if_neg (by omega)]
  · rw [scores_cur _ _ _ _ _ _ _ r ⟨r.val / 128 * 128 + w.val - 512, by omega⟩ rfl (by show r.val / 128 * 128 + w.val = 512 + (r.val / 128 * 128 + w.val - 512); omega),
      dotBias_real _ _ _ _ _ _ _ _ _ (q_real m c a hx p r) (fun d => kc_real m c a hx p _ d _ rfl) (bc_real m c t ht p r _)]
    by_cases hw : w.val < r.val / 64 % 2 * 64 + 576
    · rw [if_pos (by show (r.val / 128 * 128 + w.val - 512) / 64 ≤ r.val / 64; omega), if_pos ⟨by omega, hw⟩]
      unfold Cert.Band.entry Cert.Softmax.score
      rw [if_pos (by show 512 ≤ (p.val % 16 * 8 + r.val / 64) * 64 + (w.val - r.val / 64 % 2 * 64); omega)]
      unfold Cert.Band.score
      rw [show p.val % 16 * 512 + (512 + (r.val / 128 * 128 + w.val - 512)) = (p.val % 16 * 8 + r.val / 64) * 64 + (w.val - r.val / 64 % 2 * 64) by omega,
        show r.val + 128 - (r.val / 128 * 128 + w.val - 512) = 640 + r.val % 64 - (w.val - r.val / 64 % 2 * 64) by omega]
    · rw [if_neg (by show ¬ (r.val / 128 * 128 + w.val - 512) / 64 ≤ r.val / 64; omega), if_neg (by omega)]

include hx in
/-- The value row that lane `r / 64 % 2 * 64 + j` multiplies is the band's value row of key `j`, where that key exists. -/
theorem value_lane (p : Fin cfg0.N) (r : Fin 512) (d : Fin 128) (j : ℕ) (w : Fin 640) (hw : w.val = r.val / 64 % 2 * 64 + j) (hj : j < 576)
    (hk : Cert.Band.keep (p.val % 16 * 8 + r.val / 64) j) :
    values (iblk m c 3 p) (iblk m c 4 p) r d w
      = (Cert.Band.value a (p.val / 16 % 4) (p.val / 64) (p.val % 16 * 8 + r.val / 64) d.val j : EReal) := by
  have hp := point_lt p
  have hk' : 512 ≤ (p.val % 16 * 8 + r.val / 64) * 64 + j := hk
  unfold values Cert.Band.value
  by_cases hW : r.val / 128 * 128 + w.val < 512
  · rw [if_pos hW]
    exact vp_real m c a hx p (key _) d _ (by show (p.val % 16 * 8 + r.val / 64) * 64 + j = p.val % 16 * 512 + (r.val / 128 * 128 + w.val) % 512; omega) (by omega)
  · rw [if_neg hW]
    exact vc_real m c a hx p (key _) d _ (by show (p.val % 16 * 8 + r.val / 64) * 64 + j = p.val % 16 * 512 + (512 + (r.val / 128 * 128 + w.val) % 512); omega)

include hx ht in
/-- The score of the band's key `j` sits `r / 64 % 2 * 64` lanes further. -/
theorem score_band (p : Fin cfg0.N) (r : Fin 512) (j : Fin 576) (w : Fin 640) (hw : w.val = r.val / 64 % 2 * 64 + j.val) :
    pointScores m c p (ix2 r w) = Cert.Band.entry a t (p.val / 16 % 4) (p.val / 64) (p.val % 16 * 8 + r.val / 64) (r.val % 64) j.val := by
  rw [score_lane m c a t hx ht p r w, if_pos (by omega), hw, Nat.add_sub_cancel_left]

include hx ht in
/-- A row's largest score is the band's. -/
theorem top_lane (p : Fin cfg0.N) (r : Fin 512) :
    ((Finset.univ : Finset (Fin 640)).fold max (Ideal.ofBits .f32 0xFF800000#32) fun w => pointScores m c p (ix2 r w))
      = Cert.Band.top a t (p.val / 16 % 4) (p.val / 64) (p.val % 16 * 8 + r.val / 64) (r.val % 64) := by
  rw [Cert.Band.negInf, Cert.Softmax.fold_max_bot,
    Cert.Softmax.sup_window (k := 576) (r.val / 64 % 2 * 64) (by omega) _ fun w hw => (score_lane m c a t hx ht p r w).trans (if_neg hw)]
  unfold Cert.Band.top
  congr 1
  funext j
  exact score_band m c a t hx ht p r j _ rfl

theorem exp_bot_sub (x : EReal) : Ideal.exp (⊥ - x) = 0 := by
  rw [EReal.bot_sub]; rfl

include hx ht in
/-- An exponential of the band. -/
theorem exp_band (p : Fin cfg0.N) (r : Fin 512) (w : Fin 640) : expScores (pointScores m c p) (ix2 r w)
    = if r.val / 64 % 2 * 64 ≤ w.val ∧ w.val < r.val / 64 % 2 * 64 + 576 then
        Ideal.exp (Cert.Band.entry a t (p.val / 16 % 4) (p.val / 64) (p.val % 16 * 8 + r.val / 64) (r.val % 64) (w.val - r.val / 64 % 2 * 64)
          - Cert.Band.top a t (p.val / 16 % 4) (p.val / 64) (p.val % 16 * 8 + r.val / 64) (r.val % 64)) else 0 := by
  have e : expScores (pointScores m c p) (ix2 r w) = Ideal.exp (pointScores m c p (ix2 r w)
      - (Finset.univ : Finset (Fin 640)).fold max (Ideal.ofBits .f32 0xFF800000#32) fun w => pointScores m c p (ix2 r w)) := rfl
  rw [e, top_lane m c a t hx ht p r, score_lane m c a t hx ht p r w]
  split
  · rfl
  · exact exp_bot_sub _

include hx ht in
/-- The block a grid point writes is the band's softmax average. -/
theorem block_real (p : Fin cfg0.N) (r : Fin 512) (d : Fin 128) : outsAt0 m c p (ix2 r d)
    = Cert.Band.average a t (p.val / 16 % 4) (p.val / 64) (p.val % 16 * 8 + r.val / 64) (r.val % 64) d.val := by
  refine (outsAt0_eq m c p (ix2 r d)).trans ?_
  have hsum : rowSums (pointScores m c p) (ix2 r d) = ∑ j : Fin 576,
      Ideal.exp (Cert.Band.entry a t (p.val / 16 % 4) (p.val / 64) (p.val % 16 * 8 + r.val / 64) (r.val % 64) j.val
        - Cert.Band.top a t (p.val / 16 % 4) (p.val / 64) (p.val % 16 * 8 + r.val / 64) (r.val % 64)) := by
    refine (Cert.Softmax.sum_window (k := 576) (r.val / 64 % 2 * 64) (by omega) (fun w : Fin 640 => (expScores (pointScores m c p) (ix2 r w) : EReal))
      fun w hw => (exp_band m c a t hx ht p r w).trans (if_neg hw)).trans ?_
    refine Finset.sum_congr rfl fun j _ => ?_
    have hj := j.isLt
    refine (exp_band m c a t hx ht p r _).trans ?_
    rw [if_pos (by constructor <;> dsimp only <;> omega)]
    simp only [Nat.add_sub_cancel_left]
  have hnum : (∑ w : Fin 640, (expScores (pointScores m c p) (ix2 r w) : EReal) * values (iblk m c 3 p) (iblk m c 4 p) r d w) = ∑ j : Fin 576,
      Ideal.exp (Cert.Band.entry a t (p.val / 16 % 4) (p.val / 64) (p.val % 16 * 8 + r.val / 64) (r.val % 64) j.val
        - Cert.Band.top a t (p.val / 16 % 4) (p.val / 64) (p.val % 16 * 8 + r.val / 64) (r.val % 64))
      * (Cert.Band.value a (p.val / 16 % 4) (p.val / 64) (p.val % 16 * 8 + r.val / 64) d.val j.val : EReal) := by
    refine (Cert.Softmax.sum_window (k := 576) (r.val / 64 % 2 * 64) (by omega)
      (fun w : Fin 640 => (expScores (pointScores m c p) (ix2 r w) : EReal) * values (iblk m c 3 p) (iblk m c 4 p) r d w) fun w hw => ?_).trans ?_
    · show (expScores (pointScores m c p) (ix2 r w) : EReal) * _ = 0
      rw [exp_band m c a t hx ht p r w, if_neg hw, zero_mul]
    · refine Finset.sum_congr rfl fun j _ => ?_
      have hj := j.isLt
      rw [exp_band m c a t hx ht p r, if_pos (by constructor <;> dsimp only <;> omega)]
      simp only [Nat.add_sub_cancel_left]
      by_cases hk : Cert.Band.keep (p.val % 16 * 8 + r.val / 64) j.val
      · rw [value_lane m c a hx p r d j.val _ rfl hj hk]
      · have hb : Cert.Band.entry a t (p.val / 16 % 4) (p.val / 64) (p.val % 16 * 8 + r.val / 64) (r.val % 64) j.val = ⊥ := if_neg hk
        rw [hb, exp_bot_sub, zero_mul, zero_mul]
  exact congrArg₂ Ideal.div hnum hsum

include hx ht in
/-- **The kernel's result array is the reference's result**, on real operands. -/
theorem final : (Cert.AttnIdeal.Gen.dats m 0 c).arrAt 7 cfg0.N
    = (Cert.AttnRefIdeal.Read.val_main_v83 (F := Ideal) (m ((c : Thread nD τ).loc main_arg0)) (m ((c : Thread nD τ).loc main_arg1)) : S32768x2048.Idx → EReal) := by
  refine (Cert.AttnIdeal.Gen.dats m 0 c).arrAt_eq_of_covers 7 _ (by decide +kernel) fun p _ y => ?_
  have hp := point_lt p
  have hr : (y 0).val < 512 := (y 0).isLt
  have hd : (y 1).val < 128 := (y 1).isLt
  rw [after0_7]
  refine Eq.trans (b := outsAt0 m c p (ix2 ⟨(y 0).val, hr⟩ ⟨(y 1).val, hd⟩)) ?_ ?_
  · blk_simp
    exact congrArg (outsAt0 m c p) (eq_ix2 y)
  · refine (block_real m c a t hx ht p _ _).trans ?_
    refine (Cert.AttnRefIdeal.Banded.out_real _ _ a t hx ht ⟨p.val / 16 % 4, by omega⟩ ⟨p.val % 16 * 8 + (y 0).val / 64, by omega⟩ ⟨(y 0).val % 64, by omega⟩
      ⟨p.val / 64, by omega⟩ ⟨(y 1).val, hd⟩).symm.trans ?_
    refine congrArg (Cert.AttnRefIdeal.Read.val_main_v83 (F := Ideal) (m ((c : Thread nD τ).loc main_arg0)) (m ((c : Thread nD τ).loc main_arg1))) ?_
    funext b
    refine Fin.ext ?_
    match b with
    | ⟨0, _⟩ =>
      blk_simp [idx p]
      show p.val / 16 % 4 * 8192 + (p.val % 16 * 8 + (y 0).val / 64) * 64 + (y 0).val % 64 = (p.val / 16 % 4 * 16 + p.val % 16) * 512 + (y 0).val
      omega
    | ⟨1, _⟩ =>
      blk_simp [idx p]
      show p.val / 64 * 128 + (y 1).val = p.val / 64 * 128 + (y 1).val
      rfl

end Cert.AttnIdeal.Banded

end
-- ==== Proof.Attention.lean ====
/- The claims about chunked attention, one theorem each. -/
module

public import proofs.«01_k».proof.Defs
public import proofs.«01_k».proof.Proof.Gen.Attn.Frame
public import proofs.«01_k».proof.Proof.Gen.AttnIdeal.Frame
public import proofs.«01_k».proof.Proof.Gen.AttnIdeal.Value
public import proofs.«01_k».proof.Proof.Gen.AttnRefIdeal.Run
public import proofs.«01_k».proof.Proof.Gen.Pre_finite_operands
public import proofs.«01_k».proof.Proof.Kernel
public import Idealize.ShloMosaic.Lib.KernelVsHost
public import Idealize.ShloMosaic.Lib.Quiescent

@[expose] public section

set_option maxRecDepth 16384

noncomputable section

namespace Cert.Attention

open Idealize.ShloMosaic Idealize.ShloMosaic.TcCoe Idealize.SL.Sem

/-- The printed kernel runs and keeps its arguments. -/
theorem frame : quiescent_Attn (hAttn := Cert.Attn.Gen.facts) := fun m g _ => Cert.Attn.Gen.frame m g

/-- So does the idealized kernel. -/
theorem frame_ideal : quiescent_AttnIdeal (hAttnIdeal := Cert.AttnIdeal.Gen.facts) := fun m g _ => Cert.AttnIdeal.Gen.frame m g

/-- So does the idealized kernel on finite operands. -/
theorem frame_ideal_finite : quiescent_AttnIdeal_pre_finite_operands (hAttnIdeal := Cert.AttnIdeal.Gen.facts)
    (hPre_finite_operands := Cert.Pre_finite_operands.Gen.facts) := fun m g _ => Cert.AttnIdeal.Gen.frame m g

/-- So does the reference, which declares no semaphore. -/
theorem frame_reference : quiescent_AttnRefIdeal (hAttnRefIdeal := Cert.AttnRefIdeal.Gen.facts) := fun m g _ =>
  (θ_run Cert.AttnRefIdeal.defs _ _).mono (fun r h => ⟨fun c => (h c).2, sem_eq_zero_of_no_sems (by decide) r.2⟩)
    (Cert.AttnRefIdeal.Value.run m g)

/-- So does the reference on finite operands. -/
theorem frame_reference_finite : quiescent_AttnRefIdeal_pre_finite_operands (hAttnRefIdeal := Cert.AttnRefIdeal.Gen.facts)
    (hPre_finite_operands := Cert.Pre_finite_operands.Gen.facts) := fun m g _ => frame_reference m g trivial

/-- The mask constant of the kernel stands for `−∞`. -/
theorem preserves : preserves_Attn_AttnIdeal := IdealRules.named_const.statement Cert.AttnIdeal.κ "mask" .f32 0xF149F2CA#32 ⊥ rfl

/-- An operand whose magnitude is below `+∞` is neither infinity. -/
theorem finite_of_olt (x : EReal) (h : FloatOps.cmpf (F := Ideal) (φ := .f32) .olt (FloatOps.hostAbsf (F := Ideal) (φ := .f32) x) (FloatOps.ofBits (F := Ideal) .f32 0x7F800000#32) = 1#1) :
    x ≠ ⊤ ∧ x ≠ ⊥ := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  constructor
  · rintro rfl
    simp [Ideal.cmp] at h'
  · rintro rfl
    simp [Ideal.cmp] at h'

/-- The precondition says that both operands are real everywhere. -/
theorem operands_real (m : (ℓ : Loc Cert.AttnIdeal.nD Cert.AttnIdeal.τ Cert.AttnIdeal.sig) → Buf (Elt Ideal) ℓ)
    (h : Pre_AttnIdeal_finite_operands (hPre_finite_operands := Cert.Pre_finite_operands.Gen.facts) m) (c : Dev Cert.AttnIdeal.nD) :
    ∃ a t : ℕ → ℕ → ℝ, Cert.Band.Reads (m ((c.tc : Thread Cert.AttnIdeal.nD Cert.AttnIdeal.τ).loc Cert.AttnIdeal.main_arg0)) a
      ∧ Cert.Band.BiasReads (m ((c.tc : Thread Cert.AttnIdeal.nD Cert.AttnIdeal.τ).loc Cert.AttnIdeal.main_arg1)) t := by
  obtain ⟨h0, h1⟩ := h c
  obtain ⟨a, ha⟩ := Cert.Band.reads_of_finite (N := 32768) (K := 6144) (m ((c.tc : Thread Cert.AttnIdeal.nD Cert.AttnIdeal.τ).loc Cert.AttnIdeal.main_arg0))
    fun i => finite_of_olt _ (congrFun h0 i)
  obtain ⟨t, ht⟩ := Cert.Band.reads_of_finite (N := 16) (K := 257) (m ((c.tc : Thread Cert.AttnIdeal.nD Cert.AttnIdeal.τ).loc Cert.AttnIdeal.main_arg1))
    fun i => finite_of_olt _ (congrFun h1 i)
  exact ⟨a, t, ha, ht⟩

/-- **The kernel computes the reference's attention**: on finite operands both programs end with the same array. -/
theorem algebraic : algebraic_AttnIdeal_AttnRefIdeal_pre_finite_operands (hAttnIdeal := Cert.AttnIdeal.Gen.facts)
    (hAttnRefIdeal := Cert.AttnRefIdeal.Gen.facts) (hPre_finite_operands := Cert.Pre_finite_operands.Gen.facts) := by
  intro m g m' g' hpre hm
  refine ⟨fun c => (Cert.AttnIdeal.Gen.dats m 0 c).arrAt 7 Cert.AttnIdeal.cfg0.N, Cert.AttnIdeal.Value.run_blocks m g, ?_⟩
  refine (θ_run _ _ _).mono (fun r h c => ⟨(h c).1.trans ?_, (h c).2⟩) (Cert.AttnRefIdeal.Value.run m' g')
  obtain ⟨a, t, ha, ht⟩ := operands_real m hpre c
  rw [Cert.AttnRefIdeal.Read.val_main_v83_eq m' c, (hm c).1, (hm c).2]
  exact (Cert.AttnIdeal.Banded.final m c a t ha ht).symm

end Cert.Attention

end
-- ==== Proof.Qkv.lean ====
/- The projection to queries, keys and values: a product by tiles of 1024 rows and 1024 columns is the whole product. -/
module

public import proofs.«01_k».proof.Defs
public import proofs.«01_k».proof.Proof.Gen.Qkv.Frame
public import proofs.«01_k».proof.Proof.Gen.QkvIdeal.Value
public import proofs.«01_k».proof.Proof.Gen.QkvRefIdeal.Read
public import Idealize.ShloMosaic.Lib.Pipeline.ValueKit
public import Idealize.ShloMosaic.Lib.Pointwise
public import Idealize.ShloMosaic.Lib.Quiescent

@[expose] public section

set_option maxRecDepth 16384

noncomputable section

namespace Cert.QkvIdeal.Product

open Cert.QkvIdeal Cert.QkvIdeal.Gen Idealize.ShloMosaic Idealize.ShloMosaic.TcCoe Idealize.SL.Sem

/-- The reference of the projection, as a function of its arguments. -/
abbrev product := Cert.QkvRefIdeal.Read.val_main_v2 (F := Ideal)

/-- Every window's block: column tile `t / 32`, row tile `t % 32`. -/
theorem idx : ∀ t : Fin cfg0.N, win0_0.index t = ![t.val % 32, 0] ∧ win0_1.index t = ![0, t.val / 32] ∧ win0_2.index t = ![t.val % 32, t.val / 32] :=
  (by decide +kernel : ∀ t : Fin grid0.N, _)

/-- The kernel's result array is the reference's product. -/
theorem final (m : (ℓ : Loc nD τ sig) → Buf (Elt Ideal) ℓ) (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, product, Cert.QkvRefIdeal.Read.val_main_v2, Cert.QkvRefIdeal.Read.val_main_v1, Cert.QkvRefIdeal.Read.val_main_v0]
  blk_point [iblk, V, idx t]

/-- The printed kernel runs and keeps its arguments. -/
theorem frame : quiescent_Qkv (hQkv := Cert.Qkv.Gen.facts) := fun m g _ => Cert.Qkv.Gen.frame m g

/-- So does the idealized kernel. -/
theorem frame_ideal : quiescent_QkvIdeal (hQkvIdeal := Cert.QkvIdeal.Gen.facts) := fun m g _ => Cert.QkvIdeal.Gen.frame m g

/-- So does the reference, which declares no semaphore. -/
theorem frame_reference : quiescent_QkvRefIdeal (hQkvRefIdeal := Cert.QkvRefIdeal.Gen.facts) := fun m g _ =>
  (θ_run Cert.QkvRefIdeal.defs _ _).mono (fun r h => ⟨fun c => (h c).2, sem_eq_zero_of_no_sems (by decide) r.2⟩)
    (Cert.QkvRefIdeal.Value.run m g)

/-- **The kernel computes the reference's projection.** -/
theorem algebraic : algebraic_QkvIdeal_QkvRefIdeal (hQkvIdeal := Cert.QkvIdeal.Gen.facts) (hQkvRefIdeal := Cert.QkvRefIdeal.Gen.facts) := by
  intro m g m' g' _ hm
  refine ⟨fun c => (dats m 0 c).arrAt 2 cfg0.N, Value.run_blocks m g, ?_⟩
  refine (θ_run _ _ _).mono (fun r h c => ⟨(h c).1.trans ?_, (h c).2⟩) (Cert.QkvRefIdeal.Value.run m' g')
  rw [(hm c).1, (hm c).2]
  exact (final m c).symm

end Cert.QkvIdeal.Product

end
-- ==== Proof.Query.lean ====
/- The queries of the product-key search, transposed: a product by tiles of 1024 rows and 1024 columns is the whole product. -/
module

public import proofs.«01_k».proof.Defs
public import proofs.«01_k».proof.Proof.Gen.Query.Frame
public import proofs.«01_k».proof.Proof.Gen.QueryIdeal.Value
public import proofs.«01_k».proof.Proof.Gen.QueryRefIdeal.Read
public import Idealize.ShloMosaic.Lib.Pipeline.ValueKit
public import Idealize.ShloMosaic.Lib.Pointwise
public import Idealize.ShloMosaic.Lib.Quiescent

@[expose] public section

set_option maxRecDepth 16384

noncomputable section

namespace Cert.QueryIdeal.Product

open Cert.QueryIdeal Cert.QueryIdeal.Gen Idealize.ShloMosaic Idealize.ShloMosaic.TcCoe Idealize.SL.Sem

/-- The reference of the projection, as a function of its arguments. -/
abbrev product := Cert.QueryRefIdeal.Read.val_main_v4 (F := Ideal)

/-- Every window's block: column tile `t / 2`, row tile `t % 2`. -/
theorem idx : ∀ t : Fin cfg0.N, win0_0.index t = ![t.val % 2, 0] ∧ win0_1.index t = ![0, t.val / 2] ∧ win0_2.index t = ![t.val % 2, t.val / 2] :=
  (by decide +kernel : ∀ t : Fin grid0.N, _)

/-- The kernel's result array is the reference's product. -/
theorem final (m : (ℓ : Loc nD τ sig) → Buf (Elt Ideal) ℓ) (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, product, Cert.QueryRefIdeal.Read.val_main_v4, Cert.QueryRefIdeal.Read.val_main_v3, Cert.QueryRefIdeal.Read.val_main_v2, Cert.QueryRefIdeal.Read.val_main_v1, Cert.QueryRefIdeal.Read.val_main_v0]
  refine Finset.sum_congr (M := EReal) rfl fun k _ => (mul_comm (G := EReal) _ _).trans ?_
  blk_point [iblk, V, idx t]

/-- The printed kernel runs and keeps its arguments. -/
theorem frame : quiescent_Query (hQuery := Cert.Query.Gen.facts) := fun m g _ => Cert.Query.Gen.frame m g

/-- So does the idealized kernel. -/
theorem frame_ideal : quiescent_QueryIdeal (hQueryIdeal := Cert.QueryIdeal.Gen.facts) := fun m g _ => Cert.QueryIdeal.Gen.frame m g

/-- So does the reference, which declares no semaphore. -/
theorem frame_reference : quiescent_QueryRefIdeal (hQueryRefIdeal := Cert.QueryRefIdeal.Gen.facts) := fun m g _ =>
  (θ_run Cert.QueryRefIdeal.defs _ _).mono (fun r h => ⟨fun c => (h c).2, sem_eq_zero_of_no_sems (by decide) r.2⟩)
    (Cert.QueryRefIdeal.Value.run m g)

/-- **The kernel computes the reference's projection.** -/
theorem algebraic : algebraic_QueryIdeal_QueryRefIdeal (hQueryIdeal := Cert.QueryIdeal.Gen.facts) (hQueryRefIdeal := Cert.QueryRefIdeal.Gen.facts) := by
  intro m g m' g' _ hm
  refine ⟨fun c => (dats m 0 c).arrAt 2 cfg0.N, Value.run_blocks m g, ?_⟩
  refine (θ_run _ _ _).mono (fun r h c => ⟨(h c).1.trans ?_, (h c).2⟩) (Cert.QueryRefIdeal.Value.run m' g')
  rw [(hm c).1, (hm c).2]
  exact (final m c).symm

end Cert.QueryIdeal.Product

end
-- ==== Proof.SsmIn.lean ====
/- The input projection of the state-space mixer: a product by tiles of 1024 rows and 1024 columns is the whole product. -/
module

public import proofs.«01_k».proof.Defs
public import proofs.«01_k».proof.Proof.Gen.SsmIn.Frame
public import proofs.«01_k».proof.Proof.Gen.SsmInIdeal.Value
public import proofs.«01_k».proof.Proof.Gen.SsmInRefIdeal.Read
public import Idealize.ShloMosaic.Lib.Pipeline.ValueKit
public import Idealize.ShloMosaic.Lib.Pointwise
public import Idealize.ShloMosaic.Lib.Quiescent

@[expose] public section

set_option maxRecDepth 16384

noncomputable section

namespace Cert.SsmInIdeal.Product

open Cert.SsmInIdeal Cert.SsmInIdeal.Gen Idealize.ShloMosaic Idealize.ShloMosaic.TcCoe Idealize.SL.Sem

/-- The reference of the projection, as a function of its arguments. -/
abbrev product := Cert.SsmInRefIdeal.Read.val_main_v2 (F := Ideal)

/-- Every window's block: column tile `t / 32`, row tile `t % 32`. -/
theorem idx : ∀ t : Fin cfg0.N, win0_0.index t = ![t.val % 32, 0] ∧ win0_1.index t = ![0, t.val / 32] ∧ win0_2.index t = ![t.val % 32, t.val / 32] :=
  (by decide +kernel : ∀ t : Fin grid0.N, _)

/-- The kernel's result array is the reference's product. -/
theorem final (m : (ℓ : Loc nD τ sig) → Buf (Elt Ideal) ℓ) (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, product, Cert.SsmInRefIdeal.Read.val_main_v2, Cert.SsmInRefIdeal.Read.val_main_v1, Cert.SsmInRefIdeal.Read.val_main_v0]
  blk_point [iblk, V, idx t]

/-- The printed kernel runs and keeps its arguments. -/
theorem frame : quiescent_SsmIn (hSsmIn := Cert.SsmIn.Gen.facts) := fun m g _ => Cert.SsmIn.Gen.frame m g

/-- So does the idealized kernel. -/
theorem frame_ideal : quiescent_SsmInIdeal (hSsmInIdeal := Cert.SsmInIdeal.Gen.facts) := fun m g _ => Cert.SsmInIdeal.Gen.frame m g

/-- So does the reference, which declares no semaphore. -/
theorem frame_reference : quiescent_SsmInRefIdeal (hSsmInRefIdeal := Cert.SsmInRefIdeal.Gen.facts) := fun m g _ =>
  (θ_run Cert.SsmInRefIdeal.defs _ _).mono (fun r h => ⟨fun c => (h c).2, sem_eq_zero_of_no_sems (by decide) r.2⟩)
    (Cert.SsmInRefIdeal.Value.run m g)

/-- **The kernel computes the reference's projection.** -/
theorem algebraic : algebraic_SsmInIdeal_SsmInRefIdeal (hSsmInIdeal := Cert.SsmInIdeal.Gen.facts) (hSsmInRefIdeal := Cert.SsmInRefIdeal.Gen.facts) := by
  intro m g m' g' _ hm
  refine ⟨fun c => (dats m 0 c).arrAt 2 cfg0.N, Value.run_blocks m g, ?_⟩
  refine (θ_run _ _ _).mono (fun r h c => ⟨(h c).1.trans ?_, (h c).2⟩) (Cert.SsmInRefIdeal.Value.run m' g')
  rw [(hm c).1, (hm c).2]
  exact (final m c).symm

end Cert.SsmInIdeal.Product

end
-- ==== Proof.Out.lean ====
/- The output projection with its residual and normalization: each block of 512 rows is the whole array's. -/
module

public import proofs.«01_k».proof.Defs
public import proofs.«01_k».proof.Proof.Gen.Out.Frame
public import proofs.«01_k».proof.Proof.Gen.OutIdeal.Value
public import proofs.«01_k».proof.Proof.Gen.OutRefIdeal.Read
public import Idealize.ShloMosaic.Lib.Pipeline.ValueKit
public import Idealize.ShloMosaic.Lib.Pointwise
public import Idealize.ShloMosaic.Lib.Quiescent

@[expose] public section

set_option maxRecDepth 16384

noncomputable section

namespace Cert.OutIdeal.Normed

open Cert.OutIdeal Cert.OutIdeal.Gen Idealize.ShloMosaic Idealize.ShloMosaic.TcCoe Idealize.SL.Sem

/-- Every window's block: 512 rows of the operand, the residual and the results; the weight, the scale and the shift whole. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0] ∧ win0_7.index t = ![0, t.val] :=
  (by decide +kernel : ∀ t : Fin grid0.N, _)

variable (m : (ℓ : Loc nD τ sig) → Buf (Elt Ideal) ℓ) (c : Dev nD)

/-- The reference's normalized array, of the kernel's arguments. -/
abbrev normed := Cert.OutRefIdeal.Read.val_main_v28 (F := Ideal) (m ((c : Thread nD τ).loc main_arg0)) (m ((c : Thread nD τ).loc main_arg1))
  (m ((c : Thread nD τ).loc main_arg2)) (m ((c : Thread nD τ).loc main_arg3)) (m ((c : Thread nD τ).loc main_arg4))

/-- The row that row `r` of the block at point `t` is. -/
def row (t : Fin cfg0.N) (r : Fin 512) : Fin 32768 := ⟨t.val * 512 + r.val, by have : t.val < 64 := t.isLt; omega⟩

open Cert.OutRefIdeal.Read in
/-- What the kernel computes of one block of rows. -/
theorem block (t : Fin cfg0.N) (r : Fin 512) (j : Fin 2048) :
    k0_pay2 (F := Ideal) (iblk m c 0 t) (iblk m c 1 t) (iblk m c 2 t) (iblk m c 3 t) (iblk m c 4 t) (ix2 r j) = normed m c (ix2 (row t r) j) := by
  pointwise [k0_pay2, normed, val_main_v28, val_main_v27, val_main_v26, val_main_v25, val_main_v24, val_main_v23, val_main_v22, val_main_v21,
    val_main_v20, val_main_v19, val_main_v18, val_main_v17, val_main_v16, val_main_v15, val_main_v14, val_main_v13, val_main_v12, val_main_v11,
    val_main_v10, val_main_v9, val_main_v8, val_main_v7, val_main_v6, val_main_v5, val_main_v4, val_main_v3, val_main_v2, val_main_v1, val_main_v0,
    val_main_cst, val_main_cst_0, val_main_cst_1, val_main_cst_2, val_main_cst_3, val_main_cst_4]
  blk_point [iblk, V, idx t, row]

/-- The block read at an index. -/
theorem block_at (t : Fin cfg0.N) (y : S512x2048.Idx) :
    k0_pay2 (F := Ideal) (iblk m c 0 t) (iblk m c 1 t) (iblk m c 2 t) (iblk m c 3 t) (iblk m c 4 t) y = normed m c (ix2 (row t (y 0)) (y 1)) :=
  (congrArg _ (ix2_eta y).symm).trans (block m c t (y 0) (y 1))

/-- Where that block lies in the first result array. -/
theorem place5 (t : Fin cfg0.N) (y : S512x2048.Idx) : (win0_5.blk t).view.emb y = ix2 (row t (y 0)) (y 1) := by
  funext a
  refine Fin.ext ?_
  fin_cases a <;> (blk_simp [idx t, row]; rfl)

/-- Where it lies in the second. -/
theorem place6 (t : Fin cfg0.N) (y : S512x2048.Idx) : (win0_6.blk t).view.emb y = ix2 (row t (y 0)) (y 1) := by
  funext a
  refine Fin.ext ?_
  fin_cases a <;> (blk_simp [idx t, row]; rfl)

/-- Where its transpose lies in the third. -/
theorem place7 (t : Fin cfg0.N) (y : S2048x512.Idx) : (win0_7.blk t).view.emb y = ix2 (y 0) (row t (y 1)) := by
  funext a
  refine Fin.ext ?_
  fin_cases a <;> (blk_simp [idx t, row]; rfl)

/-- The first result array is the reference's. -/
theorem final5 : (dats m 0 c).arrAt 5 cfg0.N = normed m c := by
  refine (dats m 0 c).arrAt_eq_of_covers 5 _ (by decide +kernel) fun t _ y => ?_
  rw [after0_5]
  frame_out
  exact (block_at m c t y).trans (congrArg (normed m c) (place5 t y).symm)

/-- The second is the same numbers. -/
theorem final6 : (dats m 0 c).arrAt 6 cfg0.N = normed m c := by
  refine (dats m 0 c).arrAt_eq_of_covers 6 _ (by decide +kernel) fun t _ y => ?_
  rw [after0_6]
  frame_out
  exact (block_at m c t y).trans (congrArg (normed m c) (place6 t y).symm)

/-- The transposed block at an index. -/
theorem turned_at (t : Fin cfg0.N) (y : S2048x512.Idx) :
    k0_pay1 (F := Ideal) (k0_pay4 (iblk m c 0 t) (iblk m c 1 t) (iblk m c 2 t) (iblk m c 3 t) (iblk m c 4 t)) y = normed m c (ix2 (row t (y 1)) (y 0)) := by
  refine Eq.trans ?_ (block m c t (y 1) (y 0))
  pointwise [k0_pay1, k0_pay4]

open Cert.OutRefIdeal.Read in
/-- The reference's third result at an index: the first, transposed. -/
theorem turned_reference (j : Fin 2048) (r : Fin 32768) :
    val_main_v31 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (ix2 j r) = normed m c (ix2 r j) := by
  pointwise [val_main_v31, val_main_v30, normed]

open Cert.OutRefIdeal.Read in
/-- The third result array is the reference's. -/
theorem final7 : (dats m 0 c).arrAt 7 cfg0.N = val_main_v31 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 7 _ (by decide +kernel) fun t _ y => ?_
  rw [after0_7]
  frame_out
  exact (turned_at m c t y).trans ((turned_reference m c (y 0) (row t (y 1))).symm.trans (congrArg _ (place7 t y).symm))

/-- The printed kernel runs and keeps its arguments. -/
theorem frame : quiescent_Out (hOut := Cert.Out.Gen.facts) := fun m g _ => Cert.Out.Gen.frame m g

/-- So does the idealized kernel. -/
theorem frame_ideal : quiescent_OutIdeal (hOutIdeal := Cert.OutIdeal.Gen.facts) := fun m g _ => Cert.OutIdeal.Gen.frame m g

/-- So does the reference, which declares no semaphore. -/
theorem frame_reference : quiescent_OutRefIdeal (hOutRefIdeal := Cert.OutRefIdeal.Gen.facts) := fun m g _ =>
  (θ_run Cert.OutRefIdeal.defs _ _).mono (fun r h => ⟨fun c => (h c).2.2.2, sem_eq_zero_of_no_sems (by decide) r.2⟩)
    (Cert.OutRefIdeal.Value.run m g)

/-- **The kernel computes the reference's projected and normalized array, all three results.** -/
theorem algebraic : algebraic_OutIdeal_OutRefIdeal (hOutIdeal := Cert.OutIdeal.Gen.facts) (hOutRefIdeal := Cert.OutRefIdeal.Gen.facts) := by
  intro m g m' g' _ hm
  refine ⟨fun c => (dats m 0 c).arrAt 5 cfg0.N, fun c => (dats m 0 c).arrAt 6 cfg0.N, fun c => (dats m 0 c).arrAt 7 cfg0.N, Value.run_blocks m g, ?_⟩
  refine (θ_run _ _ _).mono (fun r h c => ⟨(h c).1.trans ?_, (h c).2.1.trans ?_, (h c).2.2.1.trans ?_, (h c).2.2.2⟩) (Cert.OutRefIdeal.Value.run m' g')
  · rw [(hm c).1, (hm c).2.1, (hm c).2.2.1, (hm c).2.2.2.1, (hm c).2.2.2.2]
    exact (final5 m c).symm
  · rw [(hm c).1, (hm c).2.1, (hm c).2.2.1, (hm c).2.2.2.1, (hm c).2.2.2.2]
    exact (final6 m c).symm
  · rw [(hm c).1, (hm c).2.1, (hm c).2.2.1, (hm c).2.2.2.1, (hm c).2.2.2.2]
    exact (final7 m c).symm

end Cert.OutIdeal.Normed

end
-- ==== Proof.Gate.lean ====
/- The gate of the per-layer embedding: each block of 512 rows is the whole array's. -/
module

public import proofs.«01_k».proof.Defs
public import proofs.«01_k».proof.Proof.Gen.Gate.Frame
public import proofs.«01_k».proof.Proof.Gen.GateIdeal.Value
public import proofs.«01_k».proof.Proof.Gen.GateRefIdeal.Read
public import Idealize.ShloMosaic.Lib.Pipeline.ValueKit
public import Idealize.ShloMosaic.Lib.Pointwise
public import Idealize.ShloMosaic.Lib.Quiescent

@[expose] public section

set_option maxRecDepth 16384

noncomputable section

namespace Cert.GateIdeal.Embedded

open Cert.GateIdeal Cert.GateIdeal.Gen Idealize.ShloMosaic Idealize.ShloMosaic.TcCoe Idealize.SL.Sem

/-- Every window's block: 512 rows of the operand, the stream, the embedding and the results; the weights and the bias whole. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0] ∧ win0_7.index t = ![t.val, 0] :=
  (by decide +kernel : ∀ t : Fin grid0.N, _)

variable (m : (ℓ : Loc nD τ sig) → Buf (Elt Ideal) ℓ) (c : Dev nD)

/-- The reference's stream with the gated embedding added, of the kernel's arguments. -/
abbrev embedded := Cert.GateRefIdeal.Read.val_main_v14 (F := Ideal) (m ((c : Thread nD τ).loc main_arg0)) (m ((c : Thread nD τ).loc main_arg1))
  (m ((c : Thread nD τ).loc main_arg2)) (m ((c : Thread nD τ).loc main_arg3)) (m ((c : Thread nD τ).loc main_arg4)) (m ((c : Thread nD τ).loc main_arg5))

/-- The embedding as the kernel is given it: its rows flattened. -/
theorem flat (r : Fin 32768) (k : Fin 256) : (V m c main_v1 : Vec Ideal S32768x256 .bf16) (ix2 r k)
    = (m ((c : Thread nD τ).loc main_arg2) : Vec Ideal S4x8192x256 .f32) (ix3 ⟨r.val / 8192, by omega⟩ ⟨r.val % 8192, by omega⟩ k) := by
  entry_read
  pointwise

/-- The embedding's block: 512 flattened rows. -/
theorem embedding_at (t : Fin cfg0.N) (r : Fin 512) (k : Fin 256) (h : t.val * 512 + r.val < 32768) :
    iblk m c 2 t (ix2 r k) = V m c main_v1 (ix2 ⟨t.val * 512 + r.val, h⟩ k) := by
  blk_ext [iblk, idx t]

/-- The row that row `r` of the block at point `t` is. -/
def row (t : Fin cfg0.N) (r : Fin 512) : Fin 32768 := ⟨t.val * 512 + r.val, by have : t.val < 64 := t.isLt; omega⟩

open Cert.GateRefIdeal.Read in
/-- What the kernel computes of one block of rows. -/
theorem block (t : Fin cfg0.N) (r : Fin 512) (j : Fin 2048) :
    k0_pay1 (F := Ideal) (iblk m c 0 t) (iblk m c 3 t) (iblk m c 5 t) (iblk m c 2 t) (iblk m c 4 t) (iblk m c 1 t) (ix2 r j)
      = embedded m c (ix2 (row t r) j) := by
  pointwise [k0_pay1, embedded, val_main_v14, val_main_v13, val_main_v12, val_main_v11, val_main_v10, val_main_v9, val_main_v8, val_main_v7,
    val_main_v6, val_main_v5, val_main_v4, val_main_v3, val_main_v2, val_main_v1, val_main_v0, val_main_cst, val_main_cst_0, Ideal.logistic]
  reads_congr
  · blk_ext! [iblk, V, idx t, row]
  · blk_ext! [iblk, V, idx t, row]
  · blk_ext! [iblk, V, idx t, row]
  · blk_ext! [iblk, V, idx t, row]
  · exact (embedding_at m c t r _ (row t r).isLt).trans (flat m c _ _)
  · blk_ext! [iblk, V, idx t, row]

/-- Where that block lies in the first result array. -/
theorem place6 (t : Fin cfg0.N) (y : S512x2048.Idx) : (win0_6.blk t).view.emb y = ix2 (row t (y 0)) (y 1) := by
  funext a
  refine Fin.ext ?_
  fin_cases a <;> (blk_simp [idx t, row]; rfl)

/-- Where it lies in the second. -/
theorem place7 (t : Fin cfg0.N) (y : S512x2048.Idx) : (win0_7.blk t).view.emb y = ix2 (row t (y 0)) (y 1) := by
  funext a
  refine Fin.ext ?_
  fin_cases a <;> (blk_simp [idx t, row]; rfl)

/-- The block read at an index of either result's block. -/
theorem block_at (t : Fin cfg0.N) (y : S512x2048.Idx) :
    k0_pay1 (F := Ideal) (iblk m c 0 t) (iblk m c 3 t) (iblk m c 5 t) (iblk m c 2 t) (iblk m c 4 t) (iblk m c 1 t) y
      = embedded m c (ix2 (row t (y 0)) (y 1)) :=
  (congrArg _ (ix2_eta y).symm).trans (block m c t (y 0) (y 1))

/-- The first result array is the reference's. -/
theorem final6 : (dats m 0 c).arrAt 6 cfg0.N = embedded m c := by
  refine (dats m 0 c).arrAt_eq_of_covers 6 _ (by decide +kernel) fun t _ y => ?_
  rw [after0_6]
  frame_out
  exact (block_at m c t y).trans (congrArg (embedded m c) (place6 t y).symm)

/-- The second is the same numbers. -/
theorem final7 : (dats m 0 c).arrAt 7 cfg0.N = embedded m c := by
  refine (dats m 0 c).arrAt_eq_of_covers 7 _ (by decide +kernel) fun t _ y => ?_
  rw [after0_7]
  frame_out
  exact (block_at m c t y).trans (congrArg (embedded m c) (place7 t y).symm)

/-- The printed kernel runs and keeps its arguments. -/
theorem frame : quiescent_Gate (hGate := Cert.Gate.Gen.facts) := fun m g _ => Cert.Gate.Gen.frame m g

/-- So does the idealized kernel. -/
theorem frame_ideal : quiescent_GateIdeal (hGateIdeal := Cert.GateIdeal.Gen.facts) := fun m g _ => Cert.GateIdeal.Gen.frame m g

/-- So does the reference, which declares no semaphore. -/
theorem frame_reference : quiescent_GateRefIdeal (hGateRefIdeal := Cert.GateRefIdeal.Gen.facts) := fun m g _ =>
  (θ_run Cert.GateRefIdeal.defs _ _).mono (fun r h => ⟨fun c => (h c).2.2, sem_eq_zero_of_no_sems (by decide) r.2⟩)
    (Cert.GateRefIdeal.Value.run m g)

/-- **The kernel computes the reference's gated embedding, both results.** -/
theorem algebraic : algebraic_GateIdeal_GateRefIdeal (hGateIdeal := Cert.GateIdeal.Gen.facts) (hGateRefIdeal := Cert.GateRefIdeal.Gen.facts) := by
  intro m g m' g' _ hm
  refine ⟨fun c => (dats m 0 c).arrAt 6 cfg0.N, fun c => (dats m 0 c).arrAt 7 cfg0.N, Value.run_blocks m g, ?_⟩
  refine (θ_run _ _ _).mono (fun r h c => ⟨(h c).1.trans ?_, (h c).2.1.trans ?_, (h c).2.2⟩) (Cert.GateRefIdeal.Value.run m' g')
  · rw [(hm c).1, (hm c).2.1, (hm c).2.2.1, (hm c).2.2.2.1, (hm c).2.2.2.2.1, (hm c).2.2.2.2.2]
    exact (final6 m c).symm
  · rw [(hm c).1, (hm c).2.1, (hm c).2.2.1, (hm c).2.2.2.1, (hm c).2.2.2.2.1, (hm c).2.2.2.2.2]
    exact (final7 m c).symm

end Cert.GateIdeal.Embedded

end
-- ==== Proof.Glu.lean ====
/- The state-space mixer's gate: each row block times the sigmoid of its product is the whole array's. -/
module

public import proofs.«01_k».proof.Defs
public import proofs.«01_k».proof.Proof.Gen.Glu.Frame
public import proofs.«01_k».proof.Proof.Gen.GluIdeal.Value
public import proofs.«01_k».proof.Proof.Gen.GluRefIdeal.Read
public import Idealize.ShloMosaic.Lib.Pipeline.ValueKit
public import Idealize.ShloMosaic.Lib.Pointwise
public import Idealize.ShloMosaic.Lib.Quiescent

@[expose] public section

set_option maxRecDepth 16384

noncomputable section

namespace Cert.GluIdeal.Gated

open Cert.GluIdeal Cert.GluIdeal.Gen Idealize.ShloMosaic Idealize.ShloMosaic.TcCoe Idealize.SL.Sem

/-- The reference of the gate, as a function of its arguments. -/
abbrev gated := Cert.GluRefIdeal.Read.val_main_v9 (F := Ideal)

/-- Every window's block: 512 rows of the operand and of the result, the whole weight. -/
theorem idx : ∀ t : Fin cfg0.N, win0_0.index t = ![t.val, 0] ∧ win0_1.index t = ![0, 0] ∧ win0_2.index t = ![t.val, 0] :=
  (by decide +kernel : ∀ t : Fin grid0.N, _)

open Cert.GluRefIdeal.Read in
/-- The kernel's result array is the reference's. -/
theorem final (m : (ℓ : Loc nD τ sig) → Buf (Elt Ideal) ℓ) (c : Dev nD) : (dats m 0 c).arrAt 2 cfg0.N
    = gated (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, gated, val_main_v9, val_main_v8, val_main_v7, val_main_v6, val_main_v5, val_main_v4, val_main_v3, val_main_v2, val_main_v1,
    val_main_v0, val_main_cst, val_main_cst_0, Ideal.logistic]
  blk_point [iblk, V, idx t]

/-- The printed kernel runs and keeps its arguments. -/
theorem frame : quiescent_Glu (hGlu := Cert.Glu.Gen.facts) := fun m g _ => Cert.Glu.Gen.frame m g

/-- So does the idealized kernel. -/
theorem frame_ideal : quiescent_GluIdeal (hGluIdeal := Cert.GluIdeal.Gen.facts) := fun m g _ => Cert.GluIdeal.Gen.frame m g

/-- So does the reference, which declares no semaphore. -/
theorem frame_reference : quiescent_GluRefIdeal (hGluRefIdeal := Cert.GluRefIdeal.Gen.facts) := fun m g _ =>
  (θ_run Cert.GluRefIdeal.defs _ _).mono (fun r h => ⟨fun c => (h c).2, sem_eq_zero_of_no_sems (by decide) r.2⟩)
    (Cert.GluRefIdeal.Value.run m g)

/-- **The kernel computes the reference's gate.** -/
theorem algebraic : algebraic_GluIdeal_GluRefIdeal (hGluIdeal := Cert.GluIdeal.Gen.facts) (hGluRefIdeal := Cert.GluRefIdeal.Gen.facts) := by
  intro m g m' g' _ hm
  refine ⟨fun c => (dats m 0 c).arrAt 2 cfg0.N, Value.run_blocks m g, ?_⟩
  refine (θ_run _ _ _).mono (fun r h c => ⟨(h c).1.trans ?_, (h c).2⟩) (Cert.GluRefIdeal.Value.run m' g')
  rw [(hm c).1, (hm c).2]
  exact (final m c).symm

end Cert.GluIdeal.Gated

end
-- ==== Proof.PoolTile.lean ====
/- What one grid point of the pooling mixer's kernel finds in its scratch tile: sixteen rows carried over from the tile
   before, and under them the tile's own product. -/
module

public import Idealize.ShloMosaic.Lib.Pipeline.ValueKit
public import Idealize.ShloMosaic.Lib.Pipeline.ReadBack
public import Idealize.ShloMosaic.Lib.WritesUnit
public import Idealize.ShloMosaic.Lib.Pointwise
public import Idealize.ShloMosaic.Lib.ValueIdx
public import Idealize.ShloMosaic.Lib.Claim
public import proofs.«01_k».proof.Proof.Gen.PoolIdeal.Frame
public import proofs.«01_k».proof.Proof.Gen.PoolIdeal.Value

@[expose] public section

set_option maxRecDepth 16384

noncomputable section

namespace Cert.PoolIdeal.Tile

open Cert.PoolIdeal Cert.PoolIdeal.Gen Idealize.ShloMosaic Idealize.ShloMosaic.TcCoe Idealize.SL.Sem

/-- Sixteen carried rows over the tile's own. -/
def padded (pre : S528x2048.Idx → Elt Ideal .f32) (P : S512x2048.Idx → Elt Ideal .f32) (y : S528x2048.Idx) : Elt Ideal .f32 :=
  if h : (y 0).val < 16 then pre y
  else P (ix2 ⟨(y 0).val - 16, by have : (y 0).val < 528 := (y 0).isLt; omega⟩ ⟨(y 1).val, (y 1).isLt⟩)

/-- A store of the tile's own rows, read back over whatever else the tile holds. -/
theorem read_stored (f : (View.whole cc0_scratch0).ty.Contents (Elt Ideal)) (P : S512x2048.Idx → Elt Ideal .f32)
    (L : List (View.Piece (Elt Ideal) S528x2048 .f32)) (y : S528x2048.Idx) :
    View.read (Elt Ideal) (View.whole cc0_scratch0) ((View.whole cc0_scratch0).writes (Elt Ideal) f
        (⟨Rect.unit ![16, 0] ![512, 2048] inb_S528x2048_S512x2048_16_0, P⟩ :: L)) y
      = padded (View.read (Elt Ideal) (View.whole cc0_scratch0) ((View.whole cc0_scratch0).writes (Elt Ideal) f L)) P y := by
  have h528 : (y 0).val < 528 := (y 0).isLt
  unfold padded
  by_cases h : (y 0).val < 16
  · rw [dif_pos h]
    exact View.read_writes_cons_rows_of_not_mem (View.whole cc0_scratch0) f inb_S528x2048_S512x2048_16_0 P L y rfl rfl (Or.inl h)
  · rw [dif_neg h]
    exact View.read_writes_cons_rows_of_mem (View.whole cc0_scratch0) f inb_S528x2048_S512x2048_16_0 P L y
      (ix2 ⟨(y 0).val - 16, by omega⟩ ⟨(y 1).val, (y 1).isLt⟩) rfl (by show (y 0).val = 16 + ((y 0).val - 16); omega) rfl

/-- Loads from the tile depend on the carried rows only. -/
theorem padded_congr (pre pre' : S528x2048.Idx → Elt Ideal .f32) (P : S512x2048.Idx → Elt Ideal .f32)
    (h : ∀ (r : Fin 16) (j : Fin 2048), pre (ix2 ⟨r.val, by omega⟩ j) = pre' (ix2 ⟨r.val, by omega⟩ j)) : padded pre P = padded pre' P := by
  funext y
  unfold padded
  by_cases hy : (y 0).val < 16
  · rw [dif_pos hy, dif_pos hy]
    have e : (ix2 ⟨(y 0).val, (y 0).isLt⟩ (y 1) : S528x2048.Idx) = y := ix2_eta y
    exact (congrArg pre e).symm.trans ((h ⟨(y 0).val, hy⟩ (y 1)).trans (congrArg pre' e))
  · rw [dif_neg hy, dif_neg hy]

/-- A carried row. -/
theorem padded_carried (pre : S528x2048.Idx → Elt Ideal .f32) (P : S512x2048.Idx → Elt Ideal .f32) (r : Fin 528) (j : Fin 2048) (h : r.val < 16) :
    padded pre P (ix2 r j) = pre (ix2 r j) := dif_pos h

/-- One of the tile's own rows. -/
theorem padded_own (pre : S528x2048.Idx → Elt Ideal .f32) (P : S512x2048.Idx → Elt Ideal .f32) (r : Fin 528) (a : Fin 512) (j : Fin 2048)
    (h : r.val = 16 + a.val) : padded pre P (ix2 r j) = P (ix2 a j) := by
  refine (dif_neg (by show ¬ r.val < 16; omega)).trans ?_
  exact congrArg (fun x : Fin 512 => P (ix2 x j)) (Fin.ext (by show r.val - 16 = a.val; omega))

/-- The same of the stores alone. -/
theorem canon_stored (P : S512x2048.Idx → Elt Ideal .f32) (L : List (View.Piece (Elt Ideal) S528x2048 .f32)) (y : S528x2048.Idx) :
    View.canon ((⟨Rect.unit ![16, 0] ![512, 2048] inb_S528x2048_S512x2048_16_0, P⟩ : View.Piece (Elt Ideal) S528x2048 .f32) :: L) y
      = padded (View.canon L) P y := by
  have h528 : (y 0).val < 528 := (y 0).isLt
  unfold padded
  by_cases h : (y 0).val < 16
  · rw [dif_pos h]
    refine View.canon_cons_of_not_mem _ L fun hm => ?_
    have hm' : y ∈ (Rect.unit ![16, 0] ![512, 2048] inb_S528x2048_S512x2048_16_0).set := hm
    have h16 : 16 ≤ (y 0).val := ((Rect.mem_set_unit.mp hm') 0).1
    omega
  · rw [dif_neg h]
    refine (congrArg _ ?_).trans (View.canon_cons_emb (Rect.unit ![16, 0] ![512, 2048] inb_S528x2048_S512x2048_16_0) P L
      (ix2 ⟨(y 0).val - 16, by omega⟩ ⟨(y 1).val, (y 1).isLt⟩))
    funext a
    refine Fin.ext ?_
    revert a
    rw [Fin.forall_fin_two]
    exact ⟨by show (y 0).val = 16 + 1 * ((y 0).val - 16); omega, by show (y 1).val = 0 + 1 * (y 1).val; omega⟩

/-- A store of the first sixteen rows. -/
theorem canon_carried (C : S16x2048.Idx → Elt Ideal .f32) (L : List (View.Piece (Elt Ideal) S528x2048 .f32)) (r : Fin 16) (j : Fin 2048) :
    View.canon ((⟨Rect.unit ![0, 0] ![16, 2048] inb_S528x2048_S16x2048_0_0, C⟩ : View.Piece (Elt Ideal) S528x2048 .f32) :: L)
      (ix2 ⟨r.val, by omega⟩ j) = C (ix2 r j) := by
  have e : (ix2 ⟨r.val, by omega⟩ j : S528x2048.Idx)
      = (Rect.unit (s := S528x2048) ![0, 0] ![16, 2048] inb_S528x2048_S16x2048_0_0).emb (ix2 r j) := by
    funext a
    refine Fin.ext ?_
    revert a
    rw [Fin.forall_fin_two]
    exact ⟨by show r.val = 0 + 1 * r.val; omega, by show j.val = 0 + 1 * j.val; omega⟩
  rw [e]
  exact View.canon_cons_emb (Rect.unit (s := S528x2048) ![0, 0] ![16, 2048] inb_S528x2048_S16x2048_0_0) C L (ix2 r j)

/-- At the first tile of a sequence the carried rows are zero. -/
theorem canon_first (P : S512x2048.Idx → Elt Ideal .f32) :
    View.canon [(⟨Rect.unit ![16, 0] ![512, 2048] inb_S528x2048_S512x2048_16_0, P⟩ : View.Piece (Elt Ideal) S528x2048 .f32),
        ⟨Rect.unit ![0, 0] ![16, 2048] inb_S528x2048_S16x2048_0_0, k0_pay1 (F := Ideal)⟩]
      = padded (fun _ => (0 : EReal)) P := by
  funext y
  refine (canon_stored P _ y).trans (congrFun (padded_congr _ _ P fun r j => ?_) y)
  refine (canon_carried _ [] r j).trans ?_
  pointwise [k0_pay1]

/-- Loads there. -/
theorem load_first (P : S512x2048.Idx → Elt Ideal .f32) (r : Rect S528x2048) :
    (View.whole cc0_scratch0).readCov [(⟨Rect.unit ![16, 0] ![512, 2048] inb_S528x2048_S512x2048_16_0, P⟩ : View.Piece (Elt Ideal) S528x2048 .f32),
        ⟨Rect.unit ![0, 0] ![16, 2048] inb_S528x2048_S16x2048_0_0, k0_pay1 (F := Ideal)⟩] r.toLoadRect
      = View.ld (padded (fun _ => (0 : EReal)) P) r := by
  rw [View.readCov_eq_canon', canon_first]
  rfl

/-- At a later tile they are what the tile before left. -/
theorem load_next (h : (Memref.whole cc0_scratch0).IsWhole) (prev : S528x2048.Idx → Elt Ideal .f32) (P : S512x2048.Idx → Elt Ideal .f32) :
    View.read (Elt Ideal) (View.whole cc0_scratch0) ((View.whole cc0_scratch0).writes (Elt Ideal) (h.unread prev)
        [⟨Rect.unit ![16, 0] ![512, 2048] inb_S528x2048_S512x2048_16_0, P⟩])
      = padded prev P := by
  funext y
  refine (read_stored _ P [] y).trans (congrFun (padded_congr _ _ P fun r j => ?_) y)
  exact congrFun (read_unread_whole cc0_scratch0 h prev) _

/-- A load of the tile's own rows alone. -/
theorem load_own (P : S512x2048.Idx → Elt Ideal .f32) (pre : S528x2048.Idx → Elt Ideal .f32) (size : Fin 2 → ℕ) (o col : ℕ) (ho : 16 ≤ o)
    (inb : ∀ a, (![o, col] : Fin 2 → ℕ) a + size a ≤ S528x2048.size a) :
    (View.whole cc0_scratch0).readCov [⟨Rect.unit ![16, 0] ![512, 2048] inb_S528x2048_S512x2048_16_0, P⟩]
        (Rect.unit (s := S528x2048) ![o, col] size inb).toLoadRect
      = View.ld (padded pre P) (Rect.unit (s := S528x2048) ![o, col] size inb) := by
  rw [View.readCov_eq_canon']
  funext j
  refine (canon_stored P [] ((Rect.unit (s := S528x2048) ![o, col] size inb).idx j)).trans ?_
  have : 16 ≤ ((Rect.unit (s := S528x2048) ![o, col] size inb).idx j 0).val := by show 16 ≤ o + 1 * (j 0).val; omega
  show padded _ P _ = padded pre P ((Rect.unit (s := S528x2048) ![o, col] size inb).idx j)
  unfold padded
  rw [dif_neg (by omega), dif_neg (by omega)]

variable (m : (ℓ : Loc nD τ sig) → Buf (Elt Ideal) ℓ) (c : Dev nD)

/-- The rows a tile leaves for the next are the last sixteen of its own. -/
theorem carried (t : Fin cfg0.N) (r : Fin 16) (j : Fin 2048) :
    (outsAt0 m c t.val t.isLt).2 (ix2 ⟨r.val, by omega⟩ j)
      = k0_pay2 (F := Ideal) (iblk m c 0 t) (iblk m c 1 t) (ix2 ⟨496 + r.val, by omega⟩ j) := by
  by_cases h0 : t.val % 16 = 0
  · rw [outsAt0_A m c t h0]
    frame_out
    refine (canon_carried _ _ r j).trans ?_
    rw [load_first]
    pointwise [k0_pay11]
    exact padded_own _ _ _ ⟨496 + r.val, by omega⟩ j (by show 512 + r.val = 16 + (496 + r.val); omega)
  · rw [outsAt0_B m c t h0]
    frame_out
    refine (canon_carried _ _ r j).trans ?_
    rw [load_own _ (fun _ => (0 : EReal)) _ 512 0 (by decide)]
    pointwise [k0_pay11]
    exact padded_own _ _ _ ⟨496 + r.val, by omega⟩ j (by show 512 + r.val = 16 + (496 + r.val); omega)

end Cert.PoolIdeal.Tile

end
-- ==== Proof.Pooling.lean ====
/- Sums over the last entries of a sequence, as differences of running totals and term by term. -/
module

public import proofs.«01_k».proof.Proof.Softmax
public import Idealize.ShloMosaic.Lib.ValueIdx
public import Idealize.ShloMosaic.Lib.Pointwise
public import Idealize.ShloMosaic.PureOps.Ideal.Laws

@[expose] public section

noncomputable section

namespace Cert.Pooling

open Idealize.ShloMosaic

/-- The sum of the last `w` entries up to position `s`, fewer at the start of the sequence. -/
def recent (u : ℕ → ℝ) (s w : ℕ) : ℝ := ∑ k ∈ Finset.range w, if k ≤ s then u (s - k) else 0

/-- Their mean, minus the entry itself. -/
def pooled (u : ℕ → ℝ) (s w : ℕ) : EReal := Ideal.div (recent u s w : EReal) (((min (s + 1) w : ℕ) : ℝ) : EReal) - (u s : EReal)

/-- The difference of two running totals is the sum of the entries between them. -/
theorem total_sub (u : ℕ → ℝ) (s w : ℕ) :
    (∑ i ∈ Finset.range (s + 1), u i) - ∑ i ∈ Finset.range (s + 1 - w), u i = recent u s w := by
  unfold recent
  induction w with
  | zero => simp
  | succ w ih =>
    rw [Finset.sum_range_succ _ w, ← ih]
    by_cases h : w ≤ s
    · rw [if_pos h, show s + 1 - w = (s - w) + 1 by omega, show s + 1 - (w + 1) = s - w by omega, Finset.sum_range_succ _ (s - w)]
      ring
    · rw [if_neg h, show s + 1 - w = 0 by omega, show s + 1 - (w + 1) = 0 by omega]
      simp

/-- A sum over a window of `n + 1` positions that ends at `s`, the positions before the sequence counting nothing. -/
theorem window_sum (f : ℕ → EReal) (s n : ℕ) (hs : s ≤ n) :
    ∑ k ∈ Finset.range (n + 1), (if n ≤ s + k then f (s + k - n) else 0) = ∑ i ∈ Finset.range (s + 1), f i := by
  rw [show n + 1 = (n - s) + (s + 1) by omega, Finset.sum_range_add, Finset.sum_eq_zero, zero_add]
  · refine Finset.sum_congr rfl fun i hi => ?_
    have := Finset.mem_range.mp hi
    rw [if_pos (by omega)]
    congr 1
    omega
  · intro k hk
    have := Finset.mem_range.mp hk
    rw [if_neg (by omega)]

/-- A sum over the windows of a padded array, the padding counting nothing. -/
theorem reduceWindow_sum {s t v : Shape} (window strides lo hi : Fin s.rank → Nat) (x : s.Idx → EReal) (init : v.Idx → EReal)
    (h : s.ReduceWindows window strides lo hi t) (hu : 0 < v.numel) (h0 : init (Shape.Idx.first hu) = 0) (j : t.Idx) :
    Host.reduceWindow (· + ·) window strides lo hi x init h hu j = ∑ p : (⟨s.rank, window⟩ : Shape).Idx,
      if hin : ∀ a, lo a ≤ (j (a.cast h.1.symm)).val * strides a + (p a).val ∧ (j (a.cast h.1.symm)).val * strides a + (p a).val - lo a < s.size a then
        x (fun a => ⟨(j (a.cast h.1.symm)).val * strides a + (p a).val - lo a, (hin a).2⟩) else 0 := by
  rw [← Equiv.sum_comp (⟨s.rank, window⟩ : Shape).rowMajor.symm, Fin.sum_univ_def, List.sum_eq_foldl, List.foldl_map]
  unfold Host.reduceWindow
  rw [h0]
  dsimp only
  congr!

/-- A sum of real numbers over an initial range. -/
theorem coe_sum_range (f : ℕ → ℝ) (n : ℕ) : (∑ i ∈ Finset.range n, (f i : EReal)) = ((∑ i ∈ Finset.range n, f i : ℝ) : EReal) := by
  rw [Finset.sum_range, Finset.sum_range, Cert.Softmax.coe_sum]

/-- A small number, read back from the word that holds it. -/
theorem toInt_word (n : ℕ) (hn : n < 16384) : (BitVec.ofNat 32 n).toInt = (n : ℤ) := by
  rw [BitVec.toInt_eq_toNat_cond, BitVec.toNat_ofNat, Nat.mod_eq_of_lt (by omega), if_pos (by omega)]

/-- The number of entries averaged, counted in exact arithmetic. -/
theorem count_reals (s w : ℕ) (hs : s < 8192) (x y : EReal) (hx : x = 1) (hy : y = ((w : ℝ) : EReal)) :
    min (FloatOps.sitofp (F := Ideal) .f32 (BitVec.ofNat 32 s) + x : EReal) y = (((min (s + 1) w : ℕ) : ℝ) : EReal) := by
  have h : FloatOps.sitofp (F := Ideal) .f32 (BitVec.ofNat 32 s) = ((s : ℝ) : EReal) := by
    show ((((BitVec.ofNat 32 s).toInt : ℤ) : ℝ) : EReal) = _
    rw [toInt_word s (by omega)]
    simp
  rw [h, hx, hy, ← EReal.coe_one, ← EReal.coe_add]
  rcases le_total (s + 1) w with hle | hle
  · rw [min_eq_left (EReal.coe_le_coe_iff.mpr (by exact_mod_cast hle)), min_eq_left hle]
    push_cast
    rfl
  · rw [min_eq_right (EReal.coe_le_coe_iff.mpr (by exact_mod_cast hle)), min_eq_right hle]

/-- The number of entries averaged, counted in words. -/
theorem count_words (P w : ℕ) (hP : P < 8192) (hw : w < 8192) :
    FloatOps.sitofp (F := Ideal) .f32 (IntOp.minsi (IntOp.addi (BitVec.ofNat 32 P) 1#32) (BitVec.ofNat 32 w)) = (((min (P + 1) w : ℕ) : ℝ) : EReal) := by
  have hA : IntOp.addi (BitVec.ofNat 32 P) 1#32 = BitVec.ofNat 32 (P + 1) := by
    unfold IntOp.addi; rw [BitVec.ofNat_add]
  have hm : IntOp.minsi (BitVec.ofNat 32 (P + 1)) (BitVec.ofNat 32 w) = BitVec.ofNat 32 (min (P + 1) w) := by
    unfold IntOp.minsi
    rw [BitVec.slt_eq_decide, toInt_word _ (by omega), toInt_word _ (by omega)]
    by_cases h : P + 1 < w
    · rw [if_pos (by simpa using (by exact_mod_cast h)), min_eq_left (by omega)]
    · rw [if_neg (by simpa using (by exact_mod_cast (by omega : w ≤ P + 1))), min_eq_right (by omega)]
  rw [hA, hm]
  show ((((BitVec.ofNat 32 (min (P + 1) w)).toInt : ℤ) : ℝ) : EReal) = _
  rw [toInt_word _ (by omega)]
  simp

end Cert.Pooling

end
-- ==== Proof.PoolReference.lean ====
/- The reference's pooling mixer, read at an index: the running totals' differences are means of the last entries. -/
module

public import proofs.«01_k».proof.Proof.Pooling
public import proofs.«01_k».proof.Proof.Gen.PoolRefIdeal.Read
public import Idealize.ShloMosaic.Lib.Pipeline.ValueKit
public import Idealize.ShloMosaic.Lib.Pointwise

@[expose] public section

set_option maxRecDepth 16384

noncomputable section

namespace Cert.PoolRefIdeal.Pooled

open Cert.PoolRefIdeal Cert.PoolRefIdeal.Gen Cert.PoolRefIdeal.Read Idealize.ShloMosaic Idealize.ShloMosaic.TcCoe Idealize.SL.Sem

variable (x0 : (⟨S32768x2048, .bf16⟩ : BufTy).Contents (Elt Ideal)) (x1 : (⟨S2048x2048, .f32⟩ : BufTy).Contents (Elt Ideal))
  (x2 : (⟨S4x512x512, .f32⟩ : BufTy).Contents (Elt Ideal)) (x3 : (⟨S2048, .f32⟩ : BufTy).Contents (Elt Ideal))
variable (u : ℕ → ℕ → ℝ) (hu : ∀ (n q : ℕ) (hn : n < 32768) (hq : q < 2048),
  (∑ k : Fin 2048, (x0 (ix2 ⟨n, hn⟩ k) : EReal) * x1 (ix2 k ⟨q, hq⟩)) = (u n q : EReal))

include hu in
/-- The projected operand. -/
theorem projected (b : Fin 4) (s : Fin 8192) (q : Fin 2048) : val_main_v2 (F := Ideal) x0 x1 (ix3 b s q) = (u (b.val * 8192 + s.val) q.val : EReal) := by
  pointwise [val_main_v2, val_main_v1, val_main_v0]
  exact hu _ _ _ _

/-- The positions of a window: only its middle coordinate moves. -/
def positions : Fin 8192 ≃ (⟨3, ![1, 8192, 1]⟩ : Shape).Idx where
  toFun k := ix3 0 k 0
  invFun p := p 1
  left_inv k := rfl
  right_inv p := by
    refine Eq.trans ?_ (ix3_eta p)
    exact congrArg₂ (fun x y => ix3 x (p 1) y) (Subsingleton.elim (α := Fin 1) _ _) (Subsingleton.elim (α := Fin 1) _ _)

include hu in
/-- The running totals. -/
theorem totals (b : Fin 4) (s : Fin 8192) (q : Fin 2048) : val_main_v3 (F := Ideal) x0 x1 (ix3 b s q)
    = ((∑ i ∈ Finset.range (s.val + 1), u (b.val * 8192 + i) q.val : ℝ) : EReal) := by
  unfold val_main_v3
  have hz : val_main_call0_call0_v0 (F := Ideal) (Shape.Idx.first h_S_) = (0 : EReal) := by
    pointwise [val_main_call0_call0_v0, val_main_call0_call0_cst]
  have hv := projected x0 x1 u hu
  generalize val_main_v2 (F := Ideal) x0 x1 = v at hv ⊢
  unfold Host.reduceWindowAdd
  rw [Ideal.hostReduceWindowAdd_def, Ideal.hostReduceWindowAdd]
  refine (Cert.Pooling.reduceWindow_sum _ _ _ _ _ _ _ _ (by exact hz) _).trans ?_
  rw [← Equiv.sum_comp positions, ← Cert.Pooling.coe_sum_range, ← Cert.Pooling.window_sum _ s.val 8191 (by omega), Finset.sum_range]
  refine Finset.sum_congr rfl fun k _ => ?_
  have hk := k.isLt
  by_cases h : 8191 ≤ s.val + k.val
  · rw [if_pos h, dif_pos fun a => by
      match a with
      | ⟨0, _⟩ => exact ⟨Nat.zero_le _, by show b.val * 1 + 0 - 0 < 4; omega⟩
      | ⟨1, _⟩ => exact ⟨by show 8191 ≤ s.val * 1 + k.val; omega, by show s.val * 1 + k.val - 8191 < 8192; omega⟩
      | ⟨2, _⟩ => exact ⟨Nat.zero_le _, by show q.val * 1 + 0 - 0 < 2048; omega⟩]
    refine Eq.trans (congrArg v ?_) (hv b ⟨s.val + k.val - 8191, by omega⟩ q)
    funext a
    refine Fin.ext ?_
    match a with
    | ⟨0, _⟩ => show b.val * 1 + 0 - 0 = b.val; omega
    | ⟨1, _⟩ => show s.val * 1 + k.val - 8191 = s.val + k.val - 8191; omega
    | ⟨2, _⟩ => show q.val * 1 + 0 - 0 = q.val; omega
  · rw [if_neg h, dif_neg fun hin => h ?_]
    have := (hin (1 : Fin 3)).1
    have h1 : 8191 ≤ s.val * 1 + k.val := this
    omega

include hu in
/-- The totals behind 16 leading zeros: entry `16 - w + s` is the total up to position `s - w`. -/
theorem padded (w : ℕ) (hw : w ≤ 16) (b : Fin 4) (s : Fin 8192) (q : Fin 2048) (n : Fin 8208) (hn : n.val = 16 - w + s.val) :
    val_main_v4 (F := Ideal) x0 x1 (ix3 b n q) = ((∑ i ∈ Finset.range (s.val + 1 - w), u (b.val * 8192 + i) q.val : ℝ) : EReal) := by
  pointwise [val_main_v4, val_main_call1_v0, val_main_c]
  by_cases h : w ≤ s.val
  · rw [dif_pos ⟨by omega, by omega⟩, totals x0 x1 u hu]
    show ((∑ i ∈ Finset.range (n.val - 16 + 1), _ : ℝ) : EReal) = _
    rw [show n.val - 16 + 1 = s.val + 1 - w by omega]
  · rw [dif_neg (by omega), show s.val + 1 - w = 0 by omega]
    show ((((0#32 : BitVec 32).toInt : ℤ) : ℝ) : EReal) = _
    simp

/-- The length of a window, as a float's words say it. -/
theorem window_two : Ideal.ofBits .f32 0x40000000#32 = (((2 : ℕ) : ℝ) : EReal) := by
  simp [Ideal.ofBits, Ideal.ieee, -EReal.coe_mul]; norm_num

theorem window_four : Ideal.ofBits .f32 0x40800000#32 = (((4 : ℕ) : ℝ) : EReal) := by
  simp [Ideal.ofBits, Ideal.ieee, -EReal.coe_mul]; norm_num

theorem window_eight : Ideal.ofBits .f32 0x41000000#32 = (((8 : ℕ) : ℝ) : EReal) := by
  simp [Ideal.ofBits, Ideal.ieee, -EReal.coe_mul]; norm_num

theorem window_sixteen : Ideal.ofBits .f32 0x41800000#32 = (((16 : ℕ) : ℝ) : EReal) := by
  simp [Ideal.ofBits, Ideal.ieee, -EReal.coe_mul]; norm_num

include hu in
/-- The difference of two totals, averaged, minus the entry: a window's mean. -/
theorem mean (w : ℕ) (hw : w ≤ 16) (b : Fin 4) (s : Fin 8192) (n n' : Fin 8208) (q q' q'' : Fin 2048) (x y : EReal) (hn : n.val = 16 - 0 + s.val)
    (hn' : n'.val = 16 - w + s.val) (hq : q' = q) (hq' : q'' = q) (hx : x = 1) (hy : y = ((w : ℝ) : EReal)) :
    Ideal.div (val_main_v4 (F := Ideal) x0 x1 (ix3 b n q) - val_main_v4 (F := Ideal) x0 x1 (ix3 b n' q') : EReal)
      (min (FloatOps.sitofp (F := Ideal) .f32 (BitVec.ofNat 32 s.val) + x : EReal) y) - (val_main_v2 (F := Ideal) x0 x1 (ix3 b s q'') : EReal)
      = Cert.Pooling.pooled (fun i => u (b.val * 8192 + i) q.val) s.val w := by
  subst hq hq'
  rw [padded x0 x1 u hu 0 (by omega) b s _ _ hn, padded x0 x1 u hu w hw b s _ _ hn', projected x0 x1 u hu,
    Cert.Pooling.count_reals s.val w s.isLt _ _ hx hy, ← EReal.coe_sub]
  exact congrArg (fun x : ℝ => Ideal.div (x : EReal) _ - _) (Cert.Pooling.total_sub (fun i => u (b.val * 8192 + i) q''.val) s.val w)

include hu in
/-- The column group averaged over windows of 2. -/
theorem group_two (b : Fin 4) (s : Fin 8192) (j : Fin 512) : val_main_v17 (F := Ideal) x0 x1 (ix3 b s j)
    = Cert.Pooling.pooled (fun i => u (b.val * 8192 + i) (j.val)) s.val 2 := by
  pointwise [val_main_v17, val_main_v16, val_main_v15, val_main_v14, val_main_v13, val_main_v12, val_main_v11, val_main_v10, val_main_v9, val_main_v8, val_main_v7, val_main_v6, val_main_v5, val_main_cst, val_main_cst_0]
  exact mean x0 x1 u hu 2 (by decide) b s _ _ _ _ _ _ _ rfl rfl rfl rfl rfl window_two

include hu in
/-- The column group averaged over windows of 4. -/
theorem group_four (b : Fin 4) (s : Fin 8192) (j : Fin 512) : val_main_v29 (F := Ideal) x0 x1 (ix3 b s j)
    = Cert.Pooling.pooled (fun i => u (b.val * 8192 + i) (512 + j.val)) s.val 4 := by
  pointwise [val_main_v29, val_main_v28, val_main_v27, val_main_v26, val_main_v25, val_main_v24, val_main_v23, val_main_v22, val_main_v21, val_main_v20, val_main_v19, val_main_v18, val_main_v5, val_main_cst_1, val_main_cst_2]
  exact mean x0 x1 u hu 4 (by decide) b s _ _ _ _ _ _ _ rfl rfl rfl rfl rfl window_four

include hu in
/-- The column group averaged over windows of 8. -/
theorem group_eight (b : Fin 4) (s : Fin 8192) (j : Fin 512) : val_main_v41 (F := Ideal) x0 x1 (ix3 b s j)
    = Cert.Pooling.pooled (fun i => u (b.val * 8192 + i) (1024 + j.val)) s.val 8 := by
  pointwise [val_main_v41, val_main_v40, val_main_v39, val_main_v38, val_main_v37, val_main_v36, val_main_v35, val_main_v34, val_main_v33, val_main_v32, val_main_v31, val_main_v30, val_main_v5, val_main_cst_3, val_main_cst_4]
  exact mean x0 x1 u hu 8 (by decide) b s _ _ _ _ _ _ _ rfl rfl rfl rfl rfl window_eight

include hu in
/-- The column group averaged over windows of 16. -/
theorem group_sixteen (b : Fin 4) (s : Fin 8192) (j : Fin 512) : val_main_v53 (F := Ideal) x0 x1 (ix3 b s j)
    = Cert.Pooling.pooled (fun i => u (b.val * 8192 + i) (1536 + j.val)) s.val 16 := by
  pointwise [val_main_v53, val_main_v52, val_main_v51, val_main_v50, val_main_v49, val_main_v48, val_main_v47, val_main_v46, val_main_v45, val_main_v44, val_main_v43, val_main_v42, val_main_v5, val_main_cst_5, val_main_cst_6]
  exact mean x0 x1 u hu 16 (by decide) b s _ _ _ _ _ _ _ rfl (Nat.zero_add _).symm rfl rfl rfl window_sixteen

include hu in
/-- Every column group, averaged over its own window. -/
theorem groups (b : Fin 4) (s : Fin 8192) (g : Fin 4) (j : Fin 512) : val_main_v58 (F := Ideal) x0 x1 (ix4 b s g j)
    = Cert.Pooling.pooled (fun i => u (b.val * 8192 + i) (g.val * 512 + j.val)) s.val (2 ^ (g.val + 1)) := by
  pointwise [val_main_v58, val_main_v57, val_main_v56, val_main_v55, val_main_v54]
  match g with
  | ⟨0, _⟩ => exact (group_two x0 x1 u hu b s j).trans (congrArg (fun n => Cert.Pooling.pooled (fun i => u (b.val * 8192 + i) n) s.val 2) (show j.val = 0 * 512 + j.val by omega))
  | ⟨1, _⟩ => exact group_four x0 x1 u hu b s j
  | ⟨2, _⟩ => exact group_eight x0 x1 u hu b s j
  | ⟨3, _⟩ => exact group_sixteen x0 x1 u hu b s j

include hu in
/-- **The reference's mixer at an index**: a row of window means times the group's weights, scaled. -/
theorem mixed (R : Fin 32768) (q : Fin 2048) : val_main_v65 (F := Ideal) x0 x1 x2 x3 (ix2 R q)
    = (∑ x : Fin 512, Cert.Pooling.pooled (fun i => u (R.val / 8192 * 8192 + i) (q.val / 512 * 512 + x.val)) (R.val % 8192) (2 ^ (q.val / 512 + 1))
        * (x2 (ix3 ⟨q.val / 512, by omega⟩ x ⟨q.val % 512, by omega⟩) : EReal)) * (x3 (ix1 q) : EReal) := by
  pointwise [val_main_v65, val_main_v64, val_main_v63, val_main_v62, val_main_v61, val_main_v60, val_main_v59]
  refine congrArg (fun z : EReal => z * _) (Finset.sum_congr rfl fun x _ => (mul_comm (G := EReal) _ _).trans ?_)
  rw [groups x0 x1 u hu]

end Cert.PoolRefIdeal.Pooled

end
-- ==== Proof.PoolBlock.lean ====
/- What one grid point of the pooling mixer's kernel leaves in its output block. -/
module

public import proofs.«01_k».proof.Proof.PoolTile
public import proofs.«01_k».proof.Proof.Pooling
public import proofs.«01_k».proof.Proof.PoolReference

@[expose] public section

set_option maxRecDepth 16384

noncomputable section

namespace Cert.PoolIdeal.Block

open Cert.PoolIdeal Cert.PoolIdeal.Gen Cert.PoolIdeal.Tile Idealize.ShloMosaic Idealize.ShloMosaic.TcCoe Idealize.SL.Sem

/-- Every window's block: 512 rows of the hidden states and of the result; the weights and the scale whole. -/
theorem idx : ∀ t : Fin cfg0.N, win0_0.index t = ![t.val, 0] ∧ win0_1.index t = ![0, 0] ∧ win0_2.index t = ![0, 0, 0]
    ∧ win0_3.index t = ![0, 0] ∧ win0_4.index t = ![t.val, 0] :=
  (by decide +kernel : ∀ t : Fin grid0.N, _)

variable (m : (ℓ : Loc nD τ sig) → Buf (Elt Ideal) ℓ) (c : Dev nD)

/-- The position in its sequence of a tile's row. -/
theorem position (t : Fin cfg0.N) (a : Fin 512) :
    k0_pay3 (grid0.coords t) (ix2 a 0) = BitVec.ofNat 32 (t.val % 16 * 512 + a.val) := by
  pointwise [k0_pay3]
  refine Eq.trans (congrArg (IntOp.addi · (BitVec.ofNat 32 a.val)) (?_ : _ = BitVec.ofNat 32 (t.val % 16 * 512))) ?_
  · revert t
    decide +kernel
  · unfold IntOp.addi
    rw [BitVec.ofNat_add]

/-- The hidden states. -/
def hidden : S32768x2048.Idx → EReal := m ((c : Thread nD τ).loc main_arg0)

/-- The first weight matrix. -/
def weightIn : S2048x2048.Idx → EReal := m ((c : Thread nD τ).loc main_arg1)

/-- The groups' weight matrices. -/
def weightGroup : S4x512x512.Idx → EReal := m ((c : Thread nD τ).loc main_arg2)

/-- The output's scale. -/
def scales : S2048.Idx → EReal := m ((c : Thread nD τ).loc main_arg3)

variable (u : ℕ → ℕ → ℝ)
variable (hu : ∀ (n q : ℕ) (hn : n < 32768) (hq : q < 2048),
  (∑ k : Fin 2048, hidden m c (ix2 ⟨n, hn⟩ k) * weightIn m c (ix2 k ⟨q, hq⟩)) = (u n q : EReal))

/-- The tile's hidden states. -/
theorem hidden_at (t : Fin cfg0.N) (a : Fin 512) (k : Fin 2048) (h : t.val * 512 + a.val < 32768) :
    iblk m c 0 t (ix2 a k) = hidden m c (ix2 ⟨t.val * 512 + a.val, h⟩ k) := by
  blk_ext! [iblk, V, idx t]

/-- The first weight matrix, as the host passes it. -/
theorem weightIn_at (t : Fin cfg0.N) (k q : Fin 2048) : iblk m c 1 t (ix2 k q) = weightIn m c (ix2 k q) := by
  have h : iblk m c 1 t (ix2 k q) = V m c main_v0 (ix2 k q) := by blk_ext [iblk, idx t]
  refine h.trans ?_
  entry_read
  pointwise
  rfl

/-- The groups' weight matrices. -/
theorem weightGroup_at (t : Fin cfg0.N) (g : Fin 4) (x j : Fin 512) : iblk m c 2 t (ix3 g x j) = weightGroup m c (ix3 g x j) := by
  have h : iblk m c 2 t (ix3 g x j) = V m c main_v1 (ix3 g x j) := by blk_ext [iblk, idx t]
  refine h.trans ?_
  entry_read
  pointwise
  rfl

/-- The scale. -/
theorem scales_at (t : Fin cfg0.N) (q : Fin 2048) : iblk m c 3 t (ix2 0 q) = scales m c (ix1 q) := by
  have h : iblk m c 3 t (ix2 0 q) = V m c main_v2 (ix2 0 q) := by blk_ext [iblk, idx t]
  refine h.trans ?_
  entry_read
  pointwise
  rfl

include hu in
/-- The tile's own product. -/
theorem product (t : Fin cfg0.N) (a : Fin 512) (q : Fin 2048) :
    k0_pay2 (F := Ideal) (iblk m c 0 t) (iblk m c 1 t) (ix2 a q) = (u (t.val * 512 + a.val) q.val : EReal) := by
  have ht : t.val < 64 := t.isLt
  pointwise [k0_pay2]
  refine Eq.trans (Finset.sum_congr (M := EReal) rfl fun k _ => ?_) (hu (t.val * 512 + a.val) q.val (by omega) q.isLt)
  exact congrArg₂ (fun x y : EReal => x * y) (hidden_at m c t a k _) (weightIn_at m c t k q)

/-- The carried rows and the tile's own. -/
def ext (t : Fin cfg0.N) : S528x2048.Idx → Elt Ideal .f32 :=
  padded (if h : t.val % 16 = 0 then fun _ => (0 : EReal) else (outsAt0 m c (t.val - 1) (by have := t.isLt; omega)).2)
    (k0_pay2 (F := Ideal) (iblk m c 0 t) (iblk m c 1 t))

include hu in
/-- A row of the two: the product `16 - o` positions back, or zero before the sequence. -/
theorem ext_row (t : Fin cfg0.N) (a : Fin 512) (o : ℕ) (ho : o ≤ 16) (h : o + a.val < 528) (q : Fin 2048) :
    ext m c t (ix2 ⟨o + a.val, h⟩ q) = ((if 16 - o ≤ t.val % 16 * 512 + a.val
      then u (t.val / 16 * 8192 + (t.val % 16 * 512 + a.val - (16 - o))) q.val else 0 : ℝ) : EReal) := by
  have ht : t.val < 64 := t.isLt
  unfold ext
  by_cases hr : 16 ≤ o + a.val
  · refine (padded_own _ _ _ ⟨o + a.val - 16, by omega⟩ q (by show o + a.val = 16 + (o + a.val - 16); omega)).trans ?_
    rw [product m c u hu, if_pos (by omega)]
    congr 2
    show t.val * 512 + (o + a.val - 16) = _
    omega
  · refine (padded_carried _ _ _ q (by show o + a.val < 16; omega)).trans ?_
    by_cases h0 : t.val % 16 = 0
    · rw [dif_pos h0, if_neg (by omega)]
      rfl
    · rw [dif_neg h0, if_pos (by omega)]
      refine (carried m c ⟨t.val - 1, by have := t.isLt; omega⟩ ⟨o + a.val, by omega⟩ q).trans ?_
      rw [product m c u hu]
      congr 2
      show (t.val - 1) * 512 + (496 + (o + a.val)) = _
      omega

/-- A mean over the last `w` rows, less the row itself. -/
theorem mean (f : ℕ → ℝ) (t : Fin cfg0.N) (a : Fin 512) (w : ℕ) (hw : w < 8192) (total own : EReal)
    (ht : total = (Cert.Pooling.recent f (t.val % 16 * 512 + a.val) w : EReal)) (ho : own = (f (t.val % 16 * 512 + a.val) : EReal)) :
    Ideal.div total (FloatOps.sitofp (F := Ideal) .f32 (IntOp.minsi (IntOp.addi (k0_pay3 (grid0.coords t) (ix2 a 0)) 1#32) (BitVec.ofNat 32 w))) - own
      = Cert.Pooling.pooled f (t.val % 16 * 512 + a.val) w := by
  rw [position, Cert.Pooling.count_words _ _ (by omega) hw, ht, ho]
  rfl

/-- One output of a group: the pooled products of its columns, through its weight matrix, scaled. -/
def grouped (t : Fin cfg0.N) (g : Fin 4) (base w : ℕ) (hb : base + 512 ≤ 2048) (a j : Fin 512) : EReal :=
  (∑ x : Fin 512, Cert.Pooling.pooled (fun i => u (t.val / 16 * 8192 + i) (base + x.val)) (t.val % 16 * 512 + a.val) w
    * weightGroup m c (ix3 g x j)) * scales m c (ix1 ⟨base + j.val, by omega⟩)

include hu in
/-- A row itself. -/
theorem ext_own (t : Fin cfg0.N) (a : Fin 512) (h : 16 + a.val < 528) (q : Fin 2048) :
    ext m c t (ix2 ⟨16 + a.val, h⟩ q) = (u (t.val / 16 * 8192 + (t.val % 16 * 512 + a.val)) q.val : EReal) := by
  rw [ext_row m c u hu t a 16 (by decide), if_pos (by omega)]
  rfl

include hu in
/-- The first group, pooled over two rows. -/
theorem group0 (t : Fin cfg0.N) (a j : Fin 512) :
    k0_pay4 (F := Ideal) (k0_pay3 (grid0.coords t))
      (View.ld (ext m c t) (Rect.unit ![16, 0] ![512, 512] inb_S528x2048_S512x512_16_0))
      (View.ld (ext m c t) (Rect.unit ![15, 0] ![512, 512] inb_S528x2048_S512x512_15_0))
      (View.ld (iblk m c 2 t) (Rect.unit ![0, 0, 0] ![1, 512, 512] inb_S4x512x512_S1x512x512_0_0_0))
      (View.ld (iblk m c 3 t) (Rect.unit ![0, 0] ![1, 512] inb_S1x2048_S1x512_0_0)) (ix2 a j)
      = grouped m c u t 0 0 2 (by decide) a j := by
  pointwise [k0_pay4]
  unfold grouped
  refine congrArg₂ (fun x y : EReal => x * y) (Finset.sum_congr (M := EReal) rfl fun x _ => congrArg₂ (fun x y : EReal => x * y)
    (mean _ t a 2 (by decide) _ _ ?_ ((ext_own m c u hu t a _ _).trans ?_)) (weightGroup_at m c t _ x j)) ((scales_at m c t _).trans ?_)
  · simp only [ext_row m c u hu, Cert.Pooling.recent, Finset.sum_range_succ, Finset.sum_range_zero, zero_add, EReal.coe_add, Nat.reduceSub, Nat.reduceLeDiff]
  · simp only [zero_add]
  · simp only [zero_add]

include hu in
/-- The second, over four. -/
theorem group1 (t : Fin cfg0.N) (a j : Fin 512) :
    k0_pay6 (F := Ideal) (k0_pay5 (F := Ideal) (k0_pay3 (grid0.coords t))
      (View.ld (ext m c t) (Rect.unit ![16, 512] ![512, 512] inb_S528x2048_S512x512_16_512))
      (View.ld (ext m c t) (Rect.unit ![15, 512] ![512, 512] inb_S528x2048_S512x512_15_512))
      (View.ld (ext m c t) (Rect.unit ![14, 512] ![512, 512] inb_S528x2048_S512x512_14_512))
      (View.ld (ext m c t) (Rect.unit ![13, 512] ![512, 512] inb_S528x2048_S512x512_13_512)))
      (View.ld (iblk m c 2 t) (Rect.unit ![1, 0, 0] ![1, 512, 512] inb_S4x512x512_S1x512x512_1_0_0))
      (View.ld (iblk m c 3 t) (Rect.unit ![0, 512] ![1, 512] inb_S1x2048_S1x512_0_512)) (ix2 a j)
      = grouped m c u t 1 512 4 (by decide) a j := by
  pointwise [k0_pay6, k0_pay5]
  unfold grouped
  refine congrArg₂ (fun x y : EReal => x * y) (Finset.sum_congr (M := EReal) rfl fun x _ => congrArg₂ (fun x y : EReal => x * y)
    (mean _ t a 4 (by decide) _ _ ?_ (ext_own m c u hu t a _ _)) (weightGroup_at m c t _ x j)) (scales_at m c t _)
  simp only [ext_row m c u hu, Cert.Pooling.recent, Finset.sum_range_succ, Finset.sum_range_zero, zero_add, EReal.coe_add, Nat.reduceSub, Nat.reduceLeDiff]

include hu in
/-- The third, over eight. -/
theorem group2 (t : Fin cfg0.N) (a j : Fin 512) :
    k0_pay8 (F := Ideal) (k0_pay7 (F := Ideal) (k0_pay3 (grid0.coords t))
      (View.ld (ext m c t) (Rect.unit ![16, 1024] ![512, 512] inb_S528x2048_S512x512_16_1024))
      (View.ld (ext m c t) (Rect.unit ![15, 1024] ![512, 512] inb_S528x2048_S512x512_15_1024))
      (View.ld (ext m c t) (Rect.unit ![14, 1024] ![512, 512] inb_S528x2048_S512x512_14_1024))
      (View.ld (ext m c t) (Rect.unit ![13, 1024] ![512, 512] inb_S528x2048_S512x512_13_1024))
      (View.ld (ext m c t) (Rect.unit ![12, 1024] ![512, 512] inb_S528x2048_S512x512_12_1024))
      (View.ld (ext m c t) (Rect.unit ![11, 1024] ![512, 512] inb_S528x2048_S512x512_11_1024))
      (View.ld (ext m c t) (Rect.unit ![10, 1024] ![512, 512] inb_S528x2048_S512x512_10_1024))
      (View.ld (ext m c t) (Rect.unit ![9, 1024] ![512, 512] inb_S528x2048_S512x512_9_1024)))
      (View.ld (iblk m c 2 t) (Rect.unit ![2, 0, 0] ![1, 512, 512] inb_S4x512x512_S1x512x512_2_0_0))
      (View.ld (iblk m c 3 t) (Rect.unit ![0, 1024] ![1, 512] inb_S1x2048_S1x512_0_1024)) (ix2 a j)
      = grouped m c u t 2 1024 8 (by decide) a j := by
  pointwise [k0_pay8, k0_pay7]
  unfold grouped
  refine congrArg₂ (fun x y : EReal => x * y) (Finset.sum_congr (M := EReal) rfl fun x _ => congrArg₂ (fun x y : EReal => x * y)
    (mean _ t a 8 (by decide) _ _ ?_ (ext_own m c u hu t a _ _)) (weightGroup_at m c t _ x j)) (scales_at m c t _)
  simp only [ext_row m c u hu, Cert.Pooling.recent, Finset.sum_range_succ, Finset.sum_range_zero, zero_add, EReal.coe_add, Nat.reduceSub, Nat.reduceLeDiff]

include hu in
/-- The last, over sixteen. -/
theorem group3 (t : Fin cfg0.N) (a j : Fin 512) :
    k0_pay10 (F := Ideal) (k0_pay3 (grid0.coords t))
      (View.ld (ext m c t) (Rect.unit ![16, 1536] ![512, 512] inb_S528x2048_S512x512_16_1536))
      (k0_pay9 (F := Ideal)
      (View.ld (ext m c t) (Rect.unit ![16, 1536] ![512, 512] inb_S528x2048_S512x512_16_1536))
      (View.ld (ext m c t) (Rect.unit ![15, 1536] ![512, 512] inb_S528x2048_S512x512_15_1536))
      (View.ld (ext m c t) (Rect.unit ![14, 1536] ![512, 512] inb_S528x2048_S512x512_14_1536))
      (View.ld (ext m c t) (Rect.unit ![13, 1536] ![512, 512] inb_S528x2048_S512x512_13_1536))
      (View.ld (ext m c t) (Rect.unit ![12, 1536] ![512, 512] inb_S528x2048_S512x512_12_1536))
      (View.ld (ext m c t) (Rect.unit ![11, 1536] ![512, 512] inb_S528x2048_S512x512_11_1536))
      (View.ld (ext m c t) (Rect.unit ![10, 1536] ![512, 512] inb_S528x2048_S512x512_10_1536))
      (View.ld (ext m c t) (Rect.unit ![9, 1536] ![512, 512] inb_S528x2048_S512x512_9_1536))
      (View.ld (ext m c t) (Rect.unit ![8, 1536] ![512, 512] inb_S528x2048_S512x512_8_1536))
      (View.ld (ext m c t) (Rect.unit ![7, 1536] ![512, 512] inb_S528x2048_S512x512_7_1536)))
      (View.ld (ext m c t) (Rect.unit ![6, 1536] ![512, 512] inb_S528x2048_S512x512_6_1536))
      (View.ld (ext m c t) (Rect.unit ![5, 1536] ![512, 512] inb_S528x2048_S512x512_5_1536))
      (View.ld (ext m c t) (Rect.unit ![4, 1536] ![512, 512] inb_S528x2048_S512x512_4_1536))
      (View.ld (ext m c t) (Rect.unit ![3, 1536] ![512, 512] inb_S528x2048_S512x512_3_1536))
      (View.ld (ext m c t) (Rect.unit ![2, 1536] ![512, 512] inb_S528x2048_S512x512_2_1536))
      (View.ld (ext m c t) (Rect.unit ![1, 1536] ![512, 512] inb_S528x2048_S512x512_1_1536))
      (View.ld (iblk m c 2 t) (Rect.unit ![3, 0, 0] ![1, 512, 512] inb_S4x512x512_S1x512x512_3_0_0))
      (View.ld (iblk m c 3 t) (Rect.unit ![0, 1536] ![1, 512] inb_S1x2048_S1x512_0_1536)) (ix2 a j)
      = grouped m c u t 3 1536 16 (by decide) a j := by
  pointwise [k0_pay10, k0_pay9]
  unfold grouped
  refine congrArg₂ (fun x y : EReal => x * y) (Finset.sum_congr (M := EReal) rfl fun x _ => congrArg₂ (fun x y : EReal => x * y)
    (mean _ t a 16 (by decide) _ _ ?_ (ext_own m c u hu t a _ _)) (weightGroup_at m c t _ x j)) (scales_at m c t _)
  simp only [ext_row m c u hu, Cert.Pooling.recent, Finset.sum_range_succ, Finset.sum_range_zero, zero_add, EReal.coe_add, Nat.reduceSub, Nat.reduceLeDiff]

/-- The reference's result, of the kernel's arguments. -/
abbrev result := Cert.PoolRefIdeal.Read.val_main_v65 (F := Ideal) (m ((c : Thread nD τ).loc main_arg0)) (m ((c : Thread nD τ).loc main_arg1))
  (m ((c : Thread nD τ).loc main_arg2)) (m ((c : Thread nD τ).loc main_arg3))

/-- The row that a tile's row is. -/
def row (t : Fin cfg0.N) (a : Fin 512) : Fin 32768 := ⟨t.val * 512 + a.val, by have : t.val < 64 := t.isLt; omega⟩

include hu in
/-- A group's output is the reference's. -/
theorem result_grouped (t : Fin cfg0.N) (a j : Fin 512) (g : Fin 4) (base w : ℕ) (hb : base + 512 ≤ 2048) (hg : base = g.val * 512)
    (hw : w = 2 ^ (g.val + 1)) : grouped m c u t g base w hb a j = result m c (ix2 (row t a) ⟨base + j.val, by omega⟩) := by
  refine Eq.trans ?_ (Cert.PoolRefIdeal.Pooled.mixed (m ((c : Thread nD τ).loc main_arg0)) (m ((c : Thread nD τ).loc main_arg1))
    (m ((c : Thread nD τ).loc main_arg2)) (m ((c : Thread nD τ).loc main_arg3)) u hu (row t a) ⟨base + j.val, by omega⟩).symm
  have hq : (base + j.val) / 512 = g.val := by omega
  have hr : (base + j.val) % 512 = j.val := by omega
  have h1 : (row t a).val / 8192 = t.val / 16 := by show (t.val * 512 + a.val) / 8192 = _; omega
  have h2 : (row t a).val % 8192 = t.val % 16 * 512 + a.val := by show (t.val * 512 + a.val) % 8192 = _; omega
  unfold grouped
  refine congrArg₂ (fun x y : EReal => x * y) (Finset.sum_congr (M := EReal) rfl fun x _ => congrArg₂ (fun x y : EReal => x * y) ?_ ?_) rfl
  · simp only [h1, h2, hq, hw]
    rw [← hg]
  · refine congrArg (weightGroup m c) ?_
    funext d
    refine Fin.ext ?_
    fin_cases d
    · exact hq.symm
    · rfl
    · exact hr.symm

/-- A tile's part of the reference's result. -/
def tile (t : Fin cfg0.N) (y : S512x2048.Idx) : Elt Ideal .bf16 := result m c (ix2 (row t (y 0)) (y 1))

include hu in
/-- What a group's store holds is its part of the tile's. -/
theorem piece (t : Fin cfg0.N) (g : Fin 4) (base w : ℕ) (hb : base + 512 ≤ 2048) (hg : base = g.val * 512) (hw : w = 2 ^ (g.val + 1))
    (inb : ∀ a, ![0, base] a + ![512, 512] a ≤ S512x2048.size a) (W : S512x512.Idx → Elt Ideal .bf16)
    (h : ∀ a j : Fin 512, W (ix2 a j) = grouped m c u t g base w hb a j) (x : S512x512.Idx) :
    W x = tile m c t ((Rect.unit (s := S512x2048) ![0, base] ![512, 512] inb).emb x) := by
  obtain ⟨a, j, rfl⟩ : ∃ (a j : Fin 512), x = ix2 a j := ⟨x 0, x 1, (ix2_eta x).symm⟩
  refine (h a j).trans ((result_grouped m c u hu t a j g base w hb hg hw).trans ?_)
  have e : (Rect.unit (s := S512x2048) ![0, base] ![512, 512] inb).emb (ix2 a j) = ix2 a ⟨base + j.val, by omega⟩ := by
    funext d
    refine Fin.ext ?_
    revert d
    rw [Fin.forall_fin_two]
    exact ⟨by show 0 + 1 * a.val = a.val; omega, by show base + 1 * j.val = base + j.val; omega⟩
  rw [e]
  rfl

include hu in
/-- What a grid point leaves in its output block. -/
theorem outs (t : Fin cfg0.N) (y : S512x2048.Idx) : (outsAt0 m c t.val t.isLt).1 y = tile m c t y := by
  by_cases h0 : t.val % 16 = 0
  · have hE : padded (fun _ => (0 : EReal)) (k0_pay2 (F := Ideal) (iblk m c 0 t) (iblk m c 1 t)) = ext m c t := by
      unfold ext
      rw [dif_pos h0]
    have hl := fun r : Rect S528x2048 =>
      (load_first (k0_pay2 (F := Ideal) (iblk m c 0 t) (iblk m c 1 t)) r).trans (congrArg (View.ld · r) hE)
    rw [outsAt0_A m c t h0]
    frame_out
    refine View.canon_apply_of_pieces (tile m c t) _ (View.PiecesOf.mem ?_) y (View.cover_of_tiledL _ ![512, 512] (by sl_kernel_rfl) y)
    refine ⟨piece m c u hu t 3 1536 16 (by decide) rfl rfl inb_S512x2048_S512x512_0_1536 _ fun a j => ?_,
      piece m c u hu t 2 1024 8 (by decide) rfl rfl inb_S512x2048_S512x512_0_1024 _ fun a j => ?_,
      piece m c u hu t 1 512 4 (by decide) rfl rfl inb_S512x2048_S512x512_0_512 _ fun a j => ?_,
      piece m c u hu t 0 0 2 (by decide) rfl rfl inb_S512x2048_S512x512_0_0 _ fun a j => ?_, trivial⟩ <;> simp only [hl]
    · exact group3 m c u hu t a j
    · exact group2 m c u hu t a j
    · exact group1 m c u hu t a j
    · exact group0 m c u hu t a j
  · have hE : padded (outsAt0 m c (t.val - 1) (by have := t.isLt; omega)).2 (k0_pay2 (F := Ideal) (iblk m c 0 t) (iblk m c 1 t)) = ext m c t := by
      unfold ext
      rw [dif_neg h0]
    have hl := fun h => (load_next h (outsAt0 m c (t.val - 1) (by have := t.isLt; omega)).2 (k0_pay2 (F := Ideal) (iblk m c 0 t) (iblk m c 1 t))).trans hE
    have ho := fun (col : ℕ) (inb) => (load_own (k0_pay2 (F := Ideal) (iblk m c 0 t) (iblk m c 1 t))
      (outsAt0 m c (t.val - 1) (by have := t.isLt; omega)).2 ![512, 512] 16 col (by decide) inb).trans (congrArg (View.ld · _) hE)
    rw [outsAt0_B m c t h0]
    frame_out
    refine View.canon_apply_of_pieces (tile m c t) _ (View.PiecesOf.mem ?_) y (View.cover_of_tiledL _ ![512, 512] (by sl_kernel_rfl) y)
    refine ⟨piece m c u hu t 3 1536 16 (by decide) rfl rfl inb_S512x2048_S512x512_0_1536 _ fun a j => ?_,
      piece m c u hu t 2 1024 8 (by decide) rfl rfl inb_S512x2048_S512x512_0_1024 _ fun a j => ?_,
      piece m c u hu t 1 512 4 (by decide) rfl rfl inb_S512x2048_S512x512_0_512 _ fun a j => ?_,
      piece m c u hu t 0 0 2 (by decide) rfl rfl inb_S512x2048_S512x512_0_0 _ fun a j => ?_, trivial⟩ <;> simp only [hl, ho]
    · exact group3 m c u hu t a j
    · exact group2 m c u hu t a j
    · exact group1 m c u hu t a j
    · exact group0 m c u hu t a j

/-- Where a tile lies in the result. -/
theorem place (t : Fin cfg0.N) (y : S512x2048.Idx) : (win0_4.blk t).view.emb y = ix2 (row t (y 0)) (y 1) := by
  funext a
  refine Fin.ext ?_
  fin_cases a <;> (blk_simp [idx t, row]; rfl)

include hu in
/-- The kernel's result is the reference's. -/
theorem final : (dats m 0 c).arrAt 4 cfg0.N = result m c := by
  refine (dats m 0 c).arrAt_eq_of_covers 4 _ (by decide +kernel) fun t _ y => ?_
  rw [after0_4]
  exact (outs m c u hu t y).trans (congrArg (result m c) (place t y).symm)

end Cert.PoolIdeal.Block

end
-- ==== Proof.PoolMixer.lean ====
/- The claims about the pooling mixer, one theorem each. -/
module

public import proofs.«01_k».proof.Defs
public import proofs.«01_k».proof.Proof.Gen.Pool.Frame
public import proofs.«01_k».proof.Proof.Gen.PoolRefIdeal.Run
public import proofs.«01_k».proof.Proof.Gen.Pre_finite_pool
public import proofs.«01_k».proof.Proof.PoolBlock
public import proofs.«01_k».proof.Proof.Attention
public import Idealize.ShloMosaic.Lib.KernelVsHost
public import Idealize.ShloMosaic.Lib.Quiescent

@[expose] public section

set_option maxRecDepth 16384

noncomputable section

namespace Cert.PoolMixer

open Idealize.ShloMosaic Idealize.ShloMosaic.TcCoe Idealize.SL.Sem

/-- The printed kernel runs and keeps its arguments. -/
theorem frame : quiescent_Pool (hPool := Cert.Pool.Gen.facts) := fun m g _ => Cert.Pool.Gen.frame m g

/-- So does the idealized kernel. -/
theorem frame_ideal : quiescent_PoolIdeal (hPoolIdeal := Cert.PoolIdeal.Gen.facts) := fun m g _ => Cert.PoolIdeal.Gen.frame m g

/-- So does the idealized kernel on finite operands. -/
theorem frame_ideal_finite : quiescent_PoolIdeal_pre_finite_pool (hPoolIdeal := Cert.PoolIdeal.Gen.facts)
    (hPre_finite_pool := Cert.Pre_finite_pool.Gen.facts) := fun m g _ => Cert.PoolIdeal.Gen.frame m g

/-- So does the reference, which declares no semaphore. -/
theorem frame_reference : quiescent_PoolRefIdeal (hPoolRefIdeal := Cert.PoolRefIdeal.Gen.facts) := fun m g _ =>
  (θ_run Cert.PoolRefIdeal.defs _ _).mono (fun r h => ⟨fun c => (h c).2, sem_eq_zero_of_no_sems (by decide) r.2⟩)
    (Cert.PoolRefIdeal.Value.run m g)

/-- So does the reference on finite operands. -/
theorem frame_reference_finite : quiescent_PoolRefIdeal_pre_finite_pool (hPoolRefIdeal := Cert.PoolRefIdeal.Gen.facts)
    (hPre_finite_pool := Cert.Pre_finite_pool.Gen.facts) := fun m g _ => frame_reference m g trivial

/-- The precondition makes every entry of the first product real. -/
theorem product_real (m : (ℓ : Loc Cert.PoolIdeal.nD Cert.PoolIdeal.τ Cert.PoolIdeal.sig) → Buf (Elt Ideal) ℓ)
    (h : Pre_PoolIdeal_finite_pool (hPre_finite_pool := Cert.Pre_finite_pool.Gen.facts) m) (c : Dev Cert.PoolIdeal.nD) :
    ∃ u : ℕ → ℕ → ℝ, ∀ (n q : ℕ) (hn : n < 32768) (hq : q < 2048),
      (∑ k : Fin 2048, Cert.PoolIdeal.Block.hidden m c (ix2 ⟨n, hn⟩ k) * Cert.PoolIdeal.Block.weightIn m c (ix2 k ⟨q, hq⟩)) = (u n q : EReal) := by
  obtain ⟨h0, h1⟩ := h c
  obtain ⟨a, ha⟩ := Cert.Band.reads_of_finite (N := 32768) (K := 2048) (Cert.PoolIdeal.Block.hidden m c)
    fun i => Cert.Attention.finite_of_olt _ (congrFun h0 i)
  obtain ⟨b, hb⟩ := Cert.Band.reads_of_finite (N := 2048) (K := 2048) (Cert.PoolIdeal.Block.weightIn m c)
    fun i => Cert.Attention.finite_of_olt _ (congrFun h1 i)
  refine ⟨fun n q => ∑ k : Fin 2048, a n k.val * b k.val q, fun n q hn hq => ?_⟩
  rw [← Cert.Softmax.coe_sum]
  refine Finset.sum_congr rfl fun k _ => ?_
  rw [EReal.coe_mul]
  exact congrArg₂ (fun x y : EReal => x * y) (ha n k.val hn k.isLt) (hb k.val q k.isLt hq)

/-- **The kernel computes the reference's pooling mixer**: on finite operands both programs end with the same array. -/
theorem algebraic : algebraic_PoolIdeal_PoolRefIdeal_pre_finite_pool (hPoolIdeal := Cert.PoolIdeal.Gen.facts)
    (hPoolRefIdeal := Cert.PoolRefIdeal.Gen.facts) (hPre_finite_pool := Cert.Pre_finite_pool.Gen.facts) := by
  intro m g m' g' hpre hm
  refine ⟨fun c => (Cert.PoolIdeal.Gen.dats m 0 c).arrAt 4 Cert.PoolIdeal.cfg0.N, Cert.PoolIdeal.Value.run_blocks m g, ?_⟩
  refine (θ_run _ _ _).mono (fun r h c => ⟨(h c).1.trans ?_, (h c).2⟩) (Cert.PoolRefIdeal.Value.run m' g')
  obtain ⟨u, hu⟩ := product_real m hpre c
  rw [Cert.PoolRefIdeal.Read.val_main_v65_eq m' c, (hm c).1, (hm c).2.1, (hm c).2.2.1, (hm c).2.2.2]
  exact (Cert.PoolIdeal.Block.final m c u hu).symm

end Cert.PoolMixer

end
-- ==== Proof.ExpertTile.lean ====
/- What the stores of the expert kernel compute, each as one function of what it loads: the staged threshold and factor
   rows, a row block's scores, its gated activations, and a step of the accumulator. -/
module

public import proofs.«01_k».proof.Proof.Gen.ExpertsIdeal.Skeleton
public import Idealize.ShloMosaic.Lib.Pipeline.ValueKit
public import Idealize.ShloMosaic.Lib.Pipeline.ReadBack
public import Idealize.ShloMosaic.Lib.Pointwise
public import Idealize.ShloMosaic.Lib.ValueIdx

@[expose] public section

set_option maxRecDepth 16384

noncomputable section

namespace Cert.ExpertsIdeal.Tile

open Cert.ExpertsIdeal Cert.ExpertsIdeal.Gen Idealize.ShloMosaic Idealize.ShloMosaic.TcCoe Idealize.SL.Sem

/-- The exact form of the Gaussian error unit. -/
def unit (z : EReal) : EReal :=
  FloatOps.mulf (F := Ideal) (φ := .f32) (FloatOps.mulf (F := Ideal) (φ := .f32) (Ideal.ofBits .f32 0x3F000000#32) z)
    (FloatOps.addf (F := Ideal) (φ := .f32) (Ideal.ofBits .f32 0x3F800000#32)
      (FloatOps.erf (F := Ideal) (φ := .f32) (FloatOps.mulf (F := Ideal) (φ := .f32) z (Ideal.ofBits .f32 0x3F3504F3#32))))

/-- One head's part of a gate: its score where it reaches the threshold, times its factor. -/
def part (e t f : EReal) : EReal :=
  Scalar.select (FloatOps.cmpf (F := Ideal) (φ := .bf16) .oge e t) e (Ideal.ofBits .bf16 0x0000#16) * f

/-- The threshold (the first eight of sixteen) or the factor (the others) that is staged in a row, at grid step `j`. -/
def staged (j : ℕ) (f t : S8x128x512.Idx → EReal) (k : ℕ) (l : Fin 512) : EReal :=
  if k % 16 < 8 then t (ix3 ⟨k % 8, Nat.mod_lt _ (by decide)⟩ ⟨min 127 (4 * j + k / 16 - 2), by omega⟩ l)
  else f (ix3 ⟨k % 8, Nat.mod_lt _ (by decide)⟩ ⟨min 127 (4 * j + k / 16 - 2), by omega⟩ l)

/-- The gate of a row of a half block of experts, from the rows staged from `base` on. -/
def gate (base : ℕ) (R : ℕ → Fin 512 → EReal) (E : S8x128x512.Idx → EReal) (r : ℕ) (l : Fin 512) : EReal :=
  ∑ h : Fin 8, part (E (ix3 h ⟨r % 128, Nat.mod_lt _ (by decide)⟩ l)) (R (base + 16 * (r / 128) + h.val) l) (R (base + 16 * (r / 128) + 8 + h.val) l)

/-- The gated activations of a half block. -/
def gated (base : ℕ) (R : ℕ → Fin 512 → EReal) (E : S8x128x512.Idx → EReal) (S : S256x512.Idx → EReal) : Vec Ideal S256x512 .bf16 := fun y =>
  gate base R E (y 0).val (y 1) * unit (S y)

/-- The scores of a half block of experts: their rows' products with the tokens. -/
def scores (o : ℕ) (ho : o ≤ 256) (x : S512x2048.Idx → EReal) (u : S1x512x2048.Idx → EReal) : Vec Ideal S256x512 .f32 := fun y =>
  ∑ k : Fin 2048, u (ix3 0 ⟨o + (y 0).val, by have : (y 0).val < 256 := (y 0).isLt; omega⟩ k) * x (ix2 (y 1) k)

/-- The accumulator after a half block's activations are weighted into it. -/
def added (o : ℕ) (ho : o ≤ 256) (A : S2048x512.Idx → EReal) (v : S1x2048x512.Idx → EReal) (W : S256x512.Idx → EReal) : Vec Ideal S2048x512 .f32 := fun y =>
  A y + ∑ k : Fin 256, v (ix3 0 (y 0) ⟨o + k.val, by omega⟩) * W (ix2 k (y 1))

/-- Where a rectangle's element lies. -/
theorem emb_ix2 {n k p q : ℕ} (o l : ℕ) (inb : ∀ a, ![o, l] a + ![p, q] a ≤ (⟨2, ![n, k]⟩ : Shape).size a) (a : Fin p) (b : Fin q)
    (ha : o + a.val < n) (hb : l + b.val < k) :
    (Rect.unit (s := ⟨2, ![n, k]⟩) ![o, l] ![p, q] inb).emb (ix2 a b) = ix2 ⟨o + a.val, ha⟩ ⟨l + b.val, hb⟩ := by
  funext d
  apply Fin.ext
  revert d
  rw [Fin.forall_fin_two]
  exact ⟨by show o + 1 * a.val = o + a.val; omega, by show l + 1 * b.val = l + b.val; omega⟩

/-- A load through a view that holds a whole buffer's contents. -/
theorem load_of {sg : RefSig} {κ : Kind} {sp : Space} {s : Shape} {e : EltTy} (a : Memref sg κ sp s e) (h : a.IsWhole) (x : Vec Ideal s e) (r : Rect s) :
    View.readAt (Elt Ideal) a.view r.toLoadRect (h.unread x) = View.ld x r := by
  rw [View.readAt_eq_ld, Memref.IsWhole.read_unread]

/-- Loads of a buffer that was stored piece by piece, when every piece is its part of one function and the pieces cover it. -/
theorem load_of_pieces {sg : RefSig} {κ : Kind} {sp : Space} {s : Shape} {e : EltTy} (v : View sg κ sp s e)
    (G : s.Idx → Elt Ideal e) (L : List (View.Piece (Elt Ideal) s e)) (hL : View.PiecesOf G L)
    (hc : ∀ y, ∃ p ∈ L, y ∈ p.1.set) (r : Rect s) : v.readCov L r.toLoadRect = View.ld G r := by
  rw [View.readCov_eq_canon_ld v L r hc]
  congr 1
  funext y
  exact View.canon_apply_of_pieces G L hL.mem y (hc y)

/-- A row's words, as stored. -/
def rowTile (v : Vec Ideal S1x1x512 .f32) : FVec Ideal S1x512 .f32 :=
  shapeCast S1x512 (shapeCast S1x512 v shapeCasts_S1x1x512_S1x512) shapeCasts_S1x512_S1x512

/-- The number of the row that is staged, as the kernel computes it from the half block's number. -/
abbrev rowWord (w c : BitVec 32) : ℕ :=
  (Scalar.indexCast (Scalar.minsi 127#32 (Scalar.maxsi 0#32 (Scalar.addi (Scalar.muli w 2#32) c))) : Index).toNat

theorem rowWord_before (c : Fin 2) : ∀ j : Fin 33, rowWord (Scalar.subi (Scalar.muli 2#32 (BitVec.ofNat 32 j.val)) 1#32) (BitVec.ofNat 32 c.val)
    = min 127 (4 * j.val + c.val - 2) := by
  revert c; decide +kernel

theorem rowWord_at (c : Fin 2) : ∀ j : Fin 33, rowWord (Scalar.muli 2#32 (BitVec.ofNat 32 j.val)) (BitVec.ofNat 32 c.val)
    = min 127 (4 * j.val + (c.val + 2) - 2) := by
  revert c; decide +kernel

/-- A staged row, of the array it is taken from. -/
theorem staged_row {m7 : Memref sig .tc .vmem S8x128x512 .f32} (h7 : m7.IsWhole) (G : ℕ → Fin 512 → EReal) (X : Vec Ideal S8x128x512 .f32) {h k n : ℕ}
    (inb : ∀ a, ![h, n, 0] a + S1x1x512.size a ≤ S8x128x512.size a) (inb' : ∀ a, ![k, 0] a + S1x512.size a ≤ S64x512.size a)
    (hG : ∀ l, G k l = X (ix3 ⟨h, by have := inb 0; exact this⟩ ⟨n, by have := inb 1; exact this⟩ l)) (x : S1x512.Idx) :
    rowTile (View.readAt (Elt Ideal) m7.view (Rect.unit (s := S8x128x512) ![h, n, 0] S1x1x512.size inb).toLoadRect (h7.unread X)) x
      = G (((Rect.unit (s := S64x512) ![k, 0] S1x512.size inb').emb x) 0).val (((Rect.unit (s := S64x512) ![k, 0] S1x512.size inb').emb x) 1) := by
  rw [load_of]
  obtain ⟨a, b, rfl⟩ : ∃ a b, x = ix2 a b := ⟨_, _, eq_ix2 x⟩
  have hk' : k < 64 := by have := inb' 0; exact this
  have hb := b.isLt
  obtain rfl : a = 0 := Subsingleton.elim _ _
  rw [show (Rect.unit (s := S64x512) ![k, 0] S1x512.size inb').emb (ix2 0 b) = ix2 ⟨k, hk'⟩ b from by
    rw [show (Rect.unit (s := S64x512) ![k, 0] S1x512.size inb').emb (ix2 0 b) = _ from emb_ix2 k 0 inb' (0 : Fin 1) b (by simpa using hk') (by omega)]
    congr 1 <;> exact Fin.ext (by simp)]
  show _ = G k b
  rw [hG]
  pointwise [rowTile]

/-- A staged threshold row. -/
theorem staged_threshold {m7 : Memref sig .tc .vmem S8x128x512 .f32} (h7 : m7.IsWhole) (j : ℕ) (f t : Vec Ideal S8x128x512 .f32) {h k n : ℕ}
    (inb : ∀ a, ![h, n, 0] a + S1x1x512.size a ≤ S8x128x512.size a) (inb' : ∀ a, ![k, 0] a + S1x512.size a ≤ S64x512.size a)
    (hn : n = min 127 (4 * j + k / 16 - 2)) (hk : h = k % 16) (hh : h < 8) (x : S1x512.Idx) :
    rowTile (View.readAt (Elt Ideal) m7.view (Rect.unit (s := S8x128x512) ![h, n, 0] S1x1x512.size inb).toLoadRect (h7.unread t)) x
      = staged j f t (((Rect.unit (s := S64x512) ![k, 0] S1x512.size inb').emb x) 0).val (((Rect.unit (s := S64x512) ![k, 0] S1x512.size inb').emb x) 1) :=
  staged_row h7 (staged j f t) t inb inb' (fun l => by
    unfold staged
    rw [if_pos (by omega)]
    exact congrArg t (by congr 1 <;> exact Fin.ext (by simp only; omega))) x

/-- A staged factor row. -/
theorem staged_factor {m7 : Memref sig .tc .vmem S8x128x512 .f32} (h7 : m7.IsWhole) (j : ℕ) (f t : Vec Ideal S8x128x512 .f32) {h k n : ℕ}
    (inb : ∀ a, ![h, n, 0] a + S1x1x512.size a ≤ S8x128x512.size a) (inb' : ∀ a, ![k, 0] a + S1x512.size a ≤ S64x512.size a)
    (hn : n = min 127 (4 * j + k / 16 - 2)) (hk : k % 16 = h + 8) (hh : h < 8) (x : S1x512.Idx) :
    rowTile (View.readAt (Elt Ideal) m7.view (Rect.unit (s := S8x128x512) ![h, n, 0] S1x1x512.size inb).toLoadRect (h7.unread f)) x
      = staged j f t (((Rect.unit (s := S64x512) ![k, 0] S1x512.size inb').emb x) 0).val (((Rect.unit (s := S64x512) ![k, 0] S1x512.size inb').emb x) 1) :=
  staged_row h7 (staged j f t) f inb inb' (fun l => by
    unfold staged
    rw [if_neg (by omega)]
    exact congrArg f (by congr 1 <;> exact Fin.ext (by simp only; omega))) x

/-- A staged row spread over eight rows of a piece. -/
def spread {sp : Space} (v : View sig .tc sp S64x512 .f32) (L : List (View.Piece (Elt Ideal) S64x512 .f32)) (k p : ℕ)
    (inb : ∀ a, ![k, p] a + S1x256.size a ≤ S64x512.size a) : FVec Ideal S8x256 .bf16 :=
  truncf .bf16 (broadcastTo S8x256 (shapeCast S1x256 (v.readCov L (Rect.unit (s := S64x512) ![k, p] S1x256.size inb).toLoadRect) shapeCasts_S1x256_S1x256)
    broadcasts_S1x256_S8x256) bitsLt_bf16_f32

/-- It, at an index. -/
theorem spread_at {sp : Space} (v : View sig .tc sp S64x512 .f32) (L : List (View.Piece (Elt Ideal) S64x512 .f32)) (R : ℕ → Fin 512 → EReal)
    (hR : ∀ r : Rect S64x512, v.readCov L r.toLoadRect = View.ld (fun y => R (y 0).val (y 1)) r) (k p : ℕ)
    (inb : ∀ a, ![k, p] a + S1x256.size a ≤ S64x512.size a) (a : Fin 8) (b : Fin 256) (hb : p + b.val < 512) :
    spread v L k p inb (ix2 a b) = R k ⟨p + b.val, hb⟩ := by
  unfold spread
  rw [hR]
  pointwise []

/-- A head's scores in a piece. -/
def heads {m5 : Memref sig .tc .vmem S8x128x512 .bf16} (h5 : m5.IsWhole) (E : Vec Ideal S8x128x512 .bf16) (h q p : ℕ)
    (inb : ∀ a, ![h, q, p] a + S1x8x256.size a ≤ S8x128x512.size a) : FVec Ideal S8x256 .bf16 :=
  shapeCast S8x256 (View.readAt (Elt Ideal) m5.view (Rect.unit (s := S8x128x512) ![h, q, p] S1x8x256.size inb).toLoadRect (h5.unread E)) shapeCasts_S1x8x256_S8x256

theorem heads_at {m5 : Memref sig .tc .vmem S8x128x512 .bf16} (h5 : m5.IsWhole) (E : Vec Ideal S8x128x512 .bf16) (h q p : ℕ)
    (inb : ∀ a, ![h, q, p] a + S1x8x256.size a ≤ S8x128x512.size a) (a : Fin 8) (b : Fin 256) (hh : h < 8) (hq : q + a.val < 128) (hb : p + b.val < 512) :
    heads h5 E h q p inb (ix2 a b) = E (ix3 ⟨h, hh⟩ ⟨q + a.val, hq⟩ ⟨p + b.val, hb⟩) := by
  unfold heads
  rw [load_of]
  refine (shapeCast_dropUnit_apply ![8, 256] _ _ (ix2 a b)).trans (congrArg E ?_)
  funext d
  apply Fin.ext
  rcases d with ⟨d, hd⟩
  change d < 3 at hd
  rcases d with _ | _ | _ | d
  · show h + 1 * 0 = h
    omega
  · show q + 1 * a.val = q + a.val
    omega
  · show p + 1 * b.val = p + b.val
    omega
  · omega

/-- A head's part of a piece. -/
def partTile (e t f z : FVec Ideal S8x256 .bf16) : FVec Ideal S8x256 .bf16 := mulf (select (cmpf .oge e t) e z) f

theorem partTile_at (e t f : FVec Ideal S8x256 .bf16) (y : S8x256.Idx) : partTile e t f k0_pay94 y = part (e y) (t y) (f y) := rfl

/-- The unit of a piece's scores. -/
def unitTile (s : Vec Ideal S8x256 .f32) : FVec Ideal S8x256 .bf16 :=
  truncf .bf16 (mulf (mulf (broadcast S8x256 (Scalar.ofBits (F := Ideal) .f32 0x3F000000#32)) s)
    (addf (broadcast S8x256 (Scalar.ofBits (F := Ideal) .f32 0x3F800000#32)) (erf (mulf s (broadcast S8x256 (Scalar.ofBits (F := Ideal) .f32 0x3F3504F3#32)))))) bitsLt_bf16_f32

theorem unitTile_at (s : Vec Ideal S8x256 .f32) (y : S8x256.Idx) : unitTile s y = unit (s y) := rfl

/-- A piece of the gated activations, as the kernel computes it. -/
def gateTile (t0 t1 t2 t3 t4 t5 t6 t7 f0 f1 f2 f3 f4 f5 f6 f7 e0 e1 e2 e3 e4 e5 e6 e7 z : FVec Ideal S8x256 .bf16) (s : Vec Ideal S8x256 .f32) : FVec Ideal S8x256 .bf16 :=
  shapeCast S8x256 (mulf (addf (addf (addf (addf (addf (addf (addf (partTile e0 t0 f0 z) (partTile e1 t1 f1 z)) (partTile e2 t2 f2 z)) (partTile e3 t3 f3 z))
    (partTile e4 t4 f4 z)) (partTile e5 t5 f5 z)) (partTile e6 t6 f6 z)) (partTile e7 t7 f7 z)) (unitTile s)) shapeCasts_S8x256_S8x256

/-- **A piece of the gated activations is its part of the half block's.** -/
theorem gate_piece {sp : Space} {v : View sig .tc sp S64x512 .f32} {L : List (View.Piece (Elt Ideal) S64x512 .f32)} {R : ℕ → Fin 512 → EReal}
    (hR : ∀ r : Rect S64x512, v.readCov L r.toLoadRect = View.ld (fun y => R (y 0).val (y 1)) r)
    {m5 : Memref sig .tc .vmem S8x128x512 .bf16} (h5 : m5.IsWhole) {E : Vec Ideal S8x128x512 .bf16}
    {S : S256x512.Idx → EReal} {base o q p k : ℕ} {s : Vec Ideal S8x256 .f32} (inb : ∀ a, ![o, p] a + S8x256.size a ≤ S256x512.size a)
    (hs : s = View.ld S (Rect.unit (s := S256x512) ![o, p] S8x256.size inb)) (hq : q = o % 128) (hk : k = base + 16 * (o / 128)) (h8 : o % 8 = 0)
    (i0 : ∀ a, ![k, p] a + S1x256.size a ≤ S64x512.size a) (i1 : ∀ a, ![k + 1, p] a + S1x256.size a ≤ S64x512.size a)
    (i2 : ∀ a, ![k + 2, p] a + S1x256.size a ≤ S64x512.size a) (i3 : ∀ a, ![k + 3, p] a + S1x256.size a ≤ S64x512.size a)
    (i4 : ∀ a, ![k + 4, p] a + S1x256.size a ≤ S64x512.size a) (i5 : ∀ a, ![k + 5, p] a + S1x256.size a ≤ S64x512.size a)
    (i6 : ∀ a, ![k + 6, p] a + S1x256.size a ≤ S64x512.size a) (i7 : ∀ a, ![k + 7, p] a + S1x256.size a ≤ S64x512.size a)
    (i8 : ∀ a, ![k + 8, p] a + S1x256.size a ≤ S64x512.size a) (i9 : ∀ a, ![k + 9, p] a + S1x256.size a ≤ S64x512.size a)
    (i10 : ∀ a, ![k + 10, p] a + S1x256.size a ≤ S64x512.size a) (i11 : ∀ a, ![k + 11, p] a + S1x256.size a ≤ S64x512.size a)
    (i12 : ∀ a, ![k + 12, p] a + S1x256.size a ≤ S64x512.size a) (i13 : ∀ a, ![k + 13, p] a + S1x256.size a ≤ S64x512.size a)
    (i14 : ∀ a, ![k + 14, p] a + S1x256.size a ≤ S64x512.size a) (i15 : ∀ a, ![k + 15, p] a + S1x256.size a ≤ S64x512.size a)
    (j0 : ∀ a, ![0, q, p] a + S1x8x256.size a ≤ S8x128x512.size a) (j1 : ∀ a, ![1, q, p] a + S1x8x256.size a ≤ S8x128x512.size a)
    (j2 : ∀ a, ![2, q, p] a + S1x8x256.size a ≤ S8x128x512.size a) (j3 : ∀ a, ![3, q, p] a + S1x8x256.size a ≤ S8x128x512.size a)
    (j4 : ∀ a, ![4, q, p] a + S1x8x256.size a ≤ S8x128x512.size a) (j5 : ∀ a, ![5, q, p] a + S1x8x256.size a ≤ S8x128x512.size a)
    (j6 : ∀ a, ![6, q, p] a + S1x8x256.size a ≤ S8x128x512.size a) (j7 : ∀ a, ![7, q, p] a + S1x8x256.size a ≤ S8x128x512.size a)
    (x : S8x256.Idx) :
    gateTile (spread v L k p i0) (spread v L (k + 1) p i1) (spread v L (k + 2) p i2) (spread v L (k + 3) p i3) (spread v L (k + 4) p i4)
      (spread v L (k + 5) p i5) (spread v L (k + 6) p i6) (spread v L (k + 7) p i7) (spread v L (k + 8) p i8) (spread v L (k + 9) p i9)
      (spread v L (k + 10) p i10) (spread v L (k + 11) p i11) (spread v L (k + 12) p i12) (spread v L (k + 13) p i13) (spread v L (k + 14) p i14)
      (spread v L (k + 15) p i15) (heads h5 E 0 q p j0) (heads h5 E 1 q p j1) (heads h5 E 2 q p j2) (heads h5 E 3 q p j3) (heads h5 E 4 q p j4)
      (heads h5 E 5 q p j5) (heads h5 E 6 q p j6) (heads h5 E 7 q p j7) k0_pay94 s x
      = gated base R E S ((Rect.unit (s := S256x512) ![o, p] S8x256.size inb).emb x) := by
  obtain ⟨a, b, rfl⟩ : ∃ a b, x = ix2 a b := ⟨_, _, eq_ix2 x⟩
  have ha := a.isLt
  have hb := b.isLt
  have ho : o + 8 ≤ 256 := inb 0
  have hp : p + 256 ≤ 512 := inb 1
  have he : (Rect.unit (s := S256x512) ![o, p] S8x256.size inb).emb (ix2 a b) = ix2 ⟨o + a.val, by omega⟩ ⟨p + b.val, by omega⟩ := emb_ix2 o p inb a b _ _
  have hs' : s (ix2 a b) = S (ix2 ⟨o + a.val, by omega⟩ ⟨p + b.val, by omega⟩) := by rw [hs, ← he]; rfl
  have hd : (o + a.val) / 128 = o / 128 := by omega
  have hm : (⟨(o + a.val) % 128, Nat.mod_lt _ (by decide)⟩ : Fin 128) = ⟨q + a.val, by omega⟩ := Fin.ext (by simp only; omega)
  rw [he]
  show _ = gate base R E (o + a.val) ⟨p + b.val, by omega⟩ * unit (S _)
  unfold gate
  rw [hd, ← hk, hm, Fin.sum_univ_eight]
  unfold gateTile
  rw [shapeCast_self]
  rw [← hs']
  show (partTile _ _ _ k0_pay94 (ix2 a b) + partTile _ _ _ k0_pay94 (ix2 a b) + partTile _ _ _ k0_pay94 (ix2 a b) + partTile _ _ _ k0_pay94 (ix2 a b)
    + partTile _ _ _ k0_pay94 (ix2 a b) + partTile _ _ _ k0_pay94 (ix2 a b) + partTile _ _ _ k0_pay94 (ix2 a b) + partTile _ _ _ k0_pay94 (ix2 a b))
    * unitTile s (ix2 a b) = _
  have hbp : p + b.val < 512 := by omega
  have hq' : q + a.val < 128 := by omega
  have H := fun (h : Fin 8) inb' => heads_at h5 E h.val q p inb' a b h.isLt hq' hbp
  simp only [partTile_at, unitTile_at, spread_at v L R hR _ _ _ a b hbp]
  rw [show heads h5 E 0 q p j0 (ix2 a b) = _ from H 0 j0, show heads h5 E 1 q p j1 (ix2 a b) = _ from H 1 j1, show heads h5 E 2 q p j2 (ix2 a b) = _ from H 2 j2,
    show heads h5 E 3 q p j3 (ix2 a b) = _ from H 3 j3, show heads h5 E 4 q p j4 (ix2 a b) = _ from H 4 j4, show heads h5 E 5 q p j5 (ix2 a b) = _ from H 5 j5,
    show heads h5 E 6 q p j6 (ix2 a b) = _ from H 6 j6, show heads h5 E 7 q p j7 (ix2 a b) = _ from H 7 j7]
  rfl

/-- A piece of a half block's scores. -/
theorem scores_piece {m1 : Memref sig .tc .vmem S512x2048 .bf16} (h1 : m1.IsWhole) {m2 : Memref sig .tc .vmem S1x512x2048 .bf16} (h2 : m2.IsWhole)
    (x : Vec Ideal S512x2048 .bf16) (u : Vec Ideal S1x512x2048 .bf16) {o l : ℕ} (ho : o ≤ 256)
    (inb : ∀ a, ![0, l] a + S256x256.size a ≤ S256x512.size a) (iu : ∀ a, ![0, o, 0] a + S1x256x2048.size a ≤ S1x512x2048.size a)
    (ix : ∀ a, ![l, 0] a + S256x2048.size a ≤ S512x2048.size a) (y : S256x256.Idx) :
    k0_pay77 (View.readAt (Elt Ideal) m2.view (Rect.unit (s := S1x512x2048) ![0, o, 0] S1x256x2048.size iu).toLoadRect (h2.unread u))
      (View.readAt (Elt Ideal) m1.view (Rect.unit (s := S512x2048) ![l, 0] S256x2048.size ix).toLoadRect (h1.unread x)) y
      = scores o ho x u ((Rect.unit (s := S256x512) ![0, l] S256x256.size inb).emb y) := by
  obtain ⟨a, b, rfl⟩ : ∃ a b, y = ix2 a b := ⟨_, _, eq_ix2 y⟩
  have ha := a.isLt
  have hb := b.isLt
  have hl : l + 256 ≤ 512 := inb 1
  rw [load_of, load_of, show (Rect.unit (s := S256x512) ![0, l] S256x256.size inb).emb (ix2 a b) = _ from
    emb_ix2 0 l inb a b (by omega) (by omega)]
  unfold scores
  pointwise [k0_pay77]

/-- A piece of the accumulator's step. -/
theorem added_piece {m4 : Memref sig .tc .vmem S1x2048x512 .bf16} (h4 : m4.IsWhole)
    (v : Vec Ideal S1x2048x512 .bf16) {o n : ℕ} (ho : o ≤ 256) {A : S2048x512.Idx → EReal} {W : S256x512.Idx → EReal}
    (inb : ∀ a, ![n, 0] a + S1024x512.size a ≤ S2048x512.size a) (iv : ∀ a, ![0, n, o] a + S1x1024x256.size a ≤ S1x2048x512.size a)
    {acc : Vec Ideal S1024x512 .f32} {w : Vec Ideal S256x512 .bf16}
    (hacc : acc = View.ld A (Rect.unit (s := S2048x512) ![n, 0] S1024x512.size inb)) (hw : w = W) (y : S1024x512.Idx) :
    k0_pay213 acc (View.readAt (Elt Ideal) m4.view (Rect.unit (s := S1x2048x512) ![0, n, o] S1x1024x256.size iv).toLoadRect (h4.unread v)) w y
      = added o ho A v W ((Rect.unit (s := S2048x512) ![n, 0] S1024x512.size inb).emb y) := by
  obtain ⟨a, b, rfl⟩ : ∃ a b, y = ix2 a b := ⟨_, _, eq_ix2 y⟩
  have ha := a.isLt
  have hb := b.isLt
  have hl : n + 1024 ≤ 2048 := inb 0
  have he : (Rect.unit (s := S2048x512) ![n, 0] S1024x512.size inb).emb (ix2 a b) = _ := emb_ix2 n 0 inb a b (by omega) (by omega)
  subst hw
  rw [load_of, hacc, he]
  unfold added
  pointwise [k0_pay213]

end Cert.ExpertsIdeal.Tile

end
-- ==== Proof.ExpertStep.lean ====
/- What one inner grid point of the expert kernel stores: the staged rows, the two half blocks of gated activations, the
   scores, and the accumulator. -/
module

public import proofs.«01_k».proof.Proof.Gen.ExpertsIdeal.Frame
public import proofs.«01_k».proof.Proof.ExpertTile

@[expose] public section

set_option maxRecDepth 16384

noncomputable section

namespace Cert.ExpertsIdeal.Tile

open Cert.ExpertsIdeal Cert.ExpertsIdeal.Gen Idealize.ShloMosaic Idealize.ShloMosaic.TcCoe Idealize.SL.Sem

variable (c : Dev nD) (i : grid0.Coords) (arg2 : Memref sig .tc .vmem S512x2048 .bf16) (harg2 : arg2.IsWhole) (arg3 : Memref sig .tc .vmem S1x512x2048 .bf16) (harg3 : arg3.IsWhole) (arg4 : Memref sig .tc .vmem S1x2048x512 .bf16) (harg4 : arg4.IsWhole) (arg5 : Memref sig .tc .vmem S8x128x512 .bf16) (harg5 : arg5.IsWhole) (arg6 : Memref sig .tc .vmem S8x128x512 .f32) (harg6 : arg6.IsWhole) (arg7 : Memref sig .tc .vmem S8x128x512 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S512x2048 .f32) (harg11 : arg11.IsWhole) (arg12 : Memref sig .tc .vmem S512x2048 .bf16) (harg12 : arg12.IsWhole) (arg13 : Memref sig .tc .vmem S2048x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .bf16) (harg16 : arg16.IsWhole) (arg17 : Memref sig .tc .vmem S256x512 .bf16) (harg17 : arg17.IsWhole) (arg18 : Memref sig .tc .vmem S64x512 .f32) (harg18 : arg18.IsWhole)
  (x0 : Vec Ideal S512x2048 .bf16) (x1 : Vec Ideal S1x512x2048 .bf16) (x2 : Vec Ideal S1x2048x512 .bf16) (x3 : Vec Ideal S8x128x512 .bf16) (x4 : Vec Ideal S8x128x512 .f32) (x5 : Vec Ideal S8x128x512 .f32) (x6 : Vec Ideal S512x2048 .f32) (x7 : Vec Ideal S1x2048 .f32) (x8 : Vec Ideal S1x2048 .f32) (xs0 : Vec Ideal S2048x512 .f32) (xs2 : Vec Ideal S256x512 .f32) (xs3 : Vec Ideal S256x512 .bf16)

/-- The rows it stages. -/
def rowsAt (j : ℕ) (f t : S8x128x512.Idx → EReal) : S64x512.Idx → EReal := fun y => staged j f t (y 0).val (y 1)

set_option maxHeartbeats 4000000 in
/-- The staged rows, as stored. -/
theorem rows_B : View.PiecesOf (rowsAt (i 1).val x4 x5) (kernelRun0_B.sl.HS5_64 (F := Ideal) c i arg6 harg6 arg7 harg7 x4 x5) := by
  unfold kernelRun0_B.sl.HS5_64
  iterate 8
    refine ⟨fun x => ?_, fun x => ?_, ?_⟩
    · apply staged_factor harg6 (i 1).val x4 x5
      case hn => exact rowWord_at 1 (i 1)
      all_goals decide
    · apply staged_threshold harg7 (i 1).val x4 x5
      case hn => exact rowWord_at 1 (i 1)
      all_goals decide
  iterate 8
    refine ⟨fun x => ?_, fun x => ?_, ?_⟩
    · apply staged_factor harg6 (i 1).val x4 x5
      case hn => exact rowWord_at 0 (i 1)
      all_goals decide
    · apply staged_threshold harg7 (i 1).val x4 x5
      case hn => exact rowWord_at 0 (i 1)
      all_goals decide
  iterate 8
    refine ⟨fun x => ?_, fun x => ?_, ?_⟩
    · apply staged_factor harg6 (i 1).val x4 x5
      case hn => exact rowWord_before 1 (i 1)
      all_goals decide
    · apply staged_threshold harg7 (i 1).val x4 x5
      case hn => exact rowWord_before 1 (i 1)
      all_goals decide
  iterate 8
    refine ⟨fun x => ?_, fun x => ?_, ?_⟩
    · apply staged_factor harg6 (i 1).val x4 x5
      case hn => exact rowWord_before 0 (i 1)
      all_goals decide
    · apply staged_threshold harg7 (i 1).val x4 x5
      case hn => exact rowWord_before 0 (i 1)
      all_goals decide
  trivial

/-- The staged rows, as read back. -/
theorem read_rows_B (r : Rect S64x512) : arg18.view.readCov (kernelRun0_B.sl.HS5_64 (F := Ideal) c i arg6 harg6 arg7 harg7 x4 x5) r.toLoadRect
    = View.ld (rowsAt (i 1).val x4 x5) r :=
  load_of_pieces arg18.view _ _ (rows_B c i arg6 harg6 arg7 harg7 x4 x5) (View.cover_of_tiledL _ ![1, 512] (by sl_kernel_rfl)) r

set_option maxHeartbeats 4000000 in
/-- The activations of the half block whose scores the point before left. -/
theorem gates_B : View.PiecesOf (gated 0 (staged (i 1).val x4 x5) x3 xs2)
    (kernelRun0_B.sl.HS4_64 (F := Ideal) c i arg5 harg5 arg6 harg6 arg7 harg7 arg15 harg15 arg18 x3 x4 x5 xs2) := by
  have hR := read_rows_B c i arg6 harg6 arg7 harg7 arg18 x4 x5
  unfold kernelRun0_B.sl.HS4_64
  iterate 64
    refine ⟨fun x => ?_, ?_⟩
    · apply gate_piece (base := 0) hR harg5
      · exact load_of arg15 harg15 xs2 _
      · rfl
      · rfl
      · decide
  trivial

end Cert.ExpertsIdeal.Tile

end
-- ==== Proof.ExpertAcc.lean ====
/- What one inner grid point of the expert kernel leaves in its scratch buffers. -/
module

public import proofs.«01_k».proof.Proof.Gen.ExpertsIdeal.Frame
public import proofs.«01_k».proof.Proof.ExpertStep

@[expose] public section

set_option maxRecDepth 16384

noncomputable section

namespace Cert.ExpertsIdeal.Tile

open Cert.ExpertsIdeal Cert.ExpertsIdeal.Gen Idealize.ShloMosaic Idealize.ShloMosaic.TcCoe Idealize.SL.Sem

variable (c : Dev nD) (i : grid0.Coords) (arg2 : Memref sig .tc .vmem S512x2048 .bf16) (harg2 : arg2.IsWhole) (arg3 : Memref sig .tc .vmem S1x512x2048 .bf16) (harg3 : arg3.IsWhole) (arg4 : Memref sig .tc .vmem S1x2048x512 .bf16) (harg4 : arg4.IsWhole) (arg5 : Memref sig .tc .vmem S8x128x512 .bf16) (harg5 : arg5.IsWhole) (arg6 : Memref sig .tc .vmem S8x128x512 .f32) (harg6 : arg6.IsWhole) (arg7 : Memref sig .tc .vmem S8x128x512 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S512x2048 .f32) (harg11 : arg11.IsWhole) (arg12 : Memref sig .tc .vmem S512x2048 .bf16) (harg12 : arg12.IsWhole) (arg13 : Memref sig .tc .vmem S2048x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .bf16) (harg16 : arg16.IsWhole) (arg17 : Memref sig .tc .vmem S256x512 .bf16) (harg17 : arg17.IsWhole) (arg18 : Memref sig .tc .vmem S64x512 .f32) (harg18 : arg18.IsWhole)
  (x0 : Vec Ideal S512x2048 .bf16) (x1 : Vec Ideal S1x512x2048 .bf16) (x2 : Vec Ideal S1x2048x512 .bf16) (x3 : Vec Ideal S8x128x512 .bf16) (x4 : Vec Ideal S8x128x512 .f32) (x5 : Vec Ideal S8x128x512 .f32) (x6 : Vec Ideal S512x2048 .f32) (x7 : Vec Ideal S1x2048 .f32) (x8 : Vec Ideal S1x2048 .f32) (xs0 : Vec Ideal S2048x512 .f32) (xs2 : Vec Ideal S256x512 .f32) (xs3 : Vec Ideal S256x512 .bf16)

/-- A load of a whole buffer. -/
theorem ld_whole {α : EltTy → Type} {e : EltTy} {n k : ℕ} (X : (⟨2, ![n, k]⟩ : Shape).Idx → α e) (inb : ∀ a, ![0, 0] a + ![n, k] a ≤ (⟨2, ![n, k]⟩ : Shape).size a) :
    View.ld (Val := α) X (Rect.unit (s := ⟨2, ![n, k]⟩) ![0, 0] ![n, k] inb) = X := by
  funext y
  obtain ⟨a, b, rfl⟩ : ∃ a b, y = ix2 a b := ⟨_, _, eq_ix2 y⟩
  refine congrArg X ((emb_ix2 0 0 inb a b (by omega) (by omega)).trans ?_)
  congr 1 <;> exact Fin.ext (Nat.zero_add _)

/-- The scores of the half block before. -/
theorem scores_B : View.PiecesOf (scores 0 (by decide) x0 x1) (kernelRun0_B.sl.HS1_2 (F := Ideal) c arg2 harg2 arg3 harg3 x0 x1) := by
  unfold kernelRun0_B.sl.HS1_2
  refine ⟨fun x => ?_, fun x => ?_, trivial⟩
  · apply scores_piece harg2 harg3 x0 x1 (by decide)
    decide
  · apply scores_piece harg2 harg3 x0 x1 (by decide)
    decide

theorem read_scores_B (r : Rect S256x512) : arg14.view.readCov (kernelRun0_B.sl.HS1_2 (F := Ideal) c arg2 harg2 arg3 harg3 x0 x1) r.toLoadRect
    = View.ld (scores 0 (by decide) x0 x1) r :=
  load_of_pieces arg14.view _ _ (scores_B c arg2 harg2 arg3 harg3 x0 x1) (View.cover_of_tiledL _ ![256, 256] (by sl_kernel_rfl)) r

/-- The first step of the accumulator. -/
theorem first_B : View.PiecesOf (added 0 (by decide) xs0 x2 xs3) (kernelRun0_B.sl.HS0_2 (F := Ideal) c arg4 harg4 arg13 harg13 arg16 harg16 x2 xs0 xs3) := by
  unfold kernelRun0_B.sl.HS0_2
  refine ⟨fun x => ?_, fun x => ?_, trivial⟩
  all_goals
    apply added_piece harg4 x2 (by decide)
    · exact load_of arg13 harg13 xs0 _
    · exact (load_of arg16 harg16 xs3 _).trans (ld_whole xs3 _)

theorem read_first_B (r : Rect S2048x512) : arg13.view.readCov (kernelRun0_B.sl.HS0_2 (F := Ideal) c arg4 harg4 arg13 harg13 arg16 harg16 x2 xs0 xs3) r.toLoadRect
    = View.ld (added 0 (by decide) xs0 x2 xs3) r :=
  load_of_pieces arg13.view _ _ (first_B c arg4 harg4 arg13 harg13 arg16 harg16 x2 xs0 xs3) (View.cover_of_tiledL _ ![1024, 512] (by sl_kernel_rfl)) r

theorem read_gates_B : kernelRun0_B.sl.v6694 (F := Ideal) c i arg5 harg5 arg6 harg6 arg7 harg7 arg15 harg15 arg17 arg18 x3 x4 x5 xs2
    = gated 0 (staged (i 1).val x4 x5) x3 xs2 :=
  (load_of_pieces arg17.view _ _ (gates_B c i arg5 harg5 arg6 harg6 arg7 harg7 arg15 harg15 arg18 x3 x4 x5 xs2) (View.cover_of_tiledL _ ![8, 256] (by sl_kernel_rfl))
    (Rect.unit (s := S256x512) ![0, 0] S256x512.size inb_S256x512_S256x512_0_0)).trans (ld_whole _ _)

variable (hc0 : ¬cond0_0 i) (hc1 : ¬cond0_1 i)

set_option maxHeartbeats 4000000 in
/-- The accumulator it leaves. -/
theorem acc_B : sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs2 xs3 = added 256 (by decide) (added 0 (by decide) xs0 x2 xs3) x2 (gated 0 (staged (i 1).val x4 x5) x3 xs2) := by
  refine (View.read_writes_junk_eq_canon VS0_0 _).trans ?_
  funext y
  have hw := read_gates_B c i arg5 harg5 arg6 harg6 arg7 harg7 arg15 harg15 arg17 arg18 x3 x4 x5 xs2
  have hr := read_first_B c arg4 harg4 arg13 harg13 arg16 harg16 x2 xs0 xs3
  refine View.canon_append_of_piecesOf (added 256 (by decide) (added 0 (by decide) xs0 x2 xs3) x2 (gated 0 (staged (i 1).val x4 x5) x3 xs2))
    (kernelRun0_B.sl.HS0_2 (F := Ideal) c arg4 harg4 arg13 harg13 arg16 harg16 x2 xs0 xs3) [_, _] ⟨fun x => ?_, fun x => ?_, trivial⟩ y
    (View.cover_of_tiledL _ ![1024, 512] (by sl_kernel_rfl) y)
  · apply added_piece harg4 x2 (by decide)
    · exact (View.readCov_skip _ _ _ _ _ (by decide)).trans (hr _)
    · exact hw
  · apply added_piece harg4 x2 (by decide)
    · exact hr _
    · exact hw

set_option maxHeartbeats 4000000 in
/-- The scores it leaves for the point after. -/
theorem next_B : sout0_B_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs2 xs3 = scores 256 (by decide) x0 x1 := by
  refine (View.read_writes_junk_eq_canon VS0_2 _).trans ?_
  funext y
  refine View.canon_append_of_piecesOf (scores 256 (by decide) x0 x1) [] [_, _] ⟨fun x => ?_, fun x => ?_, trivial⟩ y
    (View.cover_of_tiledL _ ![256, 256] (by sl_kernel_rfl) y)
  · apply scores_piece harg2 harg3 x0 x1 (by decide)
    decide
  · apply scores_piece harg2 harg3 x0 x1 (by decide)
    decide

end Cert.ExpertsIdeal.Tile

end
-- ==== Proof.ExpertNext.lean ====
/- What one inner grid point of the expert kernel leaves in its scratch buffers. -/
module

public import proofs.«01_k».proof.Proof.Gen.ExpertsIdeal.Frame
public import proofs.«01_k».proof.Proof.ExpertAcc

@[expose] public section

set_option maxRecDepth 16384

noncomputable section

namespace Cert.ExpertsIdeal.Tile

open Cert.ExpertsIdeal Cert.ExpertsIdeal.Gen Idealize.ShloMosaic Idealize.ShloMosaic.TcCoe Idealize.SL.Sem

variable (c : Dev nD) (i : grid0.Coords) (arg2 : Memref sig .tc .vmem S512x2048 .bf16) (harg2 : arg2.IsWhole) (arg3 : Memref sig .tc .vmem S1x512x2048 .bf16) (harg3 : arg3.IsWhole) (arg4 : Memref sig .tc .vmem S1x2048x512 .bf16) (harg4 : arg4.IsWhole) (arg5 : Memref sig .tc .vmem S8x128x512 .bf16) (harg5 : arg5.IsWhole) (arg6 : Memref sig .tc .vmem S8x128x512 .f32) (harg6 : arg6.IsWhole) (arg7 : Memref sig .tc .vmem S8x128x512 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S512x2048 .f32) (harg11 : arg11.IsWhole) (arg12 : Memref sig .tc .vmem S512x2048 .bf16) (harg12 : arg12.IsWhole) (arg13 : Memref sig .tc .vmem S2048x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .bf16) (harg16 : arg16.IsWhole) (arg17 : Memref sig .tc .vmem S256x512 .bf16) (harg17 : arg17.IsWhole) (arg18 : Memref sig .tc .vmem S64x512 .f32) (harg18 : arg18.IsWhole)
  (x0 : Vec Ideal S512x2048 .bf16) (x1 : Vec Ideal S1x512x2048 .bf16) (x2 : Vec Ideal S1x2048x512 .bf16) (x3 : Vec Ideal S8x128x512 .bf16) (x4 : Vec Ideal S8x128x512 .f32) (x5 : Vec Ideal S8x128x512 .f32) (x6 : Vec Ideal S512x2048 .f32) (x7 : Vec Ideal S1x2048 .f32) (x8 : Vec Ideal S1x2048 .f32) (xs0 : Vec Ideal S2048x512 .f32) (xs2 : Vec Ideal S256x512 .f32) (xs3 : Vec Ideal S256x512 .bf16)

variable (hc0 : ¬cond0_0 i) (hc1 : ¬cond0_1 i)

set_option maxHeartbeats 4000000 in
/-- The activations it leaves for the point after. -/
theorem waiting_B : sout0_B_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs2 xs3 = gated 32 (staged (i 1).val x4 x5) x3 (scores 0 (by decide) x0 x1) := by
  refine (View.read_writes_junk_eq_canon VS0_3 _).trans ?_
  have hR := read_rows_B c i arg6 harg6 arg7 harg7 arg18 x4 x5
  have hs := read_scores_B c arg2 harg2 arg3 harg3 arg14 x0 x1
  suffices h : View.PiecesOf (gated 32 (staged (i 1).val x4 x5) x3 (scores 0 (by decide) x0 x1)) (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs2 xs3).2.2.2.2.1 from
    funext fun y => View.canon_apply_of_pieces _ _ h.mem y (View.cover_of_tiledL _ ![8, 256] (by sl_kernel_rfl) y)
  unfold kernelRun0_B
  iterate 64
    refine ⟨fun x => ?_, ?_⟩
    · apply gate_piece (base := 32) hR harg5
      · exact hs _
      · rfl
      · rfl
      · decide
  trivial

end Cert.ExpertsIdeal.Tile

end
-- ==== Proof.ExpertStart.lean ====
/- What the first inner grid point of a block of tokens leaves in the accumulator and the carried buffers: it starts from zero. -/
module

public import proofs.«01_k».proof.Proof.Gen.ExpertsIdeal.Frame
public import proofs.«01_k».proof.Proof.ExpertNext

@[expose] public section

set_option maxRecDepth 16384

noncomputable section

namespace Cert.ExpertsIdeal.Tile

open Cert.ExpertsIdeal Cert.ExpertsIdeal.Gen Idealize.ShloMosaic Idealize.ShloMosaic.TcCoe Idealize.SL.Sem

variable (c : Dev nD) (i : grid0.Coords) (arg2 : Memref sig .tc .vmem S512x2048 .bf16) (harg2 : arg2.IsWhole) (arg3 : Memref sig .tc .vmem S1x512x2048 .bf16) (harg3 : arg3.IsWhole) (arg4 : Memref sig .tc .vmem S1x2048x512 .bf16) (harg4 : arg4.IsWhole) (arg5 : Memref sig .tc .vmem S8x128x512 .bf16) (harg5 : arg5.IsWhole) (arg6 : Memref sig .tc .vmem S8x128x512 .f32) (harg6 : arg6.IsWhole) (arg7 : Memref sig .tc .vmem S8x128x512 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S512x2048 .f32) (harg11 : arg11.IsWhole) (arg12 : Memref sig .tc .vmem S512x2048 .bf16) (harg12 : arg12.IsWhole) (arg13 : Memref sig .tc .vmem S2048x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .bf16) (harg16 : arg16.IsWhole) (arg17 : Memref sig .tc .vmem S256x512 .bf16) (harg17 : arg17.IsWhole) (arg18 : Memref sig .tc .vmem S64x512 .f32) (harg18 : arg18.IsWhole)
  (x0 : Vec Ideal S512x2048 .bf16) (x1 : Vec Ideal S1x512x2048 .bf16) (x2 : Vec Ideal S1x2048x512 .bf16) (x3 : Vec Ideal S8x128x512 .bf16) (x4 : Vec Ideal S8x128x512 .f32) (x5 : Vec Ideal S8x128x512 .f32) (x6 : Vec Ideal S512x2048 .f32) (x7 : Vec Ideal S1x2048 .f32) (x8 : Vec Ideal S1x2048 .f32) (xs0 : Vec Ideal S2048x512 .f32) (xs2 : Vec Ideal S256x512 .f32) (xs3 : Vec Ideal S256x512 .bf16)

/-- The staged rows, as read back: they are stored as at any other point. -/
theorem read_rows_A (r : Rect S64x512) : arg18.view.readCov (kernelRun0_A.sl.HS5_64 (F := Ideal) c i arg6 harg6 arg7 harg7 x4 x5) r.toLoadRect
    = View.ld (rowsAt (i 1).val x4 x5) r :=
  read_rows_B c i arg6 harg6 arg7 harg7 arg18 x4 x5 r

/-- So are the scores. -/
theorem read_scores_A (r : Rect S256x512) : arg14.view.readCov (kernelRun0_A.sl.HS1_2 (F := Ideal) c arg2 harg2 arg3 harg3 x0 x1) r.toLoadRect
    = View.ld (scores 0 (by decide) x0 x1) r :=
  read_scores_B c arg2 harg2 arg3 harg3 arg14 x0 x1 r

/-- Contents whose last pieces cover the buffer, each its part of one function. -/
theorem canon_over {s : Shape} {e : EltTy} (G : s.Idx → Elt Ideal e) (L : List (View.Piece (Elt Ideal) s e)) (n : ℕ) (h : View.PiecesOf G (L.take n))
    (hc : ∀ y, ∃ p ∈ L.take n, y ∈ p.1.set) : View.canon L = G := by
  funext y
  have := View.canon_append_of_piecesOf G (L.drop n) (L.take n) h y (hc y)
  rwa [List.take_append_drop] at this

set_option maxHeartbeats 4000000 in
/-- The activations of the half block before, from zero scores. -/
theorem gates_A : View.PiecesOf (gated 0 (staged (i 1).val x4 x5) x3 (k0_pay5 (F := Ideal)))
    (kernelRun0_A.sl.HS4_64 (F := Ideal) c i arg5 harg5 arg6 harg6 arg7 harg7 arg15 arg18 x3 x4 x5) := by
  have hR := read_rows_A c i arg6 harg6 arg7 harg7 arg18 x4 x5
  unfold kernelRun0_A.sl.HS4_64
  iterate 64
    refine ⟨fun x => ?_, ?_⟩
    · apply gate_piece (base := 0) hR harg5
      · exact View.readCov_fill arg15.view _ _ _ _ (by decide)
      · rfl
      · rfl
      · decide
  trivial

theorem read_gates_A : kernelRun0_A.sl.v6694 (F := Ideal) c i arg5 harg5 arg6 harg6 arg7 harg7 arg15 arg17 arg18 x3 x4 x5
    = gated 0 (staged (i 1).val x4 x5) x3 (k0_pay5 (F := Ideal)) :=
  (load_of_pieces arg17.view _ _ (gates_A c i arg5 harg5 arg6 harg6 arg7 harg7 arg15 arg18 x3 x4 x5) (View.cover_of_tiledL _ ![8, 256] (by sl_kernel_rfl))
    (Rect.unit (s := S256x512) ![0, 0] S256x512.size inb_S256x512_S256x512_0_0)).trans (ld_whole _ _)

/-- The first step of the accumulator. -/
theorem first_A : View.canon (kernelRun0_A.sl.HS0_3 (F := Ideal) c arg4 harg4 arg13 arg16 x2) = added 0 (by decide) (k0_pay4 (F := Ideal)) x2 (k0_pay6 (F := Ideal)) := by
  refine canon_over _ _ 2 ?_ (View.cover_of_tiledL _ ![1024, 512] (by sl_kernel_rfl))
  unfold kernelRun0_A.sl.HS0_3
  refine ⟨fun x => ?_, fun x => ?_, trivial⟩
  · apply added_piece harg4 x2 (by decide)
    · exact (View.readCov_skip _ _ _ _ _ (by decide)).trans (View.readCov_fill arg13.view _ _ _ _ (by decide))
    · exact (View.readCov_fill arg16.view _ _ _ _ (by decide)).trans (ld_whole _ _)
  · apply added_piece harg4 x2 (by decide)
    · exact View.readCov_fill arg13.view _ _ _ _ (by decide)
    · exact (View.readCov_fill arg16.view _ _ _ _ (by decide)).trans (ld_whole _ _)

theorem read_first_A (r : Rect S2048x512) : arg13.view.readCov (kernelRun0_A.sl.HS0_3 (F := Ideal) c arg4 harg4 arg13 arg16 x2) r.toLoadRect
    = View.ld (added 0 (by decide) (k0_pay4 (F := Ideal)) x2 (k0_pay6 (F := Ideal))) r := by
  rw [View.readCov_eq_canon', first_A]

variable (hc0 : cond0_0 i) (hc1 : ¬cond0_1 i)

set_option maxHeartbeats 4000000 in
/-- The accumulator it leaves. -/
theorem acc_A : sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 = added 256 (by decide) (added 0 (by decide) (k0_pay4 (F := Ideal)) x2 (k0_pay6 (F := Ideal))) x2 (gated 0 (staged (i 1).val x4 x5) x3 (k0_pay5 (F := Ideal))) := by
  refine (View.read_writes_junk_eq_canon VS0_0 _).trans ?_
  funext y
  have hw := read_gates_A c i arg5 harg5 arg6 harg6 arg7 harg7 arg15 arg17 arg18 x3 x4 x5
  have hr := read_first_A c arg4 harg4 arg13 arg16 x2
  refine View.canon_append_of_piecesOf (added 256 (by decide) (added 0 (by decide) (k0_pay4 (F := Ideal)) x2 (k0_pay6 (F := Ideal))) x2 (gated 0 (staged (i 1).val x4 x5) x3 (k0_pay5 (F := Ideal))))
    (kernelRun0_A.sl.HS0_3 (F := Ideal) c arg4 harg4 arg13 arg16 x2) [_, _] ⟨fun x => ?_, fun x => ?_, trivial⟩ y
    (View.cover_of_tiledL _ ![1024, 512] (by sl_kernel_rfl) y)
  · apply added_piece harg4 x2 (by decide)
    · exact (View.readCov_skip _ _ _ _ _ (by decide)).trans (hr _)
    · exact hw
  · apply added_piece harg4 x2 (by decide)
    · exact hr _
    · exact hw

set_option maxHeartbeats 4000000 in
/-- The scores it leaves for the point after. -/
theorem next_A : sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 = scores 256 (by decide) x0 x1 := by
  refine (View.read_writes_junk_eq_canon VS0_2 _).trans ?_
  refine canon_over _ _ 2 ?_ (View.cover_of_tiledL _ ![256, 256] (by sl_kernel_rfl))
  refine ⟨fun x => ?_, fun x => ?_, trivial⟩
  · apply scores_piece harg2 harg3 x0 x1 (by decide)
    decide
  · apply scores_piece harg2 harg3 x0 x1 (by decide)
    decide

end Cert.ExpertsIdeal.Tile

end
-- ==== Proof.ExpertWait.lean ====
/- The activations that the first inner grid point of a block of tokens leaves waiting for the point after. -/
module

public import proofs.«01_k».proof.Proof.Gen.ExpertsIdeal.Frame
public import proofs.«01_k».proof.Proof.ExpertStart

@[expose] public section

set_option maxRecDepth 16384

noncomputable section

namespace Cert.ExpertsIdeal.Tile

open Cert.ExpertsIdeal Cert.ExpertsIdeal.Gen Idealize.ShloMosaic Idealize.ShloMosaic.TcCoe Idealize.SL.Sem

variable (c : Dev nD) (i : grid0.Coords) (arg2 : Memref sig .tc .vmem S512x2048 .bf16) (harg2 : arg2.IsWhole) (arg3 : Memref sig .tc .vmem S1x512x2048 .bf16) (harg3 : arg3.IsWhole) (arg4 : Memref sig .tc .vmem S1x2048x512 .bf16) (harg4 : arg4.IsWhole) (arg5 : Memref sig .tc .vmem S8x128x512 .bf16) (harg5 : arg5.IsWhole) (arg6 : Memref sig .tc .vmem S8x128x512 .f32) (harg6 : arg6.IsWhole) (arg7 : Memref sig .tc .vmem S8x128x512 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S512x2048 .f32) (harg11 : arg11.IsWhole) (arg12 : Memref sig .tc .vmem S512x2048 .bf16) (harg12 : arg12.IsWhole) (arg13 : Memref sig .tc .vmem S2048x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .bf16) (harg16 : arg16.IsWhole) (arg17 : Memref sig .tc .vmem S256x512 .bf16) (harg17 : arg17.IsWhole) (arg18 : Memref sig .tc .vmem S64x512 .f32) (harg18 : arg18.IsWhole)
  (x0 : Vec Ideal S512x2048 .bf16) (x1 : Vec Ideal S1x512x2048 .bf16) (x2 : Vec Ideal S1x2048x512 .bf16) (x3 : Vec Ideal S8x128x512 .bf16) (x4 : Vec Ideal S8x128x512 .f32) (x5 : Vec Ideal S8x128x512 .f32) (x6 : Vec Ideal S512x2048 .f32) (x7 : Vec Ideal S1x2048 .f32) (x8 : Vec Ideal S1x2048 .f32) (xs0 : Vec Ideal S2048x512 .f32) (xs2 : Vec Ideal S256x512 .f32) (xs3 : Vec Ideal S256x512 .bf16)

variable (hc0 : cond0_0 i) (hc1 : ¬cond0_1 i)

set_option maxHeartbeats 4000000 in
/-- The activations it leaves waiting. -/
theorem waiting_A : sout0_A_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 = gated 32 (staged (i 1).val x4 x5) x3 (scores 0 (by decide) x0 x1) := by
  refine (View.read_writes_junk_eq_canon VS0_3 _).trans ?_
  have hR := read_rows_B c i arg6 harg6 arg7 harg7 arg18 x4 x5
  have hs := read_scores_B c arg2 harg2 arg3 harg3 arg14 x0 x1
  refine canon_over _ _ 64 ?_ (View.cover_of_tiledL _ ![8, 256] (by sl_kernel_rfl))
  unfold kernelRun0_A
  iterate 64
    refine ⟨fun x => ?_, ?_⟩
    · apply gate_piece (base := 32) hR harg5
      · exact hs _
      · rfl
      · rfl
      · decide
  trivial

end Cert.ExpertsIdeal.Tile

end
-- ==== Proof.ExpertLast.lean ====
/- What the last inner grid point of a block of tokens stores in the results. -/
module

public import proofs.«01_k».proof.Proof.Gen.ExpertsIdeal.Frame
public import proofs.«01_k».proof.Proof.ExpertNext

@[expose] public section

set_option maxRecDepth 16384

noncomputable section

namespace Cert.ExpertsIdeal.Tile

open Cert.ExpertsIdeal Cert.ExpertsIdeal.Gen Idealize.ShloMosaic Idealize.ShloMosaic.TcCoe Idealize.SL.Sem

variable (c : Dev nD) (i : grid0.Coords) (arg2 : Memref sig .tc .vmem S512x2048 .bf16) (harg2 : arg2.IsWhole) (arg3 : Memref sig .tc .vmem S1x512x2048 .bf16) (harg3 : arg3.IsWhole) (arg4 : Memref sig .tc .vmem S1x2048x512 .bf16) (harg4 : arg4.IsWhole) (arg5 : Memref sig .tc .vmem S8x128x512 .bf16) (harg5 : arg5.IsWhole) (arg6 : Memref sig .tc .vmem S8x128x512 .f32) (harg6 : arg6.IsWhole) (arg7 : Memref sig .tc .vmem S8x128x512 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S512x2048 .f32) (harg11 : arg11.IsWhole) (arg12 : Memref sig .tc .vmem S512x2048 .bf16) (harg12 : arg12.IsWhole) (arg13 : Memref sig .tc .vmem S2048x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .bf16) (harg16 : arg16.IsWhole) (arg17 : Memref sig .tc .vmem S256x512 .bf16) (harg17 : arg17.IsWhole) (arg18 : Memref sig .tc .vmem S64x512 .f32) (harg18 : arg18.IsWhole)
  (x0 : Vec Ideal S512x2048 .bf16) (x1 : Vec Ideal S1x512x2048 .bf16) (x2 : Vec Ideal S1x2048x512 .bf16) (x3 : Vec Ideal S8x128x512 .bf16) (x4 : Vec Ideal S8x128x512 .f32) (x5 : Vec Ideal S8x128x512 .f32) (x6 : Vec Ideal S512x2048 .f32) (x7 : Vec Ideal S1x2048 .f32) (x8 : Vec Ideal S1x2048 .f32) (xs0 : Vec Ideal S2048x512 .f32) (xs2 : Vec Ideal S256x512 .f32) (xs3 : Vec Ideal S256x512 .bf16)

variable (hc0 : ¬cond0_0 i) (hc1 : cond0_1 i)

/-- The accumulator at the last point. -/
abbrev whole : Vec Ideal S2048x512 .f32 := added 256 (by decide) (added 0 (by decide) xs0 x2 xs3) x2 (gated 0 (staged (i 1).val x4 x5) x3 xs2)

/-- The activations, stored as at any other point. -/
theorem read_gates_C : kernelRun0_C.sl.v6694 (F := Ideal) c i arg5 harg5 arg6 harg6 arg7 harg7 arg15 harg15 arg17 arg18 x3 x4 x5 xs2
    = gated 0 (staged (i 1).val x4 x5) x3 xs2 :=
  read_gates_B c i arg5 harg5 arg6 harg6 arg7 harg7 arg15 harg15 arg17 arg18 x3 x4 x5 xs2

theorem read_first_C (r : Rect S2048x512) : arg13.view.readCov (kernelRun0_C.sl.HS0_2 (F := Ideal) c arg4 harg4 arg13 harg13 arg16 harg16 x2 xs0 xs3) r.toLoadRect
    = View.ld (added 0 (by decide) xs0 x2 xs3) r :=
  read_first_B c arg4 harg4 arg13 harg13 arg16 harg16 x2 xs0 xs3 r

set_option maxHeartbeats 4000000 in
/-- The accumulator, as the last point reads it back. -/
theorem read_acc_C : kernelRun0_C.sl.v8804 (F := Ideal) c i arg4 harg4 arg5 harg5 arg6 harg6 arg7 harg7 arg13 harg13 arg15 harg15 arg16 harg16 arg17 arg18 x2 x3 x4 x5 xs0 xs2 xs3
    = whole i x2 x3 x4 x5 xs0 xs2 xs3 := by
  have hw := read_gates_C c i arg5 harg5 arg6 harg6 arg7 harg7 arg15 harg15 arg17 arg18 x3 x4 x5 xs2
  have hr := read_first_C c arg4 harg4 arg13 harg13 arg16 harg16 x2 xs0 xs3
  unfold kernelRun0_C.sl.v8804
  refine (View.readCov_eq_canon' _ _ _).trans ?_
  refine (congrArg (View.ld · (Rect.unit (s := S2048x512) ![0, 0] S2048x512.size inb_S2048x512_S2048x512_0_0)) (?_ : View.canon _ = whole i x2 x3 x4 x5 xs0 xs2 xs3)).trans (ld_whole _ _)
  funext y
  refine View.canon_append_of_piecesOf (whole i x2 x3 x4 x5 xs0 xs2 xs3)
    (kernelRun0_C.sl.HS0_2 (F := Ideal) c arg4 harg4 arg13 harg13 arg16 harg16 x2 xs0 xs3) [_, _] ⟨fun x => ?_, fun x => ?_, trivial⟩ y
    (View.cover_of_tiledL _ ![1024, 512] (by sl_kernel_rfl) y)
  · apply added_piece harg4 x2 (by decide)
    · exact (View.readCov_skip _ _ _ _ _ (by decide)).trans (hr _)
    · exact hw
  · apply added_piece harg4 x2 (by decide)
    · exact hr _
    · exact hw

set_option maxHeartbeats 4000000 in
/-- The first result's block. -/
theorem result_C : out0_C_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs2 xs3 = k0_pay2 (F := Ideal) x6 (whole i x2 x3 x4 x5 xs0 xs2 xs3) x7 x8 := by
  have ha := read_acc_C c i arg4 harg4 arg5 harg5 arg6 harg6 arg7 harg7 arg13 harg13 arg15 harg15 arg16 harg16 arg17 arg18 x2 x3 x4 x5 xs0 xs2 xs3
  have h6 := (load_of arg8 harg8 x6 (Rect.unit (s := S512x2048) ![0, 0] S512x2048.size inb_S512x2048_S512x2048_0_0)).trans (ld_whole x6 _)
  have h7 := (load_of arg9 harg9 x7 (Rect.unit (s := S1x2048) ![0, 0] S1x2048.size inb_S1x2048_S1x2048_0_0)).trans (ld_whole x7 _)
  have h8 := (load_of arg10 harg10 x8 (Rect.unit (s := S1x2048) ![0, 0] S1x2048.size inb_S1x2048_S1x2048_0_0)).trans (ld_whole x8 _)
  rw [← ha]
  conv_rhs => rw [← h6, ← h7, ← h8]
  refine (View.read_writes_junk_eq_canon VO0_9 _).trans ?_
  exact View.canon_cons_unit_lit _ _ _ (by decide)

set_option maxHeartbeats 4000000 in
/-- The second result's block. -/
theorem rounded_C : out0_C_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs2 xs3 = k0_pay3 (F := Ideal) x6 (whole i x2 x3 x4 x5 xs0 xs2 xs3) x7 x8 := by
  have ha := read_acc_C c i arg4 harg4 arg5 harg5 arg6 harg6 arg7 harg7 arg13 harg13 arg15 harg15 arg16 harg16 arg17 arg18 x2 x3 x4 x5 xs0 xs2 xs3
  have h6 := (load_of arg8 harg8 x6 (Rect.unit (s := S512x2048) ![0, 0] S512x2048.size inb_S512x2048_S512x2048_0_0)).trans (ld_whole x6 _)
  have h7 := (load_of arg9 harg9 x7 (Rect.unit (s := S1x2048) ![0, 0] S1x2048.size inb_S1x2048_S1x2048_0_0)).trans (ld_whole x7 _)
  have h8 := (load_of arg10 harg10 x8 (Rect.unit (s := S1x2048) ![0, 0] S1x2048.size inb_S1x2048_S1x2048_0_0)).trans (ld_whole x8 _)
  rw [← ha]
  conv_rhs => rw [← h6, ← h7, ← h8]
  refine (View.read_writes_junk_eq_canon VO0_10 _).trans ?_
  exact View.canon_cons_unit_lit _ _ _ (by decide)

end Cert.ExpertsIdeal.Tile

end
-- ==== Proof.ExpertSum.lean ====
/- What the expert kernel's grid points accumulate: after each point the sum over the experts of the blocks before. -/
module

public import proofs.«01_k».proof.Proof.ExpertWait
public import proofs.«01_k».proof.Proof.ExpertLast
public import Idealize.ShloMosaic.Lib.Pipeline.ValueKit
public import Idealize.ShloMosaic.Lib.Pointwise

@[expose] public section

set_option maxRecDepth 16384

noncomputable section

namespace Cert.ExpertsIdeal.Sum

open Cert.ExpertsIdeal Cert.ExpertsIdeal.Gen Cert.ExpertsIdeal.Tile Idealize.ShloMosaic Idealize.ShloMosaic.TcCoe Idealize.SL.Sem

/-- Every window's block. -/
theorem idx : ∀ t : Fin cfg0.N, win0_0.index t = ![t.val / 33, 0] ∧ win0_1.index t = ![min (t.val % 33) 31, 0, 0] ∧ win0_2.index t = ![t.val % 33 - 1, 0, 0]
    ∧ win0_3.index t = ![0, 0, t.val / 33] ∧ win0_4.index t = ![0, 0, t.val / 33] ∧ win0_5.index t = ![0, 0, t.val / 33] ∧ win0_6.index t = ![t.val / 33, 0]
    ∧ win0_7.index t = ![0, 0] ∧ win0_8.index t = ![0, 0] ∧ win0_9.index t = ![t.val / 33, 0] ∧ win0_10.index t = ![t.val / 33, 0] :=
  (by decide +kernel : ∀ t : Fin grid0.N, _)

/-- The inner grid coordinate. -/
theorem inner : ∀ t : Fin cfg0.N, ((grid0.coords t) 1).val = t.val % 33 :=
  (by decide +kernel : ∀ t : Fin grid0.N, _)

variable (m : (ℓ : Loc nD τ sig) → Buf (Elt Ideal) ℓ) (c : Dev nD)

/-- The token that column `l` of the block at point `t` is. -/
def tok (t : Fin cfg0.N) (l : Fin 512) : Fin 32768 := ⟨t.val / 33 * 512 + l.val, by have : t.val < 2112 := t.isLt; omega⟩

/-- The kernel's arguments. -/
abbrev aX : S32768x2048.Idx → EReal := (m ((c : Thread nD τ).loc main_arg0) : Vec Ideal S32768x2048 .bf16)
abbrev aU : S16384x2048.Idx → EReal := (m ((c : Thread nD τ).loc main_arg1) : Vec Ideal S16384x2048 .f32)
abbrev aV : S16384x2048.Idx → EReal := (m ((c : Thread nD τ).loc main_arg2) : Vec Ideal S16384x2048 .f32)
abbrev aE : S8x128x32768.Idx → EReal := (m ((c : Thread nD τ).loc main_arg3) : Vec Ideal S8x128x32768 .bf16)
abbrev aF : S8x128x32768.Idx → EReal := (m ((c : Thread nD τ).loc main_arg4) : Vec Ideal S8x128x32768 .f32)
abbrev aT : S8x128x32768.Idx → EReal := (m ((c : Thread nD τ).loc main_arg5) : Vec Ideal S8x128x32768 .f32)

/-- An expert's activation at a token. -/
def act (e : Fin 16384) (n : Fin 32768) : EReal :=
  (∑ h : Fin 8, part (aE m c (ix3 h ⟨e.val % 128, by omega⟩ n)) (aT m c (ix3 h ⟨e.val / 128, by omega⟩ n)) (aF m c (ix3 h ⟨e.val / 128, by omega⟩ n)))
    * unit (∑ k : Fin 2048, aU m c (ix2 e k) * aX m c (ix2 n k))

/-- An expert's contribution to a column of a token. -/
def term (d : Fin 2048) (n : Fin 32768) (e : ℕ) : EReal := if h : e < 16384 then aV m c (ix2 ⟨e, h⟩ d) * act m c ⟨e, h⟩ n else 0

/-- The contributions of the experts of the first `j` blocks. -/
def total (j : ℕ) (d : Fin 2048) (n : Fin 32768) : EReal := ∑ e ∈ Finset.range (512 * j), term m c d n e

/-- The first weight as the kernel is given it: its blocks. -/
theorem flatU (b : Fin 32) (r : Fin 512) (k : Fin 2048) : (V m c main_v1 : Vec Ideal S32x512x2048 .bf16) (ix3 b r k)
    = aU m c (ix2 ⟨b.val * 512 + r.val, by omega⟩ k) := by
  entry_read
  pointwise

/-- The second, its blocks transposed. -/
theorem flatV (b : Fin 32) (k : Fin 2048) (r : Fin 512) : (V m c main_v4 : Vec Ideal S32x2048x512 .bf16) (ix3 b k r)
    = aV m c (ix2 ⟨b.val * 512 + r.val, by omega⟩ k) := by
  entry_read
  pointwise

theorem block0 (t : Fin cfg0.N) (r : Fin 512) (k : Fin 2048) : iblk m c 0 t (ix2 r k) = aX m c (ix2 (tok t r) k) := by
  blk_ext [iblk, V, idx t, tok]

theorem block1 (t : Fin cfg0.N) (r : Fin 512) (k : Fin 2048) : iblk m c 1 t (ix3 0 r k) = aU m c (ix2 ⟨min (t.val % 33) 31 * 512 + r.val, by omega⟩ k) := by
  refine Eq.trans ?_ (flatU m c ⟨min (t.val % 33) 31, by omega⟩ r k)
  blk_ext [iblk, idx t]

theorem block2 (t : Fin cfg0.N) (k : Fin 2048) (r : Fin 512) : iblk m c 2 t (ix3 0 k r) = aV m c (ix2 ⟨(t.val % 33 - 1) * 512 + r.val, by omega⟩ k) := by
  refine Eq.trans ?_ (flatV m c ⟨t.val % 33 - 1, by omega⟩ k r)
  blk_ext [iblk, idx t]

theorem block3 (t : Fin cfg0.N) (h : Fin 8) (a : Fin 128) (l : Fin 512) : iblk m c 3 t (ix3 h a l) = aE m c (ix3 h a (tok t l)) := by
  blk_ext [iblk, V, idx t, tok]

theorem block4 (t : Fin cfg0.N) (h : Fin 8) (a : Fin 128) (l : Fin 512) : iblk m c 4 t (ix3 h a l) = aF m c (ix3 h a (tok t l)) := by
  blk_ext [iblk, V, idx t, tok]

theorem block5 (t : Fin cfg0.N) (h : Fin 8) (a : Fin 128) (l : Fin 512) : iblk m c 5 t (ix3 h a l) = aT m c (ix3 h a (tok t l)) := by
  blk_ext [iblk, V, idx t, tok]

/-- A half block's gated activations, from blocks that are their tokens' and experts' part of the arrays. -/
theorem half_of (j J base o : ℕ) (ho : o ≤ 256) (h16 : base % 16 = 0) (h128 : o % 128 = 0) (hp : j < 32)
    (hJ : ∀ q < 2, min 127 (4 * J + (base / 16 + q) - 2) = 4 * j + o / 128 + q) (r : Fin 256) (l : Fin 512) (n : Fin 32768)
    (x : S512x2048.Idx → EReal) (u : S1x512x2048.Idx → EReal) (E f t : S8x128x512.Idx → EReal) (hx : ∀ k, x (ix2 l k) = aX m c (ix2 n k))
    (hu : ∀ (r : Fin 512) k, u (ix3 0 r k) = aU m c (ix2 ⟨j * 512 + r.val, by omega⟩ k)) (hE : ∀ h a, E (ix3 h a l) = aE m c (ix3 h a n))
    (hf : ∀ h a, f (ix3 h a l) = aF m c (ix3 h a n)) (ht : ∀ h a, t (ix3 h a l) = aT m c (ix3 h a n)) :
    gated base (staged J f t) E (scores o ho x u) (ix2 r l) = act m c ⟨j * 512 + (o + r.val), by omega⟩ n := by
  have hr := r.isLt
  have hq := hJ (r.val / 128) (by omega)
  unfold act
  show gate base (staged J f t) E r.val l * unit (∑ k : Fin 2048, u (ix3 0 ⟨o + r.val, _⟩ k) * x (ix2 l k)) = _
  simp only [hx, hu]
  congr 1
  unfold gate
  refine Finset.sum_congr rfl fun h _ => ?_
  have hh := h.isLt
  have e1 : staged J f t (base + 16 * (r.val / 128) + h.val) l = aT m c (ix3 h ⟨(j * 512 + (o + r.val)) / 128, by omega⟩ n) := by
    unfold staged
    rw [if_pos (by omega), ht]
    congr 2 <;> exact Fin.ext (by simp only; omega)
  have e2 : staged J f t (base + 16 * (r.val / 128) + 8 + h.val) l = aF m c (ix3 h ⟨(j * 512 + (o + r.val)) / 128, by omega⟩ n) := by
    unfold staged
    rw [if_neg (by omega), hf]
    congr 2 <;> exact Fin.ext (by simp only; omega)
  have e3 : (⟨r.val % 128, Nat.mod_lt _ (by decide)⟩ : Fin 128) = ⟨(j * 512 + (o + r.val)) % 128, Nat.mod_lt _ (by decide)⟩ := Fin.ext (by simp only; omega)
  rw [e1, e2, hE, e3]

/-- **A half block's gated activations are its experts' activations.** -/
theorem half (p t : Fin cfg0.N) (hpt : p.val / 33 = t.val / 33) (hp : p.val % 33 < 32) (base o : ℕ) (ho : o ≤ 256) (h16 : base % 16 = 0) (h128 : o % 128 = 0)
    (hJ : ∀ q < 2, min 127 (4 * (t.val % 33) + (base / 16 + q) - 2) = 4 * (p.val % 33) + o / 128 + q) (r : Fin 256) (l : Fin 512) :
    gated base (staged (t.val % 33) (iblk m c 4 t) (iblk m c 5 t)) (iblk m c 3 t) (scores o ho (iblk m c 0 p) (iblk m c 1 p)) (ix2 r l)
      = act m c ⟨p.val % 33 * 512 + (o + r.val), by omega⟩ (tok t l) := by
  have e1 : tok p l = tok t l := Fin.ext (by simp only [tok]; omega)
  have hu : ∀ (r : Fin 512) k, iblk m c 1 p (ix3 0 r k) = aU m c (ix2 ⟨p.val % 33 * 512 + r.val, by omega⟩ k) := fun r k => by
    rw [block1]
    refine congrArg (aU m c) (congrArg (ix2 · k) (Fin.ext ?_))
    simp only
    omega
  exact half_of m c (p.val % 33) (t.val % 33) base o ho h16 h128 hp hJ r l (tok t l) _ _ _ _ _ (fun k => (block0 m c p l k).trans (by rw [e1])) hu
    (fun h a => block3 m c t h a l) (fun h a => block4 m c t h a l) (fun h a => block5 m c t h a l)

/-- The point before. -/
def prev (t : Fin cfg0.N) : Fin cfg0.N := ⟨t.val - 1, lt_of_le_of_lt (Nat.sub_le _ _) t.isLt⟩

/-- A half block's contributions. -/
theorem part_sum (t : Fin cfg0.N) (h0 : ¬t.val % 33 = 0) (o : ℕ) (ho : o ≤ 256) (W : S256x512.Idx → EReal) (d : Fin 2048) (l : Fin 512)
    (v : S1x2048x512.Idx → EReal) (hv : v = iblk m c 2 t)
    (hW : ∀ r : Fin 256, W (ix2 r l) = act m c ⟨(prev t).val % 33 * 512 + (o + r.val), by simp only [prev]; omega⟩ (tok t l)) :
    ∑ k : Fin 256, v (ix3 0 d ⟨o + k.val, by omega⟩) * W (ix2 k l)
      = ∑ k ∈ Finset.range 256, term m c d (tok t l) (512 * (t.val % 33 - 1) + o + k) := by
  have hb : ∀ r : Fin 512, v (ix3 0 d r) = aV m c (ix2 ⟨(t.val % 33 - 1) * 512 + r.val, by omega⟩ d) := fun r => by
    rw [hv]
    exact block2 m c t d r
  rw [Finset.sum_range]
  refine Finset.sum_congr rfl fun k _ => ?_
  have hk := k.isLt
  have hp : (prev t).val % 33 = t.val % 33 - 1 := by simp only [prev]; omega
  rw [hW k, hb]
  unfold term
  rw [dif_pos (by omega)]
  have e1 : (⟨(t.val % 33 - 1) * 512 + (o + k.val), by omega⟩ : Fin 16384) = ⟨512 * (t.val % 33 - 1) + o + k.val, by omega⟩ := Fin.ext (by simp only; omega)
  have e2 : (⟨(prev t).val % 33 * 512 + (o + k.val), by omega⟩ : Fin 16384) = ⟨512 * (t.val % 33 - 1) + o + k.val, by omega⟩ := Fin.ext (by simp only [hp]; omega)
  rw [← e1, e2, ← e1]

/-- **A point's step adds the block before's contributions.** -/
theorem stepped (t : Fin cfg0.N) (h0 : ¬t.val % 33 = 0) (A : Vec Ideal S2048x512 .f32) (hA : ∀ d l, A (ix2 d l) = total m c (t.val % 33 - 1) d (tok t l))
    (d : Fin 2048) (l : Fin 512) :
    added 256 (by decide) (added 0 (by decide) A (iblk m c 2 t) (gated 32 (staged ((prev t).val % 33) (iblk m c 4 (prev t)) (iblk m c 5 (prev t)))
        (iblk m c 3 (prev t)) (scores 0 (by decide) (iblk m c 0 (prev t)) (iblk m c 1 (prev t))))) (iblk m c 2 t)
      (gated 0 (staged (t.val % 33) (iblk m c 4 t) (iblk m c 5 t)) (iblk m c 3 t) (scores 256 (by decide) (iblk m c 0 (prev t)) (iblk m c 1 (prev t)))) (ix2 d l)
      = total m c (t.val % 33) d (tok t l) := by
  have hp : (prev t).val % 33 = t.val % 33 - 1 := by simp only [prev]; omega
  have hd : (prev t).val / 33 = t.val / 33 := by simp only [prev]; omega
  have ht : tok (prev t) l = tok t l := Fin.ext (by simp only [tok, hd])
  have s0 := part_sum m c t h0 0 (by decide) _ d l _ rfl fun r => (half m c (prev t) (prev t) rfl (by omega) 32 0 (by decide) (by decide) (by decide)
    (fun q hq => by omega) r l).trans (by rw [ht])
  have s1 := part_sum m c t h0 256 (by decide) _ d l _ rfl fun r => half m c (prev t) t hd (by omega) 0 256 (by decide) (by decide) (by decide)
    (fun q hq => by omega) r l
  show A (ix2 d l) + _ + _ = _
  refine (congr (congrArg HAdd.hAdd (congr (congrArg HAdd.hAdd (hA d l)) s0)) s1).trans ?_
  unfold total
  obtain ⟨j, hj⟩ : ∃ j, t.val % 33 = j + 1 := ⟨t.val % 33 - 1, by omega⟩
  rw [hj, Nat.add_sub_cancel, show 512 * (j + 1) = (512 * j + 256) + 256 by ring, Finset.sum_range_add, Finset.sum_range_add]
  rfl

/-- A point that is not a block of tokens' last leaves the scores of its block's second half. -/
theorem next_at (t : Fin cfg0.N) (h1 : ¬t.val % 33 = 32) : (outsAt0 m c t.val t.isLt).2.2.2.1 = scores 256 (by decide) (iblk m c 0 t) (iblk m c 1 t) := by
  by_cases h0 : t.val % 33 = 0
  · rw [outsAt0_A m c t h0 h1]
    dsimp only
    apply next_A
  · rw [outsAt0_B m c t h0 h1]
    dsimp only
    apply next_B

/-- And the activations of its first half. -/
theorem waiting_at (t : Fin cfg0.N) (h1 : ¬t.val % 33 = 32) : (outsAt0 m c t.val t.isLt).2.2.2.2
    = gated 32 (staged (t.val % 33) (iblk m c 4 t) (iblk m c 5 t)) (iblk m c 3 t) (scores 0 (by decide) (iblk m c 0 t) (iblk m c 1 t)) := by
  rw [← inner t]
  by_cases h0 : t.val % 33 = 0
  · rw [outsAt0_A m c t h0 h1]
    dsimp only
    apply waiting_A
  · rw [outsAt0_B m c t h0 h1]
    dsimp only
    apply waiting_B

/-- A unit of zero is zero. -/
theorem unit_zero : unit 0 = 0 := by
  unfold unit
  show (_ * (0 : EReal)) * _ = 0
  rw [mul_zero, zero_mul]

/-- At a block of tokens' first point nothing is added to zero. -/
theorem start (t : Fin cfg0.N) (y : S2048x512.Idx) :
    added 256 (by decide) (added 0 (by decide) (k0_pay4 (F := Ideal)) (iblk m c 2 t) (k0_pay6 (F := Ideal))) (iblk m c 2 t)
      (gated 0 (staged (t.val % 33) (iblk m c 4 t) (iblk m c 5 t)) (iblk m c 3 t) (k0_pay5 (F := Ideal))) y = 0 := by
  have z4 : ∀ y, k0_pay4 (F := Ideal) y = (0 : EReal) := fun y => by pointwise [k0_pay4]
  have z5 : ∀ y, k0_pay5 (F := Ideal) y = (0 : EReal) := fun y => by pointwise [k0_pay5]
  have z6 : ∀ y, k0_pay6 (F := Ideal) y = (0 : EReal) := fun y => by pointwise [k0_pay6]
  unfold added gated
  simp only [z4, z5, z6, unit_zero, mul_zero, Finset.sum_const_zero, add_zero]

/-- **After every point but a block of tokens' last the accumulator holds the sum over the blocks of experts before.** -/
theorem acc_at : ∀ (n : ℕ) (hn : n < cfg0.N), ¬n % 33 = 32 → ∀ d l, (outsAt0 m c n hn).2.2.1 (ix2 d l) = total m c (n % 33) d (tok ⟨n, hn⟩ l) := by
  intro n
  induction n using Nat.strong_induction_on with
  | _ n ih =>
    intro hn h1 d l
    by_cases h0 : n % 33 = 0
    · rw [outsAt0_A m c ⟨n, hn⟩ h0 h1]
      dsimp only
      rw [acc_A, inner, h0]
      refine (congrFun (?_ : _ = fun _ => (0 : EReal)) _).trans ?_
      · funext y
        have := start m c ⟨n, hn⟩ y
        rwa [show (⟨n, hn⟩ : Fin cfg0.N).val % 33 = 0 from h0] at this
      · unfold total
        rw [Nat.mul_zero, Finset.sum_range_zero]
    · have hp1 : ¬(prev ⟨n, hn⟩).val % 33 = 32 := by simp only [prev]; omega
      have hA := ih (n - 1) (by omega) (prev ⟨n, hn⟩).isLt hp1
      have hN := next_at m c (prev ⟨n, hn⟩) hp1
      have hW := waiting_at m c (prev ⟨n, hn⟩) hp1
      rw [outsAt0_B m c ⟨n, hn⟩ h0 h1]
      dsimp only
      rw [acc_B, inner]
      refine Eq.trans ?_ (stepped m c ⟨n, hn⟩ h0 (outsAt0 m c (n - 1) (prev ⟨n, hn⟩).isLt).2.2.1 (fun d l => (hA d l).trans ?_) d l)
      · exact congrFun (congr (congrArg (fun W S => added 256 (by decide) (added 0 (by decide) (outsAt0 m c (n - 1) (prev ⟨n, hn⟩).isLt).2.2.1 (iblk m c 2 ⟨n, hn⟩) W) (iblk m c 2 ⟨n, hn⟩)
          (gated 0 (staged (n % 33) (iblk m c 4 ⟨n, hn⟩) (iblk m c 5 ⟨n, hn⟩)) (iblk m c 3 ⟨n, hn⟩) S)) hW) hN) (ix2 d l)
      · rw [show (n - 1) % 33 = (⟨n, hn⟩ : Fin cfg0.N).val % 33 - 1 by simp only; omega]
        congr 1
        exact Fin.ext (by simp only [tok]; omega)

/-- The accumulator as the last point of a block of tokens reads it back. -/
theorem whole_at (t : Fin cfg0.N) (h1 : t.val % 33 = 32) (d : Fin 2048) (l : Fin 512) :
    whole (grid0.coords t) (iblk m c 2 t) (iblk m c 3 t) (iblk m c 4 t) (iblk m c 5 t) (outsAt0 m c (prev t).val (prev t).isLt).2.2.1
      (outsAt0 m c (prev t).val (prev t).isLt).2.2.2.1 (outsAt0 m c (prev t).val (prev t).isLt).2.2.2.2 (ix2 d l) = total m c 32 d (tok t l) := by
  have h0 : ¬t.val % 33 = 0 := by omega
  have hp1 : ¬(prev t).val % 33 = 32 := by simp only [prev]; omega
  unfold whole
  rw [next_at m c _ hp1, waiting_at m c _ hp1, inner]
  refine (stepped m c t h0 _ (fun d l => (acc_at m c (prev t).val (prev t).isLt hp1 d l).trans ?_) d l).trans (by rw [h1])
  rw [show (prev t).val % 33 = t.val % 33 - 1 by simp only [prev]; omega]
  congr 1
  exact Fin.ext (by simp only [tok, prev]; omega)

end Cert.ExpertsIdeal.Sum

end
-- ==== Proof.ExpertNorm.lean ====
/- The expert products' residual and normalization: each block of 512 tokens is the whole array's. -/
module

public import proofs.«01_k».proof.Defs
public import proofs.«01_k».proof.Proof.ExpertSum
public import proofs.«01_k».proof.Proof.Gen.Experts.Frame
public import proofs.«01_k».proof.Proof.Gen.ExpertsRefIdeal.Run
public import proofs.«01_k».proof.Proof.Gen.ExpertsRefIdeal.Read
public import Idealize.ShloMosaic.Lib.Quiescent

@[expose] public section

set_option maxRecDepth 16384

noncomputable section

namespace Cert.ExpertsIdeal.Sum

open Cert.ExpertsIdeal Cert.ExpertsIdeal.Gen Cert.ExpertsIdeal.Tile Idealize.ShloMosaic Idealize.ShloMosaic.TcCoe Idealize.SL.Sem

variable (m : (ℓ : Loc nD τ sig) → Buf (Elt Ideal) ℓ) (c : Dev nD)

/-- The reference's normalized array, of the kernel's arguments. -/
abbrev normed := Cert.ExpertsRefIdeal.Read.val_main_v53 (F := Ideal) (m ((c : Thread nD τ).loc main_arg0)) (m ((c : Thread nD τ).loc main_arg1))
  (m ((c : Thread nD τ).loc main_arg2)) (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8))

/-- Its expert products. -/
abbrev products := Cert.ExpertsRefIdeal.Read.val_main_v28 (F := Ideal) (m ((c : Thread nD τ).loc main_arg0)) (m ((c : Thread nD τ).loc main_arg1))
  (m ((c : Thread nD τ).loc main_arg2)) (m ((c : Thread nD τ).loc main_arg3)) (m ((c : Thread nD τ).loc main_arg4)) (m ((c : Thread nD τ).loc main_arg5))

/-- Its activations. -/
abbrev acts := Cert.ExpertsRefIdeal.Read.val_main_v25 (F := Ideal) (m ((c : Thread nD τ).loc main_arg0)) (m ((c : Thread nD τ).loc main_arg1))
  (m ((c : Thread nD τ).loc main_arg3)) (m ((c : Thread nD τ).loc main_arg4)) (m ((c : Thread nD τ).loc main_arg5))

/-- A part of a gate, with the threshold applied to the product. -/
theorem part_eq (e t f : EReal) : part e t f = Scalar.select (FloatOps.cmpf (F := Ideal) (φ := .f32) .oge e t) (e * f) (Ideal.ofBits .f32 0x00000000#32) := by
  have z : Ideal.ofBits .bf16 0x0000#16 = 0 := by pointwise
  have z' : Ideal.ofBits .f32 0x00000000#32 = 0 := by pointwise
  unfold part
  rw [z, z']
  show Scalar.select (FloatOps.cmpf (F := Ideal) (φ := .f32) .oge e t) e 0 * f = _
  generalize FloatOps.cmpf (F := Ideal) (φ := .f32) .oge e t = b
  unfold Scalar.select
  split <;> simp

open Cert.ExpertsRefIdeal.Read in
/-- The reference's gate of an expert at a token. -/
theorem gate_reference (e : Fin 16384) (n : Fin 32768) :
    val_main_v23 (F := Ideal) (m ((c : Thread nD τ).loc main_arg3)) (m ((c : Thread nD τ).loc main_arg4)) (m ((c : Thread nD τ).loc main_arg5)) (ix2 e n)
      = ∑ h : Fin 8, part (aE m c (ix3 h ⟨e.val % 128, by omega⟩ n)) (aT m c (ix3 h ⟨e.val / 128, by omega⟩ n)) (aF m c (ix3 h ⟨e.val / 128, by omega⟩ n)) := by
  simp only [part_eq]
  pointwise [val_main_v23, val_main_v11, val_main_v10, val_main_call0_v1, val_main_call0_v0, val_main_v9, val_main_v8, val_main_v7, val_main_v6,
    val_main_v5, val_main_v4, val_main_v3, val_main_v2, val_main_v1, val_main_v0, val_main_cst, val_main_cst_0]
  have z : Ideal.ofBits .f32 0x00000000#32 = 0 := by pointwise
  exact Finset.sum_congr rfl fun x _ => congrArg (ite _ _) z

open Cert.ExpertsRefIdeal.Read in
/-- The reference's score of an expert at a token. -/
theorem score_reference (e : Fin 16384) (n : Fin 32768) :
    val_main_v14 (F := Ideal) (m ((c : Thread nD τ).loc main_arg0)) (m ((c : Thread nD τ).loc main_arg1)) (ix2 n e)
      = ∑ k : Fin 2048, aU m c (ix2 e k) * aX m c (ix2 n k) := by
  refine Eq.trans ?_ (Finset.sum_congr rfl fun k _ => mul_comm _ _)
  pointwise [val_main_v14, val_main_v13, val_main_v12]

open Cert.ExpertsRefIdeal.Read in
/-- The reference's activation of an expert at a token. -/
theorem acts_at (e : Fin 16384) (n : Fin 32768) : acts m c (ix2 n e) = act m c e n := by
  unfold act
  rw [← gate_reference m c e n, ← score_reference m c e n, mul_comm]
  pointwise [acts, val_main_v25, val_main_v24, val_main_v22, val_main_v21, val_main_v20, val_main_v19, val_main_v18, val_main_v17, val_main_v16,
    val_main_v15, val_main_cst_1, val_main_cst_2, val_main_cst_3, unit]
  rfl

open Cert.ExpertsRefIdeal.Read in
/-- **The sum over all blocks of experts is the reference's product.** -/
theorem total_eq (d : Fin 2048) (n : Fin 32768) : total m c 32 d n = products m c (ix2 n d) := by
  have hr : products m c (ix2 n d) = ∑ e : Fin 16384, acts m c (ix2 n e) * aV m c (ix2 e d) := by
    pointwise [products, acts, val_main_v28]
  rw [hr]
  unfold total
  rw [Finset.sum_range]
  refine Finset.sum_congr rfl fun e _ => ?_
  unfold term
  rw [dif_pos e.isLt, acts_at, mul_comm]

/-- The scale as the kernel is given it. -/
theorem flatG (k : Fin 2048) : (V m c main_v5 : Vec Ideal S1x2048 .f32) (ix2 0 k) = (m ((c : Thread nD τ).loc main_arg7) : Vec Ideal S2048 .f32) (ix1 k) := by
  entry_read
  pointwise

/-- And the shift. -/
theorem flatB (k : Fin 2048) : (V m c main_v6 : Vec Ideal S1x2048 .f32) (ix2 0 k) = (m ((c : Thread nD τ).loc main_arg8) : Vec Ideal S2048 .f32) (ix1 k) := by
  entry_read
  pointwise

theorem block6 (t : Fin cfg0.N) (r : Fin 512) (k : Fin 2048) :
    iblk m c 6 t (ix2 r k) = (m ((c : Thread nD τ).loc main_arg6) : Vec Ideal S32768x2048 .f32) (ix2 (tok t r) k) := by
  blk_ext [iblk, V, idx t, tok]

theorem block7 (t : Fin cfg0.N) (k : Fin 2048) : iblk m c 7 t (ix2 0 k) = (m ((c : Thread nD τ).loc main_arg7) : Vec Ideal S2048 .f32) (ix1 k) := by
  refine Eq.trans ?_ (flatG m c k)
  blk_ext [iblk, idx t]

theorem block8 (t : Fin cfg0.N) (k : Fin 2048) : iblk m c 8 t (ix2 0 k) = (m ((c : Thread nD τ).loc main_arg8) : Vec Ideal S2048 .f32) (ix1 k) := by
  refine Eq.trans ?_ (flatB m c k)
  blk_ext [iblk, idx t]

open Cert.ExpertsRefIdeal.Read in
/-- A block's residual and normalization, from blocks that are their part of the arrays. -/
theorem layer (x : Vec Ideal S512x2048 .f32) (A : Vec Ideal S2048x512 .f32) (g b : Vec Ideal S1x2048 .f32) (r : Fin 512) (n : Fin 32768)
    (hx : ∀ k, x (ix2 r k) = (m ((c : Thread nD τ).loc main_arg6) : Vec Ideal S32768x2048 .f32) (ix2 n k)) (hA : ∀ k, A (ix2 k r) = products m c (ix2 n k))
    (hg : ∀ k, g (ix2 0 k) = (m ((c : Thread nD τ).loc main_arg7) : Vec Ideal S2048 .f32) (ix1 k))
    (hb : ∀ k, b (ix2 0 k) = (m ((c : Thread nD τ).loc main_arg8) : Vec Ideal S2048 .f32) (ix1 k)) (k : Fin 2048) :
    k0_pay2 (F := Ideal) x A g b (ix2 r k) = normed m c (ix2 n k) := by
  pointwise [k0_pay2, normed, val_main_v53, val_main_v52, val_main_v51, val_main_v50, val_main_v49, val_main_v48, val_main_v47, val_main_v46,
    val_main_v45, val_main_v44, val_main_v43, val_main_v42, val_main_v41, val_main_v40, val_main_v39, val_main_v38, val_main_v37, val_main_v36,
    val_main_v35, val_main_v34, val_main_v33, val_main_v32, val_main_v31, val_main_v30, val_main_v29, val_main_v27, val_main_v26,
    val_main_cst_4, val_main_cst_5, val_main_cst_6, val_main_cst_7, val_main_cst_8, val_main_cst_9, hx, hA, hg, hb]

/-- What the last point of a block of tokens stores. -/
theorem stored (t : Fin cfg0.N) (h1 : t.val % 33 = 32) (y : S512x2048.Idx) :
    k0_pay2 (F := Ideal) (iblk m c 6 t) (whole (grid0.coords t) (iblk m c 2 t) (iblk m c 3 t) (iblk m c 4 t) (iblk m c 5 t) (outsAt0 m c (prev t).val (prev t).isLt).2.2.1
      (outsAt0 m c (prev t).val (prev t).isLt).2.2.2.1 (outsAt0 m c (prev t).val (prev t).isLt).2.2.2.2) (iblk m c 7 t) (iblk m c 8 t) y
      = normed m c (ix2 (tok t (y 0)) (y 1)) :=
  (congrArg _ (ix2_eta y).symm).trans (layer m c _ _ _ _ (y 0) (tok t (y 0)) (block6 m c t (y 0))
    (fun k => (whole_at m c t h1 k (y 0)).trans (total_eq m c k _)) (block7 m c t) (block8 m c t) (y 1))

/-- Where that block lies in the first result array. -/
theorem place9 (t : Fin cfg0.N) (y : S512x2048.Idx) : (win0_9.blk t).view.emb y = ix2 (tok t (y 0)) (y 1) := by
  funext a
  refine Fin.ext ?_
  fin_cases a <;> (blk_simp [idx t, tok]; rfl)

/-- Where it lies in the second. -/
theorem place10 (t : Fin cfg0.N) (y : S512x2048.Idx) : (win0_10.blk t).view.emb y = ix2 (tok t (y 0)) (y 1) := by
  funext a
  refine Fin.ext ?_
  fin_cases a <;> (blk_simp [idx t, tok]; rfl)

end Cert.ExpertsIdeal.Sum

end
-- ==== Proof.ExpertClaims.lean ====
/- The claims of the call that computes the expert products. -/
module

public import proofs.«01_k».proof.Defs
public import proofs.«01_k».proof.Proof.ExpertNorm
public import proofs.«01_k».proof.Proof.Gen.Experts.Frame
public import proofs.«01_k».proof.Proof.Gen.ExpertsRefIdeal.Run
public import proofs.«01_k».proof.Proof.Gen.ExpertsRefIdeal.Read
public import Idealize.ShloMosaic.Lib.Quiescent

@[expose] public section

set_option maxRecDepth 16384

noncomputable section

namespace Cert.ExpertsIdeal.Sum

open Cert.ExpertsIdeal Cert.ExpertsIdeal.Gen Cert.ExpertsIdeal.Tile Idealize.ShloMosaic Idealize.ShloMosaic.TcCoe Idealize.SL.Sem

variable (m : (ℓ : Loc nD τ sig) → Buf (Elt Ideal) ℓ) (c : Dev nD)

/-- The first result array is the reference's. -/
theorem final9 : (dats m 0 c).arrAt 9 cfg0.N = normed m c := by
  refine (dats m 0 c).arrAt_eq_of_covers 9 _ (by decide +kernel) fun t hf y => ?_
  have h1 := (flush0_9 t).mp hf
  blk_simp
  rw [after0_9, outsAt0_C m c t (by omega) h1]
  dsimp only
  rw [result_C]
  exact (stored m c t h1 y).trans (congrArg (normed m c) (place9 t y).symm)

/-- The second is the same numbers. -/
theorem final10 : (dats m 0 c).arrAt 10 cfg0.N = normed m c := by
  refine (dats m 0 c).arrAt_eq_of_covers 10 _ (by decide +kernel) fun t hf y => ?_
  have h1 := (flush0_10 t).mp hf
  blk_simp
  rw [after0_10, outsAt0_C m c t (by omega) h1]
  dsimp only
  rw [rounded_C]
  exact (stored m c t h1 y).trans (congrArg (normed m c) (place10 t y).symm)

/-- The idealized kernel's run: its results' arrays, and its arguments as they were. -/
theorem run_blocks (ρ : Dev nD → PrngReg) : θ_run (defs (F := Ideal)) (onTc (τ := τ) (main (F := Ideal))) ⟨m, fun _ => 0, ρ⟩ fun r => ∀ c : Dev nD,
      r.2.mem ((c : Thread nD τ).loc main_v7_0) = (dats m 0 c).arrAt 9 cfg0.N
      ∧ r.2.mem ((c : Thread nD τ).loc main_v7_1) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1 9,
      (h c).1 10,
      (((h c).1 0).trans (((dats m 0 c).arrAt_in 0 rfl _).trans ((A_eq m c 0).trans (V_main_arg0 m c)))),
      (((h c).2 main_arg1 (Pipeline.mem_restRefs_of main_arg1 (by decide) (by decide))).trans (V_main_arg1 m c)),
      (((h c).2 main_arg2 (Pipeline.mem_restRefs_of main_arg2 (by decide) (by decide))).trans (V_main_arg2 m c)),
      (((h c).1 3).trans (((dats m 0 c).arrAt_in 3 rfl _).trans ((A_eq m c 3).trans (V_main_arg3 m c)))),
      (((h c).1 4).trans (((dats m 0 c).arrAt_in 4 rfl _).trans ((A_eq m c 4).trans (V_main_arg4 m c)))),
      (((h c).1 5).trans (((dats m 0 c).arrAt_in 5 rfl _).trans ((A_eq m c 5).trans (V_main_arg5 m c)))),
      (((h c).1 6).trans (((dats m 0 c).arrAt_in 6 rfl _).trans ((A_eq m c 6).trans (V_main_arg6 m c)))),
      (((h c).2 main_arg7 (Pipeline.mem_restRefs_of main_arg7 (by decide) (by decide))).trans (V_main_arg7 m c)),
      (((h c).2 main_arg8 (Pipeline.mem_restRefs_of main_arg8 (by decide) (by decide))).trans (V_main_arg8 m c))⟩)
    (run_main m ρ)

/-- The printed kernel runs and keeps its arguments. -/
theorem frame : quiescent_Experts (hExperts := Cert.Experts.Gen.facts) := fun m g _ => Cert.Experts.Gen.frame m g

/-- So does the idealized kernel. -/
theorem frame_ideal : quiescent_ExpertsIdeal (hExpertsIdeal := Cert.ExpertsIdeal.Gen.facts) := fun m g _ => Cert.ExpertsIdeal.Gen.frame m g

/-- So does the reference, which declares no semaphore. -/
theorem frame_reference : quiescent_ExpertsRefIdeal (hExpertsRefIdeal := Cert.ExpertsRefIdeal.Gen.facts) := fun m g _ =>
  (θ_run Cert.ExpertsRefIdeal.defs _ _).mono (fun r h => ⟨fun c => (h c).2.2, sem_eq_zero_of_no_sems (by decide) r.2⟩)
    (Cert.ExpertsRefIdeal.Value.run m g)

/-- **The kernel computes the reference's normalized array, both results.** -/
theorem algebraic : algebraic_ExpertsIdeal_ExpertsRefIdeal (hExpertsIdeal := Cert.ExpertsIdeal.Gen.facts) (hExpertsRefIdeal := Cert.ExpertsRefIdeal.Gen.facts) := by
  intro m g m' g' _ hm
  refine ⟨fun c => (dats m 0 c).arrAt 9 cfg0.N, fun c => (dats m 0 c).arrAt 10 cfg0.N, run_blocks m g, ?_⟩
  refine (θ_run _ _ _).mono (fun r h c => ⟨(h c).1.trans ?_, (h c).2.1.trans ?_, (h c).2.2⟩) (Cert.ExpertsRefIdeal.Value.run m' g')
  · rw [Cert.ExpertsRefIdeal.Read.val_main_v53_eq, (hm c).1, (hm c).2.1, (hm c).2.2.1, (hm c).2.2.2.1, (hm c).2.2.2.2.1, (hm c).2.2.2.2.2.1, (hm c).2.2.2.2.2.2.1, (hm c).2.2.2.2.2.2.2.1, (hm c).2.2.2.2.2.2.2.2]
    exact (final9 m c).symm
  · rw [Cert.ExpertsRefIdeal.Read.val_main_v54_eq, (hm c).1, (hm c).2.1, (hm c).2.2.1, (hm c).2.2.2.1, (hm c).2.2.2.2.1, (hm c).2.2.2.2.2.1, (hm c).2.2.2.2.2.2.1, (hm c).2.2.2.2.2.2.2.1, (hm c).2.2.2.2.2.2.2.2]
    exact (final10 m c).symm

end Cert.ExpertsIdeal.Sum

end
-- ==== Proof.lean ====
/- The claims about the nine calls: the frames, the named mask constant, and the equalities with the references. -/
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Pre_finite_operands
public import proofs.«01_k».proof.Proof.Gen.AttnIdeal.Value
public import proofs.«01_k».proof.Proof.Gen.AttnRefIdeal.Run
public import proofs.«01_k».proof.Proof.Gen.AttnRefIdeal.Read
public import proofs.«01_k».proof.Proof.Attention
public import proofs.«01_k».proof.Proof.Qkv
public import proofs.«01_k».proof.Proof.Query
public import proofs.«01_k».proof.Proof.SsmIn
public import proofs.«01_k».proof.Proof.Out
public import proofs.«01_k».proof.Proof.Gate
public import proofs.«01_k».proof.Proof.Glu
public import proofs.«01_k».proof.Proof.PoolMixer
public import proofs.«01_k».proof.Proof.ExpertClaims
public import proofs.«01_k».proof.Proof.Gen.Qkv.Frame
public import proofs.«01_k».proof.Proof.Gen.QkvIdeal.Frame
public import proofs.«01_k».proof.Proof.Gen.QkvIdeal.Value
public import proofs.«01_k».proof.Proof.Gen.QkvRefIdeal.Run
public import proofs.«01_k».proof.Proof.Gen.QkvRefIdeal.Read
public import proofs.«01_k».proof.Proof.Gen.Query.Frame
public import proofs.«01_k».proof.Proof.Gen.QueryIdeal.Frame
public import proofs.«01_k».proof.Proof.Gen.QueryIdeal.Value
public import proofs.«01_k».proof.Proof.Gen.QueryRefIdeal.Run
public import proofs.«01_k».proof.Proof.Gen.QueryRefIdeal.Read
public import proofs.«01_k».proof.Proof.Gen.SsmIn.Frame
public import proofs.«01_k».proof.Proof.Gen.SsmInIdeal.Frame
public import proofs.«01_k».proof.Proof.Gen.SsmInIdeal.Value
public import proofs.«01_k».proof.Proof.Gen.SsmInRefIdeal.Run
public import proofs.«01_k».proof.Proof.Gen.SsmInRefIdeal.Read
public import proofs.«01_k».proof.Proof.Gen.Out.Frame
public import proofs.«01_k».proof.Proof.Gen.OutIdeal.Frame
public import proofs.«01_k».proof.Proof.Gen.OutIdeal.Value
public import proofs.«01_k».proof.Proof.Gen.OutRefIdeal.Run
public import proofs.«01_k».proof.Proof.Gen.OutRefIdeal.Read
public import proofs.«01_k».proof.Proof.Gen.Gate.Frame
public import proofs.«01_k».proof.Proof.Gen.GateIdeal.Frame
public import proofs.«01_k».proof.Proof.Gen.GateIdeal.Value
public import proofs.«01_k».proof.Proof.Gen.GateRefIdeal.Run
public import proofs.«01_k».proof.Proof.Gen.GateRefIdeal.Read
public import proofs.«01_k».proof.Proof.Gen.Glu.Frame
public import proofs.«01_k».proof.Proof.Gen.GluIdeal.Frame
public import proofs.«01_k».proof.Proof.Gen.GluIdeal.Value
public import proofs.«01_k».proof.Proof.Gen.GluRefIdeal.Run
public import proofs.«01_k».proof.Proof.Gen.GluRefIdeal.Read
public import proofs.«01_k».proof.Proof.Gen.Pool.Frame
public import proofs.«01_k».proof.Proof.Gen.PoolIdeal.Frame
public import proofs.«01_k».proof.Proof.Gen.PoolIdeal.Value
public import proofs.«01_k».proof.Proof.Gen.PoolRefIdeal.Run
public import proofs.«01_k».proof.Proof.Gen.PoolRefIdeal.Read
public import proofs.«01_k».proof.Proof.Gen.Experts.Frame
public import proofs.«01_k».proof.Proof.Gen.ExpertsIdeal.Frame
public import proofs.«01_k».proof.Proof.Gen.ExpertsRefIdeal.Run
public import proofs.«01_k».proof.Proof.Gen.ExpertsRefIdeal.Read
public import proofs.«01_k».proof.Proof.Gen.Pre_finite_pool
public import Idealize.ShloMosaic.Adequacy
public import Idealize.ShloMosaic.Init

@[expose] public section

noncomputable section

namespace Cert.Proof

open Idealize.ShloMosaic Idealize.SL.Sem

/-- Every claim of the certificate. -/
theorem claim : Cert.Claim := ⟨Cert.Attn.Gen.facts, Cert.AttnIdeal.Gen.facts, Cert.AttnRefIdeal.Gen.facts,
  Cert.Qkv.Gen.facts, Cert.QkvIdeal.Gen.facts, Cert.QkvRefIdeal.Gen.facts,
  Cert.Query.Gen.facts, Cert.QueryIdeal.Gen.facts, Cert.QueryRefIdeal.Gen.facts,
  Cert.SsmIn.Gen.facts, Cert.SsmInIdeal.Gen.facts, Cert.SsmInRefIdeal.Gen.facts,
  Cert.Out.Gen.facts, Cert.OutIdeal.Gen.facts, Cert.OutRefIdeal.Gen.facts,
  Cert.Gate.Gen.facts, Cert.GateIdeal.Gen.facts, Cert.GateRefIdeal.Gen.facts,
  Cert.Glu.Gen.facts, Cert.GluIdeal.Gen.facts, Cert.GluRefIdeal.Gen.facts,
  Cert.Pool.Gen.facts, Cert.PoolIdeal.Gen.facts, Cert.PoolRefIdeal.Gen.facts,
  Cert.Experts.Gen.facts, Cert.ExpertsIdeal.Gen.facts, Cert.ExpertsRefIdeal.Gen.facts,
  Cert.Pre_finite_operands.Gen.facts, Cert.Pre_finite_pool.Gen.facts,
  Cert.Attention.frame, Cert.Attention.frame_ideal, Cert.Attention.frame_ideal_finite, Cert.Attention.frame_reference, Cert.Attention.frame_reference_finite,
  Cert.QkvIdeal.Product.frame, Cert.QkvIdeal.Product.frame_ideal, Cert.QkvIdeal.Product.frame_reference,
  Cert.QueryIdeal.Product.frame, Cert.QueryIdeal.Product.frame_ideal, Cert.QueryIdeal.Product.frame_reference,
  Cert.SsmInIdeal.Product.frame, Cert.SsmInIdeal.Product.frame_ideal, Cert.SsmInIdeal.Product.frame_reference,
  Cert.OutIdeal.Normed.frame, Cert.OutIdeal.Normed.frame_ideal, Cert.OutIdeal.Normed.frame_reference,
  Cert.GateIdeal.Embedded.frame, Cert.GateIdeal.Embedded.frame_ideal, Cert.GateIdeal.Embedded.frame_reference,
  Cert.GluIdeal.Gated.frame, Cert.GluIdeal.Gated.frame_ideal, Cert.GluIdeal.Gated.frame_reference,
  Cert.PoolMixer.frame, Cert.PoolMixer.frame_ideal, Cert.PoolMixer.frame_ideal_finite, Cert.PoolMixer.frame_reference, Cert.PoolMixer.frame_reference_finite,
  Cert.ExpertsIdeal.Sum.frame, Cert.ExpertsIdeal.Sum.frame_ideal, Cert.ExpertsIdeal.Sum.frame_reference,
  Cert.Attention.preserves, Cert.Attention.algebraic,
  trivial, Cert.QkvIdeal.Product.algebraic,
  trivial, Cert.QueryIdeal.Product.algebraic,
  trivial, Cert.SsmInIdeal.Product.algebraic,
  trivial, Cert.OutIdeal.Normed.algebraic,
  trivial, Cert.GateIdeal.Embedded.algebraic,
  trivial, Cert.GluIdeal.Gated.algebraic,
  trivial, Cert.PoolMixer.algebraic,
  trivial, Cert.ExpertsIdeal.Sum.algebraic⟩

end Cert.Proof

end
